-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_untied_block [hPre_untied_block : Cert.Pre_untied_block.Facts] (m : (ℓ : Loc Cert.KernelIdeal.nD Cert.KernelIdeal.τ Cert.KernelIdeal.sig) → Buf (Elt Ideal) ℓ) : Prop :=
  ∀ c : Dev Cert.KernelIdeal.nD,
    (Cert.Pre_untied_block.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_RefIdeal (m : (ℓ : Loc Cert.RefIdeal.nD Cert.RefIdeal.τ Cert.RefIdeal.sig) → Buf (Elt Ideal) ℓ) : Prop :=
  True

def Pre_RefIdeal_untied_block [hPre_untied_block : Cert.Pre_untied_block.Facts] (m : (ℓ : Loc Cert.RefIdeal.nD Cert.RefIdeal.τ Cert.RefIdeal.sig) → Buf (Elt Ideal) ℓ) : Prop :=
  ∀ c : Dev Cert.RefIdeal.nD,
    (Cert.Pre_untied_block.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6)) (m ((c.tc : Thread Cert.RefIdeal.nD Cert.RefIdeal.τ).loc Cert.RefIdeal.main_arg7)) (m ((c.tc : Thread Cert.RefIdeal.nD Cert.RefIdeal.τ).loc Cert.RefIdeal.main_arg8)) (m ((c.tc : Thread Cert.RefIdeal.nD Cert.RefIdeal.τ).loc Cert.RefIdeal.main_arg9))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_untied [hPre_untied : Cert.Pre_untied.Facts] (m : (ℓ : Loc Cert.RouterIdeal.nD Cert.RouterIdeal.τ Cert.RouterIdeal.sig) → Buf (Elt Ideal) ℓ) : Prop :=
  ∀ c : Dev Cert.RouterIdeal.nD,
    (Cert.Pre_untied.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_untied [hPre_untied : Cert.Pre_untied.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_untied.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_untied_block [hKernelIdeal : Cert.KernelIdeal.Facts] [hPre_untied_block : Cert.Pre_untied_block.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_untied_block m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9))
      ∧ r.2.sem = fun _ => 0)

def quiescent_RefIdeal_pre_untied_block [hRefIdeal : Cert.RefIdeal.Facts] [hPre_untied_block : Cert.Pre_untied_block.Facts] : Prop :=
  ∀ (m : (ℓ : Loc Cert.RefIdeal.nD Cert.RefIdeal.τ Cert.RefIdeal.sig) → Buf (Elt Ideal) ℓ) (g : Dev Cert.RefIdeal.nD → PrngReg), Pre_RefIdeal_untied_block m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ r.2.sem = fun _ => 0)

def quiescent_RouterIdeal_pre_untied [hRouterIdeal : Cert.RouterIdeal.Facts] [hPre_untied : Cert.Pre_untied.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_untied m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4))
      ∧ r.2.sem = fun _ => 0)

def quiescent_RouterRefIdeal_pre_untied [hRouterRefIdeal : Cert.RouterRefIdeal.Facts] [hPre_untied : Cert.Pre_untied.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_untied m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def preserves_Kernel_KernelIdeal : Prop :=
  IdealRules.named_const.Statement Cert.KernelIdeal.κ "scale" .f32 0x3E38AA3B#32 (((Real.log 2)⁻¹ * (Real.sqrt 64)⁻¹ : ℝ) : EReal)
  ∧ IdealRules.named_const.Statement Cert.KernelIdeal.κ "inv_ln2" .f32 0x3FB8AA3B#32 (((Real.log 2)⁻¹ : ℝ) : EReal)
  ∧ IdealRules.named_const.Statement Cert.KernelIdeal.κ "mask" .f32 0xF149F2CA#32 ⊥

def algebraic_KernelIdeal_RefIdeal_pre_untied_block [hKernelIdeal : Cert.KernelIdeal.Facts] [hRefIdeal : Cert.RefIdeal.Facts] [hPre_untied_block : Cert.Pre_untied_block.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal_untied_block m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)
      ∧ m' ((c.tc : Thread Cert.RefIdeal.nD Cert.RefIdeal.τ).loc Cert.RefIdeal.main_arg8) = m ((c.tc : Thread Cert.KernelIdeal.nD Cert.KernelIdeal.τ).loc Cert.KernelIdeal.main_arg8)
      ∧ m' ((c.tc : Thread Cert.RefIdeal.nD Cert.RefIdeal.τ).loc Cert.RefIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v118) = v0 c
          ∧ r.2.mem ((c.tc : Thread Cert.RefIdeal.nD Cert.RefIdeal.τ).loc Cert.RefIdeal.main_v116) = v1 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7)
          ∧ r.2.mem ((c.tc : Thread Cert.RefIdeal.nD Cert.RefIdeal.τ).loc Cert.RefIdeal.main_arg8) = m' ((c.tc : Thread Cert.RefIdeal.nD Cert.RefIdeal.τ).loc Cert.RefIdeal.main_arg8)
          ∧ r.2.mem ((c.tc : Thread Cert.RefIdeal.nD Cert.RefIdeal.τ).loc Cert.RefIdeal.main_arg9) = m' ((c.tc : Thread Cert.RefIdeal.nD Cert.RefIdeal.τ).loc Cert.RefIdeal.main_arg9))

def preserves_Qkv_QkvIdeal : Prop :=
  IdealRules.named_const.Statement Cert.QkvIdeal.κ "scale" .f32 0x3E38AA3B#32 (((Real.log 2)⁻¹ * (Real.sqrt 64)⁻¹ : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v19) = v0 c
          ∧ r.2.mem ((c.tc : Thread Cert.QkvRefIdeal.nD Cert.QkvRefIdeal.τ).loc Cert.QkvRefIdeal.main_v20) = v1 c
          ∧ r.2.mem ((c.tc : Thread Cert.QkvRefIdeal.nD Cert.QkvRefIdeal.τ).loc Cert.QkvRefIdeal.main_v22) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_Router_RouterIdeal : Prop :=
  IdealRules.named_const.Statement Cert.RouterIdeal.κ "mask" .f32 0xF149F2CA#32 ⊥

def algebraic_RouterIdeal_RouterRefIdeal_pre_untied [hRouterIdeal : Cert.RouterIdeal.Facts] [hRouterRefIdeal : Cert.RouterRefIdeal.Facts] [hPre_untied : Cert.Pre_untied.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_untied m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)) →
    ∃ (v0 : (c : Dev Cert.RouterIdeal.nD) → Buf (Elt Ideal) ((c.tc : Thread Cert.RouterIdeal.nD Cert.RouterIdeal.τ).loc Cert.RouterIdeal.main_v3_0)) (v1 : (c : Dev Cert.RouterIdeal.nD) → Buf (Elt Ideal) ((c.tc : Thread Cert.RouterIdeal.nD Cert.RouterIdeal.τ).loc Cert.RouterIdeal.main_v3_1)) (v2 : (c : Dev Cert.RouterIdeal.nD) → Buf (Elt Ideal) ((c.tc : Thread Cert.RouterIdeal.nD Cert.RouterIdeal.τ).loc Cert.RouterIdeal.main_v4)) (v3 : (c : Dev Cert.RouterIdeal.nD) → Buf (Elt Ideal) ((c.tc : Thread Cert.RouterIdeal.nD Cert.RouterIdeal.τ).loc Cert.RouterIdeal.main_v3_3)) (v4 : (c : Dev Cert.RouterIdeal.nD) → Buf (Elt Ideal) ((c.tc : Thread Cert.RouterIdeal.nD Cert.RouterIdeal.τ).loc Cert.RouterIdeal.main_v3_4)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v3_0) = v0 c
          ∧ r.2.mem ((c.tc : Thread Cert.RouterIdeal.nD Cert.RouterIdeal.τ).loc Cert.RouterIdeal.main_v3_1) = v1 c
          ∧ r.2.mem ((c.tc : Thread Cert.RouterIdeal.nD Cert.RouterIdeal.τ).loc Cert.RouterIdeal.main_v4) = v2 c
          ∧ r.2.mem ((c.tc : Thread Cert.RouterIdeal.nD Cert.RouterIdeal.τ).loc Cert.RouterIdeal.main_v3_3) = v3 c
          ∧ r.2.mem ((c.tc : Thread Cert.RouterIdeal.nD Cert.RouterIdeal.τ).loc Cert.RouterIdeal.main_v3_4) = v4 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v1) = v0 c
          ∧ r.2.mem ((c.tc : Thread Cert.RouterRefIdeal.nD Cert.RouterRefIdeal.τ).loc Cert.RouterRefIdeal.main_v49) = v1 c
          ∧ r.2.mem ((c.tc : Thread Cert.RouterRefIdeal.nD Cert.RouterRefIdeal.τ).loc Cert.RouterRefIdeal.main_v41) = v2 c
          ∧ r.2.mem ((c.tc : Thread Cert.RouterRefIdeal.nD Cert.RouterRefIdeal.τ).loc Cert.RouterRefIdeal.main_v45) = v3 c
          ∧ r.2.mem ((c.tc : Thread Cert.RouterRefIdeal.nD Cert.RouterRefIdeal.τ).loc Cert.RouterRefIdeal.main_v48) = v4 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v5_0)) (v1 : (c : Dev Cert.MoeIdeal.nD) → Buf (Elt Ideal) ((c.tc : Thread Cert.MoeIdeal.nD Cert.MoeIdeal.τ).loc Cert.MoeIdeal.main_v5_1)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v5_0) = v0 c
          ∧ r.2.mem ((c.tc : Thread Cert.MoeIdeal.nD Cert.MoeIdeal.τ).loc Cert.MoeIdeal.main_v5_1) = v1 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v17) = v0 c
          ∧ r.2.mem ((c.tc : Thread Cert.MoeRefIdeal.nD Cert.MoeRefIdeal.τ).loc Cert.MoeRefIdeal.main_v18) = v1 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def Claim : Prop :=
  ∃ (hKernel : Cert.Kernel.Facts) (hKernelIdeal : Cert.KernelIdeal.Facts) (hRefIdeal : Cert.RefIdeal.Facts) (hQkv : Cert.Qkv.Facts) (hQkvIdeal : Cert.QkvIdeal.Facts) (hQkvRefIdeal : Cert.QkvRefIdeal.Facts) (hRouter : Cert.Router.Facts) (hRouterIdeal : Cert.RouterIdeal.Facts) (hRouterRefIdeal : Cert.RouterRefIdeal.Facts) (hMoe : Cert.Moe.Facts) (hMoeIdeal : Cert.MoeIdeal.Facts) (hMoeRefIdeal : Cert.MoeRefIdeal.Facts) (hPre_untied_block : Cert.Pre_untied_block.Facts) (hPre_untied : Cert.Pre_untied.Facts),
    quiescent_Kernel (hKernel := hKernel)
    ∧ quiescent_KernelIdeal (hKernelIdeal := hKernelIdeal)
    ∧ quiescent_KernelIdeal_pre_untied_block (hKernelIdeal := hKernelIdeal) (hPre_untied_block := hPre_untied_block)
    ∧ quiescent_RefIdeal (hRefIdeal := hRefIdeal)
    ∧ quiescent_RefIdeal_pre_untied_block (hRefIdeal := hRefIdeal) (hPre_untied_block := hPre_untied_block)
    ∧ quiescent_Qkv (hQkv := hQkv)
    ∧ quiescent_QkvIdeal (hQkvIdeal := hQkvIdeal)
    ∧ quiescent_QkvRefIdeal (hQkvRefIdeal := hQkvRefIdeal)
    ∧ quiescent_Router (hRouter := hRouter)
    ∧ quiescent_RouterIdeal (hRouterIdeal := hRouterIdeal)
    ∧ quiescent_RouterIdeal_pre_untied (hRouterIdeal := hRouterIdeal) (hPre_untied := hPre_untied)
    ∧ quiescent_RouterRefIdeal (hRouterRefIdeal := hRouterRefIdeal)
    ∧ quiescent_RouterRefIdeal_pre_untied (hRouterRefIdeal := hRouterRefIdeal) (hPre_untied := hPre_untied)
    ∧ quiescent_Moe (hMoe := hMoe)
    ∧ quiescent_MoeIdeal (hMoeIdeal := hMoeIdeal)
    ∧ quiescent_MoeRefIdeal (hMoeRefIdeal := hMoeRefIdeal)
    ∧ preserves_Kernel_KernelIdeal
    ∧ algebraic_KernelIdeal_RefIdeal_pre_untied_block (hKernelIdeal := hKernelIdeal) (hRefIdeal := hRefIdeal) (hPre_untied_block := hPre_untied_block)
    ∧ preserves_Qkv_QkvIdeal
    ∧ algebraic_QkvIdeal_QkvRefIdeal (hQkvIdeal := hQkvIdeal) (hQkvRefIdeal := hQkvRefIdeal)
    ∧ preserves_Router_RouterIdeal
    ∧ algebraic_RouterIdeal_RouterRefIdeal_pre_untied (hRouterIdeal := hRouterIdeal) (hRouterRefIdeal := hRouterRefIdeal) (hPre_untied := hPre_untied)
    ∧ preserves_Moe_MoeIdeal
    ∧ algebraic_MoeIdeal_MoeRefIdeal (hMoeIdeal := hMoeIdeal) (hMoeRefIdeal := hMoeRefIdeal)
-- ==== Pre_untied.lean ====
abbrev S2048x1024 : Shape := ⟨2, ![2048, 1024]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x8 : Shape := ⟨2, ![2048, 8]⟩
abbrev S2048x8x1 : Shape := ⟨3, ![2048, 8, 1]⟩
abbrev S2048x1x8 : Shape := ⟨3, ![2048, 1, 8]⟩
abbrev S2048x8x8 : Shape := ⟨3, ![2048, 8, 8]⟩

class Facts : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  reducesTo_S2048x8_S2048_d1 : S2048x8.ReducesTo [1] S2048
  bcast_S_S2048 : S_.BroadcastsInDim S2048 (![] : Fin 0 → Fin S2048.rank)
  bcast_S2048x1_S2048x8_0_1 : S2048x1.BroadcastsInDim S2048x8 (![0, 1] : Fin 2 → Fin S2048x8.rank)
  bcast_S2048x8_S2048x8x1_0_1 : S2048x8.BroadcastsInDim S2048x8x1 (![0, 1] : Fin 2 → Fin S2048x8x1.rank)
  bcast_S2048x8_S2048x1x8_0_2 : S2048x8.BroadcastsInDim S2048x1x8 (![0, 2] : Fin 2 → Fin S2048x1x8.rank)
  bcast_S2048x1x8_S2048x8x8_0_1_2 : S2048x1x8.BroadcastsInDim S2048x8x8 (![0, 1, 2] : Fin 3 → Fin S2048x8x8.rank)
  bcast_S2048x8x1_S2048x8x8_0_1_2 : S2048x8x1.BroadcastsInDim S2048x8x8 (![0, 1, 2] : Fin 3 → Fin S2048x8x8.rank)
  natLt_1_32 : 1 < 32
  reducesTo_S2048x8x8_S2048x8_d2 : S2048x8x8.ReducesTo [2] S2048x8
  bcast_S_S2048x8 : S_.BroadcastsInDim S2048x8 (![] : Fin 0 → Fin S2048x8.rank)
  reducesTo_S2048x8_S_d0_1 : S2048x8.ReducesTo [0, 1] S_
  dot_S2048x1024_S1024x1024_S2048x1024_1_0_0_1_n_n_wf : DotDims.WF S2048x1024 S1024x1024 S2048x1024 [1] [0] [0] [1] [] []
  dot_S2048x1024_S1024x8_S2048x8_1_0_0_1_n_n_wf : DotDims.WF S2048x1024 S1024x8 S2048x8 [1] [0] [0] [1] [] []

variable [Facts]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x8_S2048x8_1_0_0_1_n_n : DotDims S2048x1024 S1024x8 S2048x8 where
  lhsContracting := [1]
  rhsContracting := [0]
  lhsNonContracting := [0]
  rhsNonContracting := [1]
  lhsBatch := []
  rhsBatch := []
  wf := dot_S2048x1024_S1024x8_S2048x8_1_0_0_1_n_n_wf
def fn_part2 {F : FTy → Type} [FloatOps F] (main_v33 : IVec S2048x8 32) (main_v38 : IVec S2048x8 32) (main_c_6 : IVec S_ 32) : IVec S_ 1 :=
  let main_v39 : IVec S2048x8 32 := broadcastInDim S2048x8 ![] bcast_S_S2048x8 main_c_6
  let main_v40 : IVec S2048x8 1 := cmpi .eq main_v38 main_v39
  let main_c_7 : IVec S_ 32 := constantI S_ 32 2#32
  let main_v41 : IVec S2048x8 32 := broadcastInDim S2048x8 ![] bcast_S_S2048x8 main_c_7
  let main_v42 : IVec S2048x8 1 := cmpi .sge main_v33 main_v41
  let main_v43 : IVec S2048x8 1 := ori main_v40 main_v42
  let main_c_8 : IVec S_ 1 := constantI S_ 1 1#1
  let main_v44 : IVec S_ 1 := (fun x v => Host.reduce IntOp.andi x v reducesTo_S2048x8_S_d0_1 h_S_) main_v43 main_c_8
  main_v44

def fn_part1 {F : FTy → Type} [FloatOps F] (main_v15 : FVec F S2048x8 .f32) (main_v18 : FVec F S2048 .f32) : IVec S_ 1 :=
  let main_v19 : FVec F S2048x1 .f32 := broadcastInDim S2048x1 ![0] bcast_S2048_S2048x1_0 main_v18
  let main_v20 : FVec F S2048x8 .f32 := broadcastInDim S2048x8 ![0, 1] bcast_S2048x1_S2048x8_0_1 main_v19
  let main_v21 : FVec F S2048x8 .f32 := subf main_v15 main_v20
  let main_v22 : FVec F S2048x8 .f32 := Host.exp main_v21
  let main_cst_4 : FVec F S_ .f32 := constant S_ .f32 0x00000000#32
  let main_v23 : FVec F S2048 .f32 := (fun x v => Host.reduceAdd x v reducesTo_S2048x8_S2048_d1 h_S_) main_v22 main_cst_4
  let main_v24 : FVec F S2048x1 .f32 := broadcastInDim S2048x1 ![0] bcast_S2048_S2048x1_0 main_v23
  let main_v25 : FVec F S2048x8 .f32 := broadcastInDim S2048x8 ![0, 1] bcast_S2048x1_S2048x8_0_1 main_v24
  let main_v26 : FVec F S2048x8 .f32 := Host.divf main_v22 main_v25
  let main_v27 : FVec F S2048x8x1 .f32 := broadcastInDim S2048x8x1 ![0, 1] bcast_S2048x8_S2048x8x1_0_1 main_v26
  let main_v28 : FVec F S2048x1x8 .f32 := broadcastInDim S2048x1x8 ![0, 2] bcast_S2048x8_S2048x1x8_0_2 main_v26
  let main_v29 : FVec F S2048x8x8 .f32 := broadcastInDim S2048x8x8 ![0, 1, 2] bcast_S2048x1x8_S2048x8x8_0_1_2 main_v28
  let main_v30 : FVec F S2048x8x8 .f32 := broadcastInDim S2048x8x8 ![0, 1, 2] bcast_S2048x8x1_S2048x8x8_0_1_2 main_v27
  let main_v31 : IVec S2048x8x8 1 := cmpf .ogt main_v29 main_v30
  let main_v32 : IVec S2048x8x8 32 := (extui 32 · natLt_1_32) main_v31
  let main_c : IVec S_ 32 := constantI S_ 32 0#32
  let main_v33 : IVec S2048x8 32 := (fun x v => Host.reduce IntOp.addi x v reducesTo_S2048x8x8_S2048x8_d2 h_S_) main_v32 main_c
  let main_v34 : FVec F S2048x8x8 .f32 := broadcastInDim S2048x8x8 ![0, 1, 2] bcast_S2048x1x8_S2048x8x8_0_1_2 main_v28
  let main_v35 : FVec F S2048x8x8 .f32 := broadcastInDim S2048x8x8 ![0, 1, 2] bcast_S2048x8x1_S2048x8x8_0_1_2 main_v27
  let main_v36 : IVec S2048x8x8 1 := cmpf .oeq main_v34 main_v35
  let main_v37 : IVec S2048x8x8 32 := (extui 32 · natLt_1_32) main_v36
  let main_c_5 : IVec S_ 32 := constantI S_ 32 0#32
  let main_v38 : IVec S2048x8 32 := (fun x v => Host.reduce IntOp.addi x v reducesTo_S2048x8x8_S2048x8_d2 h_S_) main_v37 main_c_5
  let main_c_6 : IVec S_ 32 := constantI S_ 32 1#32
  fn_part2 (F := F) main_v33 main_v38 main_c_6

def fn {F : FTy → Type} [FloatOps F] (main_arg0 : FVec F S2048x1024 .f32) (main_arg1 : FVec F S2048x1024 .f32) (main_arg2 : FVec F S1024x1024 .f32) (main_arg3 : FVec F S1024 .f32) (main_arg4 : FVec F S1024x8 .f32) : IVec S_ 1 :=
  let main_v0 : FVec F S2048x1024 .f32 := (fun l r => Host.dotGeneral dot_S2048x1024_S1024x1024_S2048x1024_1_0_0_1_n_n none l r) main_arg0 main_arg2
  let main_v1 : FVec F S2048x1024 .f32 := addf main_v0 main_arg1
  let main_v2 : FVec F S2048x1024 .f32 := mulf main_v1 main_v1
  let main_cst : FVec F S_ .f32 := constant S_ .f32 0x00000000#32
  let main_v3 : FVec F S2048 .f32 := (fun x v => Host.reduceAdd x v reducesTo_S2048x1024_S2048_d1 h_S_) main_v2 main_cst
  let main_v4 : FVec F S2048x1 .f32 := broadcastInDim S2048x1 ![0] bcast_S2048_S2048x1_0 main_v3
  let main_cst_0 : FVec F S_ .f32 := constant S_ .f32 0x44800000#32
  let main_v5 : FVec F S2048x1 .f32 := broadcastInDim S2048x1 ![] bcast_S_S2048x1 main_cst_0
  let main_v6 : FVec F S2048x1 .f32 := Host.divf main_v4 main_v5
  let main_cst_1 : FVec F S_ .f32 := constant S_ .f32 0x3727C5AC#32
  let main_v7 : FVec F S2048x1 .f32 := broadcastInDim S2048x1 ![] bcast_S_S2048x1 main_cst_1
  let main_v8 : FVec F S2048x1 .f32 := addf main_v6 main_v7
  let main_v9 : FVec F S2048x1 .f32 := Host.rsqrt main_v8
  let main_v10 : FVec F S2048x1024 .f32 := broadcastInDim S2048x1024 ![0, 1] bcast_S2048x1_S2048x1024_0_1 main_v9
  let main_v11 : FVec F S2048x1024 .f32 := mulf main_v1 main_v10
  let main_v12 : FVec F S1x1024 .f32 := broadcastInDim S1x1024 ![1] bcast_S1024_S1x1024_1 main_arg3
  let main_v13 : FVec F S2048x1024 .f32 := broadcastInDim S2048x1024 ![0, 1] bcast_S1x1024_S2048x1024_0_1 main_v12
  let main_v14 : FVec F S2048x1024 .f32 := mulf main_v11 main_v13
  let main_v15 : FVec F S2048x8 .f32 := (fun l r => Host.dotGeneral dot_S2048x1024_S1024x8_S2048x8_1_0_0_1_n_n none l r) main_v14 main_arg4
  let main_cst_2 : FVec F S_ .f32 := constant S_ .f32 0xFF800000#32
  let main_v16 : FVec F S2048 .f32 := (fun x v => Host.reduce FloatOps.maximumf x v reducesTo_S2048x8_S2048_d1 h_S_) main_v15 main_cst_2
  let main_cst_3 : FVec F S_ .f32 := constant S_ .f32 0xFF800000#32
  let main_v17 : FVec F S2048 .f32 := broadcastInDim S2048 ![] bcast_S_S2048 main_cst_3
  let main_v18 : FVec F S2048 .f32 := maximumf main_v17 main_v16
  fn_part1 (F := F) main_v15 main_v18
-- ==== Pre_untied_block.lean ====
abbrev S1x2048x1024 : Shape := ⟨3, ![1, 2048, 1024]⟩
abbrev S1024 : Shape := ⟨1, ![1024]⟩
abbrev S1024x1024 : Shape := ⟨2, ![1024, 1024]⟩
abbrev S1024x8 : Shape := ⟨2, ![1024, 8]⟩
abbrev S8x1024x1024 : Shape := ⟨3, ![8, 1024, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S1x2048 : Shape := ⟨2, ![1, 2048]⟩
abbrev S2048x2048 : Shape := ⟨2, ![2048, 2048]⟩
abbrev S1x2048x2048 : Shape := ⟨3, ![1, 2048, 2048]⟩
abbrev S2048x8 : Shape := ⟨2, ![2048, 8]⟩
abbrev S2048x8x1 : Shape := ⟨3, ![2048, 8, 1]⟩
abbrev S2048x1x8 : Shape := ⟨3, ![2048, 1, 8]⟩
abbrev S2048x8x8 : Shape := ⟨3, ![2048, 8, 8]⟩

class Facts : Prop where
  shapeCasts_S1x2048x1024_S2048x1024 : S1x2048x1024.ShapeCasts S2048x1024
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  shapeCasts_S2048x1024_S2048x16x64 : S2048x1024.ShapeCasts S2048x16x64
  transposes_S2048x16x64_S16x2048x64_1_0_2 : S2048x16x64.Transposes [1, 0, 2] S16x2048x64
  bcast_S_S16x2048x2048 : S_.BroadcastsInDim S16x2048x2048 (![] : Fin 0 → Fin S16x2048x2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  bcast_S_S_ : S_.BroadcastsInDim S_ (![] : Fin 0 → Fin S_.rank)
  reduceWindows_S16x2048x2048_S16x2048x2048_w1s1p0_0_w1s1p0_0_w2048s1p2047_0 : S16x2048x2048.ReduceWindows (![1, 1, 2048] : Fin 3 → Nat) ![1, 1, 1] ![0, 0, 2047] ![0, 0, 0] S16x2048x2048
  transposes_S16x2048x64_S2048x16x64_1_0_2 : S16x2048x64.Transposes [1, 0, 2] S2048x16x64
  shapeCasts_S2048x16x64_S2048x1024 : S2048x16x64.ShapeCasts S2048x1024
  reducesTo_S2048x8_S2048_d1 : S2048x8.ReducesTo [1] S2048
  bcast_S_S2048 : S_.BroadcastsInDim S2048 (![] : Fin 0 → Fin S2048.rank)
  bcast_S2048x1_S2048x8_0_1 : S2048x1.BroadcastsInDim S2048x8 (![0, 1] : Fin 2 → Fin S2048x8.rank)
  bcast_S2048x8_S2048x8x1_0_1 : S2048x8.BroadcastsInDim S2048x8x1 (![0, 1] : Fin 2 → Fin S2048x8x1.rank)
  bcast_S2048x8_S2048x1x8_0_2 : S2048x8.BroadcastsInDim S2048x1x8 (![0, 2] : Fin 2 → Fin S2048x1x8.rank)
  bcast_S2048x1x8_S2048x8x8_0_1_2 : S2048x1x8.BroadcastsInDim S2048x8x8 (![0, 1, 2] : Fin 3 → Fin S2048x8x8.rank)
  bcast_S2048x8x1_S2048x8x8_0_1_2 : S2048x8x1.BroadcastsInDim S2048x8x8 (![0, 1, 2] : Fin 3 → Fin S2048x8x8.rank)
  natLt_1_32 : 1 < 32
  reducesTo_S2048x8x8_S2048x8_d2 : S2048x8x8.ReducesTo [2] S2048x8
  bcast_S_S2048x8 : S_.BroadcastsInDim S2048x8 (![] : Fin 0 → Fin S2048x8.rank)
  reducesTo_S2048x8_S_d0_1 : S2048x8.ReducesTo [0, 1] S_
  dot_S2048x1024_S1024x1024_S2048x1024_1_0_0_1_n_n_wf : DotDims.WF S2048x1024 S1024x1024 S2048x1024 [1] [0] [0] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]
  dot_S2048x1024_S1024x8_S2048x8_1_0_0_1_n_n_wf : DotDims.WF S2048x1024 S1024x8 S2048x8 [1] [0] [0] [1] [] []

variable [Facts]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf
def dot_S2048x1024_S1024x8_S2048x8_1_0_0_1_n_n : DotDims S2048x1024 S1024x8 S2048x8 where
  lhsContracting := [1]
  rhsContracting := [0]
  lhsNonContracting := [0]
  rhsNonContracting := [1]
  lhsBatch := []
  rhsBatch := []
  wf := dot_S2048x1024_S1024x8_S2048x8_1_0_0_1_n_n_wf
def fn_cumsum_0 {F : FTy → Type} [FloatOps F] (arg0 : FVec F S16x2048x2048 .f32) : FVec F S16x2048x2048 .f32 :=
  let cst : FVec F S_ .f32 := constant S_ .f32 0x00000000#32
  let v0 : FVec F S_ .f32 := broadcastInDim S_ ![] bcast_S_S_ cst
  let v1 : FVec F S16x2048x2048 .f32 := (fun x v => Host.reduceWindowAdd ![1, 1, 2048] ![1, 1, 1] ![0, 0, 2047] ![0, 0, 0] x v reduceWindows_S16x2048x2048_S16x2048x2048_w1s1p0_0_w1s1p0_0_w2048s1p2047_0 h_S_) arg0 v0
  v1

def fn_cumsum {F : FTy → Type} [FloatOps F] (arg0 : FVec F S16x2048x2048 .f32) : FVec F S16x2048x2048 .f32 :=
  let v0 : FVec F S16x2048x2048 .f32 := fn_cumsum_0 (F := F) arg0
  v0

def fn_part4 {F : FTy → Type} [FloatOps F] (main_v84 : FVec F S2048x8x1 .f32) (main_v85 : FVec F S2048x1x8 .f32) : IVec S_ 1 :=
  let main_v86 : FVec F S2048x8x8 .f32 := broadcastInDim S2048x8x8 ![0, 1, 2] bcast_S2048x1x8_S2048x8x8_0_1_2 main_v85
  let main_v87 : FVec F S2048x8x8 .f32 := broadcastInDim S2048x8x8 ![0, 1, 2] bcast_S2048x8x1_S2048x8x8_0_1_2 main_v84
  let main_v88 : IVec S2048x8x8 1 := cmpf .ogt main_v86 main_v87
  let main_v89 : IVec S2048x8x8 32 := (extui 32 · natLt_1_32) main_v88
  let main_c : IVec S_ 32 := constantI S_ 32 0#32
  let main_v90 : IVec S2048x8 32 := (fun x v => Host.reduce IntOp.addi x v reducesTo_S2048x8x8_S2048x8_d2 h_S_) main_v89 main_c
  let main_v91 : FVec F S2048x8x8 .f32 := broadcastInDim S2048x8x8 ![0, 1, 2] bcast_S2048x1x8_S2048x8x8_0_1_2 main_v85
  let main_v92 : FVec F S2048x8x8 .f32 := broadcastInDim S2048x8x8 ![0, 1, 2] bcast_S2048x8x1_S2048x8x8_0_1_2 main_v84
  let main_v93 : IVec S2048x8x8 1 := cmpf .oeq main_v91 main_v92
  let main_v94 : IVec S2048x8x8 32 := (extui 32 · natLt_1_32) main_v93
  let main_c_9 : IVec S_ 32 := constantI S_ 32 0#32
  let main_v95 : IVec S2048x8 32 := (fun x v => Host.reduce IntOp.addi x v reducesTo_S2048x8x8_S2048x8_d2 h_S_) main_v94 main_c_9
  let main_c_10 : IVec S_ 32 := constantI S_ 32 1#32
  let main_v96 : IVec S2048x8 32 := broadcastInDim S2048x8 ![] bcast_S_S2048x8 main_c_10
  let main_v97 : IVec S2048x8 1 := cmpi .eq main_v95 main_v96
  let main_c_11 : IVec S_ 32 := constantI S_ 32 2#32
  let main_v98 : IVec S2048x8 32 := broadcastInDim S2048x8 ![] bcast_S_S2048x8 main_c_11
  let main_v99 : IVec S2048x8 1 := cmpi .sge main_v90 main_v98
  let main_v100 : IVec S2048x8 1 := ori main_v97 main_v99
  let main_c_12 : IVec S_ 1 := constantI S_ 1 1#1
  let main_v101 : IVec S_ 1 := (fun x v => Host.reduce IntOp.andi x v reducesTo_S2048x8_S_d0_1 h_S_) main_v100 main_c_12
  main_v101

def fn_part3 {F : FTy → Type} [FloatOps F] (main_arg6 : FVec F S1024 .f32) (main_arg7 : FVec F S1024x8 .f32) (main_v58 : FVec F S2048x1024 .f32) (main_v63 : FVec F S2048x1 .f32) (main_v64 : FVec F S2048x1 .f32) : IVec S_ 1 :=
  let main_v65 : FVec F S2048x1 .f32 := addf main_v63 main_v64
  let main_v66 : FVec F S2048x1 .f32 := Host.rsqrt main_v65
  let main_v67 : FVec F S2048x1024 .f32 := broadcastInDim S2048x1024 ![0, 1] bcast_S2048x1_S2048x1024_0_1 main_v66
  let main_v68 : FVec F S2048x1024 .f32 := mulf main_v58 main_v67
  let main_v69 : FVec F S1x1024 .f32 := broadcastInDim S1x1024 ![1] bcast_S1024_S1x1024_1 main_arg6
  let main_v70 : FVec F S2048x1024 .f32 := broadcastInDim S2048x1024 ![0, 1] bcast_S1x1024_S2048x1024_0_1 main_v69
  let main_v71 : FVec F S2048x1024 .f32 := mulf main_v68 main_v70
  let main_v72 : FVec F S2048x8 .f32 := (fun l r => Host.dotGeneral dot_S2048x1024_S1024x8_S2048x8_1_0_0_1_n_n none l r) main_v71 main_arg7
  let main_cst_6 : FVec F S_ .f32 := constant S_ .f32 0xFF800000#32
  let main_v73 : FVec F S2048 .f32 := (fun x v => Host.reduce FloatOps.maximumf x v reducesTo_S2048x8_S2048_d1 h_S_) main_v72 main_cst_6
  let main_cst_7 : FVec F S_ .f32 := constant S_ .f32 0xFF800000#32
  let main_v74 : FVec F S2048 .f32 := broadcastInDim S2048 ![] bcast_S_S2048 main_cst_7
  let main_v75 : FVec F S2048 .f32 := maximumf main_v74 main_v73
  let main_v76 : FVec F S2048x1 .f32 := broadcastInDim S2048x1 ![0] bcast_S2048_S2048x1_0 main_v75
  let main_v77 : FVec F S2048x8 .f32 := broadcastInDim S2048x8 ![0, 1] bcast_S2048x1_S2048x8_0_1 main_v76
  let main_v78 : FVec F S2048x8 .f32 := subf main_v72 main_v77
  let main_v79 : FVec F S2048x8 .f32 := Host.exp main_v78
  let main_cst_8 : FVec F S_ .f32 := constant S_ .f32 0x00000000#32
  let main_v80 : FVec F S2048 .f32 := (fun x v => Host.reduceAdd x v reducesTo_S2048x8_S2048_d1 h_S_) main_v79 main_cst_8
  let main_v81 : FVec F S2048x1 .f32 := broadcastInDim S2048x1 ![0] bcast_S2048_S2048x1_0 main_v80
  let main_v82 : FVec F S2048x8 .f32 := broadcastInDim S2048x8 ![0, 1] bcast_S2048x1_S2048x8_0_1 main_v81
  let main_v83 : FVec F S2048x8 .f32 := Host.divf main_v79 main_v82
  let main_v84 : FVec F S2048x8x1 .f32 := broadcastInDim S2048x8x1 ![0, 1] bcast_S2048x8_S2048x8x1_0_1 main_v83
  let main_v85 : FVec F S2048x1x8 .f32 := broadcastInDim S2048x1x8 ![0, 2] bcast_S2048x8_S2048x1x8_0_2 main_v83
  fn_part4 (F := F) main_v84 main_v85

def fn_part2 {F : FTy → Type} [FloatOps F] (main_arg5 : FVec F S1024x1024 .f32) (main_arg6 : FVec F S1024 .f32) (main_arg7 : FVec F S1024x8 .f32) (main_v0 : FVec F S2048x1024 .f32) (main_v22 : FVec F S16x2048x64 .f32) (main_v34 : FVec F S2048x2048 .f32) (main_v38 : FVec F S16x2048x2048 .f32) (main_v41 : FVec F S16x2048x2048 .f32) (main_v43 : FVec F S16x2048x2048 .f32) : IVec S_ 1 :=
  let main_v44 : FVec F S16x2048x2048 .f32 := mulf main_v41 main_v43
  let main_v45 : FVec F S16x2048x2048 .f32 := Host.reverse [2] main_v44
  let main_v46 : FVec F S16x2048x2048 .f32 := fn_cumsum (F := F) main_v45
  let main_v47 : FVec F S16x2048x2048 .f32 := Host.reverse [2] main_v46
  let main_v48 : FVec F S16x2048x2048 .f32 := subf main_v47 main_v44
  let main_v49 : FVec F S16x2048x2048 .f32 := addf main_v38 main_v48
  let main_v50 : FVec F S16x2048x2048 .f32 := Host.exp main_v49
  let main_v51 : FVec F S1x2048x2048 .f32 := broadcastInDim S1x2048x2048 ![1, 2] bcast_S2048x2048_S1x2048x2048_1_2 main_v34
  let main_v52 : FVec F S16x2048x2048 .f32 := broadcastInDim S16x2048x2048 ![0, 1, 2] bcast_S1x2048x2048_S16x2048x2048_0_1_2 main_v51
  let main_v53 : FVec F S16x2048x2048 .f32 := mulf main_v50 main_v52
  let main_v54 : FVec F S16x2048x64 .f32 := (fun l r => Host.dotGeneral dot_S16x2048x2048_S16x2048x64_S16x2048x64_2_1_1_2_0_0 none l r) main_v53 main_v22
  let main_v55 : FVec F S2048x16x64 .f32 := (transpose S2048x16x64 [1, 0, 2] · transposes_S16x2048x64_S2048x16x64_1_0_2) main_v54
  let main_v56 : FVec F S2048x1024 .f32 := shapeCast S2048x1024 main_v55 shapeCasts_S2048x16x64_S2048x1024
  let main_v57 : FVec F S2048x1024 .f32 := (fun l r => Host.dotGeneral dot_S2048x1024_S1024x1024_S2048x1024_1_0_0_1_n_n none l r) main_v56 main_arg5
  let main_v58 : FVec F S2048x1024 .f32 := addf main_v57 main_v0
  let main_v59 : FVec F S2048x1024 .f32 := mulf main_v58 main_v58
  let main_cst_3 : FVec F S_ .f32 := constant S_ .f32 0x00000000#32
  let main_v60 : FVec F S2048 .f32 := (fun x v => Host.reduceAdd x v reducesTo_S2048x1024_S2048_d1 h_S_) main_v59 main_cst_3
  let main_v61 : FVec F S2048x1 .f32 := broadcastInDim S2048x1 ![0] bcast_S2048_S2048x1_0 main_v60
  let main_cst_4 : FVec F S_ .f32 := constant S_ .f32 0x44800000#32
  let main_v62 : FVec F S2048x1 .f32 := broadcastInDim S2048x1 ![] bcast_S_S2048x1 main_cst_4
  let main_v63 : FVec F S2048x1 .f32 := Host.divf main_v61 main_v62
  let main_cst_5 : FVec F S_ .f32 := constant S_ .f32 0x3727C5AC#32
  let main_v64 : FVec F S2048x1 .f32 := broadcastInDim S2048x1 ![] bcast_S_S2048x1 main_cst_5
  fn_part3 (F := F) main_arg6 main_arg7 main_v58 main_v63 main_v64

def fn_part1 {F : FTy → Type} [FloatOps F] (main_arg5 : FVec F S1024x1024 .f32) (main_arg6 : FVec F S1024 .f32) (main_arg7 : FVec F S1024x8 .f32) (main_v0 : FVec F S2048x1024 .f32) (main_v16 : FVec F S16x2048x64 .f32) (main_v19 : FVec F S16x2048x64 .f32) (main_v20 : FVec F S2048x1024 .f32) : IVec S_ 1 :=
  let main_v21 : FVec F S2048x16x64 .f32 := shapeCast S2048x16x64 main_v20 shapeCasts_S2048x1024_S2048x16x64
  let main_v22 : FVec F S16x2048x64 .f32 := (transpose S16x2048x64 [1, 0, 2] · transposes_S2048x16x64_S16x2048x64_1_0_2) main_v21
  let main_v23 : FVec F S16x2048x2048 .f32 := (fun l r => Host.dotGeneral dot_S16x2048x64_S16x2048x64_S16x2048x2048_2_2_1_1_0_0 none l r) main_v16 main_v19
  let main_cst_2 : FVec F S_ .f32 := constant S_ .f32 0x42800000#32
  let main_v24 : FVec F S_ .f32 := Host.sqrt main_cst_2
  let main_v25 : FVec F S16x2048x2048 .f32 := broadcastInDim S16x2048x2048 ![] bcast_S_S16x2048x2048 main_v24
  let main_v26 : FVec F S16x2048x2048 .f32 := Host.divf main_v23 main_v25
  let main_v27 : IVec S2048 32 := iotaInDim S2048 32 0
  let main_v28 : IVec S2048x1 32 := broadcastInDim S2048x1 ![0] bcast_S2048_S2048x1_0 main_v27
  let main_v29 : IVec S2048 32 := iotaInDim S2048 32 0
  let main_v30 : IVec S1x2048 32 := broadcastInDim S1x2048 ![1] bcast_S2048_S1x2048_1 main_v29
  let main_v31 : IVec S2048x2048 32 := broadcastInDim S2048x2048 ![0, 1] bcast_S1x2048_S2048x2048_0_1 main_v30
  let main_v32 : IVec S2048x2048 32 := broadcastInDim S2048x2048 ![0, 1] bcast_S2048x1_S2048x2048_0_1 main_v28
  let main_v33 : IVec S2048x2048 1 := cmpi .slt main_v31 main_v32
  let main_v34 : FVec F S2048x2048 .f32 := uitofp .f32 main_v33
  let main_v35 : FVec F S16x2048x2048 .f32 := Host.negf main_v26
  let main_v36 : FVec F S16x2048x2048 .f32 := Host.exp main_v35
  let main_v37 : FVec F S16x2048x2048 .f32 := Host.log1p main_v36
  let main_v38 : FVec F S16x2048x2048 .f32 := Host.negf main_v37
  let main_v39 : FVec F S16x2048x2048 .f32 := Host.exp main_v26
  let main_v40 : FVec F S16x2048x2048 .f32 := Host.log1p main_v39
  let main_v41 : FVec F S16x2048x2048 .f32 := Host.negf main_v40
  let main_v42 : FVec F S1x2048x2048 .f32 := broadcastInDim S1x2048x2048 ![1, 2] bcast_S2048x2048_S1x2048x2048_1_2 main_v34
  let main_v43 : FVec F S16x2048x2048 .f32 := broadcastInDim S16x2048x2048 ![0, 1, 2] bcast_S1x2048x2048_S16x2048x2048_0_1_2 main_v42
  fn_part2 (F := F) main_arg5 main_arg6 main_arg7 main_v0 main_v22 main_v34 main_v38 main_v41 main_v43

def fn {F : FTy → Type} [FloatOps F] (main_arg0 : FVec F S1x2048x1024 .f32) (main_arg1 : FVec F S1024 .f32) (main_arg2 : FVec F S1024x1024 .f32) (main_arg3 : FVec F S1024x1024 .f32) (main_arg4 : FVec F S1024x1024 .f32) (main_arg5 : FVec F S1024x1024 .f32) (main_arg6 : FVec F S1024 .f32) (main_arg7 : FVec F S1024x8 .f32) (main_arg8 : FVec F S8x1024x1024 .f32) (main_arg9 : FVec F S8x1024x1024 .f32) : IVec S_ 1 :=
  let main_v0 : FVec F S2048x1024 .f32 := shapeCast S2048x1024 main_arg0 shapeCasts_S1x2048x1024_S2048x1024
  let main_v1 : FVec F S2048x1024 .f32 := mulf main_v0 main_v0
  let main_cst : FVec F S_ .f32 := constant S_ .f32 0x00000000#32
  let main_v2 : FVec F S2048 .f32 := (fun x v => Host.reduceAdd x v reducesTo_S2048x1024_S2048_d1 h_S_) main_v1 main_cst
  let main_v3 : FVec F S2048x1 .f32 := broadcastInDim S2048x1 ![0] bcast_S2048_S2048x1_0 main_v2
  let main_cst_0 : FVec F S_ .f32 := constant S_ .f32 0x44800000#32
  let main_v4 : FVec F S2048x1 .f32 := broadcastInDim S2048x1 ![] bcast_S_S2048x1 main_cst_0
  let main_v5 : FVec F S2048x1 .f32 := Host.divf main_v3 main_v4
  let main_cst_1 : FVec F S_ .f32 := constant S_ .f32 0x3727C5AC#32
  let main_v6 : FVec F S2048x1 .f32 := broadcastInDim S2048x1 ![] bcast_S_S2048x1 main_cst_1
  let main_v7 : FVec F S2048x1 .f32 := addf main_v5 main_v6
  let main_v8 : FVec F S2048x1 .f32 := Host.rsqrt main_v7
  let main_v9 : FVec F S2048x1024 .f32 := broadcastInDim S2048x1024 ![0, 1] bcast_S2048x1_S2048x1024_0_1 main_v8
  let main_v10 : FVec F S2048x1024 .f32 := mulf main_v0 main_v9
  let main_v11 : FVec F S1x1024 .f32 := broadcastInDim S1x1024 ![1] bcast_S1024_S1x1024_1 main_arg1
  let main_v12 : FVec F S2048x1024 .f32 := broadcastInDim S2048x1024 ![0, 1] bcast_S1x1024_S2048x1024_0_1 main_v11
  let main_v13 : FVec F S2048x1024 .f32 := mulf main_v10 main_v12
  let main_v14 : FVec F S2048x1024 .f32 := (fun l r => Host.dotGeneral dot_S2048x1024_S1024x1024_S2048x1024_1_0_0_1_n_n none l r) main_v13 main_arg2
  let main_v15 : FVec F S2048x16x64 .f32 := shapeCast S2048x16x64 main_v14 shapeCasts_S2048x1024_S2048x16x64
  let main_v16 : FVec F S16x2048x64 .f32 := (transpose S16x2048x64 [1, 0, 2] · transposes_S2048x16x64_S16x2048x64_1_0_2) main_v15
  let main_v17 : FVec F S2048x1024 .f32 := (fun l r => Host.dotGeneral dot_S2048x1024_S1024x1024_S2048x1024_1_0_0_1_n_n none l r) main_v13 main_arg3
  let main_v18 : FVec F S2048x16x64 .f32 := shapeCast S2048x16x64 main_v17 shapeCasts_S2048x1024_S2048x16x64
  let main_v19 : FVec F S16x2048x64 .f32 := (transpose S16x2048x64 [1, 0, 2] · transposes_S2048x16x64_S16x2048x64_1_0_2) main_v18
  let main_v20 : FVec F S2048x1024 .f32 := (fun l r => Host.dotGeneral dot_S2048x1024_S1024x1024_S2048x1024_1_0_0_1_n_n none l r) main_v13 main_arg4
  fn_part1 (F := F) main_arg5 main_arg6 main_arg7 main_v0 main_v16 main_v19 main_v20
-- ==== Kernel.lean ====
abbrev S1x2048x1024 : Shape := ⟨3, ![1, 2048, 1024]⟩
abbrev S1024 : Shape := ⟨1, ![1024]⟩
abbrev S1024x1024 : Shape := ⟨2, ![1024, 1024]⟩
abbrev S1024x8 : Shape := ⟨2, ![1024, 8]⟩
abbrev S8x1024x1024 : Shape := ⟨3, ![8, 1024, 1024]⟩
abbrev S12 : Shape := ⟨1, ![12]⟩
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S2048x16x64 : Shape := ⟨3, ![2048, 16, 64]⟩
abbrev S16x2048x64 : Shape := ⟨3, ![16, 2048, 64]⟩
abbrev S1x1024x64 : Shape := ⟨3, ![1, 1024, 64]⟩
abbrev S1 : Shape := ⟨1, ![1]⟩
abbrev S1x256x64 : Shape := ⟨3, ![1, 256, 64]⟩
abbrev S1024x128 : Shape := ⟨2, ![1024, 128]⟩
abbrev S1024x64 : Shape := ⟨2, ![1024, 64]⟩
abbrev S256x64 : Shape := ⟨2, ![256, 64]⟩
abbrev S1024x256 : Shape := ⟨2, ![1024, 256]⟩
abbrev S256x256 : Shape := ⟨2, ![256, 256]⟩
abbrev S1024x1 : Shape := ⟨2, ![1024, 1]⟩
abbrev S_ : Shape := ⟨0, ![]⟩
abbrev S2048x128 : Shape := ⟨2, ![2048, 128]⟩
abbrev S1x128 : Shape := ⟨2, ![1, 128]⟩
abbrev S256x128 : Shape := ⟨2, ![256, 128]⟩
abbrev S128 : Shape := ⟨1, ![128]⟩
abbrev S2048x8 : Shape := ⟨2, ![2048, 8]⟩
abbrev S8x2048 : Shape := ⟨2, ![8, 2048]⟩
abbrev S8x2048x1 : Shape := ⟨3, ![8, 2048, 1]⟩
abbrev S1x256x1 : Shape := ⟨3, ![1, 256, 1]⟩
abbrev S1x1024x1024 : Shape := ⟨3, ![1, 1024, 1024]⟩
abbrev S1x1x128 : Shape := ⟨3, ![1, 1, 128]⟩
abbrev S1x1x1 : Shape := ⟨3, ![1, 1, 1]⟩
abbrev S1x1 : Shape := ⟨2, ![1, 1]⟩

abbrev nBuf : Space → Nat
  | .hbm => 45
  | .vmem => 49
  | .smem => 2
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x8, .f32⟩
  | .hbm, ⟨8, _⟩ => ⟨S8x1024x1024, .f32⟩
  | .hbm, ⟨9, _⟩ => ⟨S8x1024x1024, .f32⟩
  | .hbm, ⟨10, _⟩ => ⟨S2048x1024, .f32⟩
  | .hbm, ⟨11, _⟩ => ⟨S1x1024, .f32⟩
  | .hbm, ⟨12, _⟩ => ⟨S1024x1024, .bf16⟩
  | .hbm, ⟨13, _⟩ => ⟨S2048x1024, .f32⟩
  | .hbm, ⟨14, _⟩ => ⟨S2048x1024, .f32⟩
  | .hbm, ⟨15, _⟩ => ⟨S2048x1024, .bf16⟩
  | .hbm, ⟨16, _⟩ => ⟨S2048x16x64, .f32⟩
  | .hbm, ⟨17, _⟩ => ⟨S16x2048x64, .f32⟩
  | .hbm, ⟨18, _⟩ => ⟨S2048x16x64, .f32⟩
  | .hbm, ⟨19, _⟩ => ⟨S16x2048x64, .f32⟩
  | .hbm, ⟨20, _⟩ => ⟨S2048x16x64, .bf16⟩
  | .hbm, ⟨21, _⟩ => ⟨S16x2048x64, .bf16⟩
  | .hbm, ⟨22, _⟩ => ⟨S16x2048x64, .f32⟩
  | .hbm, ⟨23, _⟩ => ⟨S2048x16x64, .f32⟩
  | .hbm, ⟨24, _⟩ => ⟨S2048x1024, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x1024, .bf16⟩
  | .hbm, ⟨29, _⟩ => ⟨S1x1024, .f32⟩
  | .hbm, ⟨30, _⟩ => ⟨S2048x1024, .f32⟩
  | .hbm, ⟨31, _⟩ => ⟨S2048x1024, .bf16⟩
  | .hbm, ⟨32, _⟩ => ⟨S2048x128, .f32⟩
  | .hbm, ⟨33, _⟩ => ⟨S1x128, .f32⟩
  | .hbm, ⟨34, _⟩ => ⟨S1x128, .f32⟩
  | .hbm, ⟨35, _⟩ => ⟨S2048x8, .f32⟩
  | .hbm, ⟨36, _⟩ => ⟨S8x2048, .f32⟩
  | .hbm, ⟨37, _⟩ => ⟨S8x2048x1, .f32⟩
  | .hbm, ⟨38, _⟩ => ⟨S8x1024x1024, .bf16⟩
  | .hbm, ⟨39, _⟩ => ⟨S8x1024x1024, .bf16⟩
  | .hbm, ⟨40, _⟩ => ⟨S2048x1024, .f32⟩
  | .hbm, ⟨41, _⟩ => ⟨S1x128, .f32⟩
  | .hbm, ⟨42, _⟩ => ⟨S1x2048x1024, .f32⟩
  | .hbm, ⟨43, _⟩ => ⟨S1x1, .f32⟩
  | .hbm, ⟨44, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024x64, .f32⟩
  | .local _ .vmem, ⟨13, _⟩ => ⟨S1x1024x64, .f32⟩
  | .local _ .vmem, ⟨14, _⟩ => ⟨S1x256x64, .f32⟩
  | .local _ .vmem, ⟨15, _⟩ => ⟨S1x256x64, .f32⟩
  | .local _ .vmem, ⟨16, _⟩ => ⟨S1x256x64, .bf16⟩
  | .local _ .vmem, ⟨17, _⟩ => ⟨S1x256x64, .bf16⟩
  | .local _ .vmem, ⟨18, _⟩ => ⟨S1x1024x64, .f32⟩
  | .local _ .vmem, ⟨19, _⟩ => ⟨S1x1024x64, .f32⟩
  | .local _ .vmem, ⟨20, _⟩ => ⟨S1024x128, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1024x1024, .bf16⟩
  | .local _ .vmem, ⟨26, _⟩ => ⟨S1x1024, .f32⟩
  | .local _ .vmem, ⟨27, _⟩ => ⟨S1024x128, .f32⟩
  | .local _ .vmem, ⟨28, _⟩ => ⟨S256x1024, .f32⟩
  | .local _ .vmem, ⟨29, _⟩ => ⟨S256x1024, .f32⟩
  | .local _ .vmem, ⟨30, _⟩ => ⟨S256x1024, .bf16⟩
  | .local _ .vmem, ⟨31, _⟩ => ⟨S256x1024, .bf16⟩
  | .local _ .vmem, ⟨32, _⟩ => ⟨S256x128, .f32⟩
  | .local _ .vmem, ⟨33, _⟩ => ⟨S256x128, .f32⟩
  | .local _ .vmem, ⟨34, _⟩ => ⟨S1x128, .f32⟩
  | .local _ .vmem, ⟨35, _⟩ => ⟨S1x128, .f32⟩
  | .local _ .vmem, ⟨36, _⟩ => ⟨S256x1024, .bf16⟩
  | .local _ .vmem, ⟨37, _⟩ => ⟨S256x1024, .bf16⟩
  | .local _ .vmem, ⟨38, _⟩ => ⟨S256x1024, .f32⟩
  | .local _ .vmem, ⟨39, _⟩ => ⟨S256x1024, .f32⟩
  | .local _ .vmem, ⟨40, _⟩ => ⟨S8x1024x1024, .bf16⟩
  | .local _ .vmem, ⟨41, _⟩ => ⟨S8x1024x1024, .bf16⟩
  | .local _ .vmem, ⟨42, _⟩ => ⟨S1x256x1, .f32⟩
  | .local _ .vmem, ⟨43, _⟩ => ⟨S1x256x1, .f32⟩
  | .local _ .vmem, ⟨44, _⟩ => ⟨S1x128, .f32⟩
  | .local _ .vmem, ⟨45, _⟩ => ⟨S1x128, .f32⟩
  | .local _ .vmem, ⟨46, _⟩ => ⟨S256x1024, .f32⟩
  | .local _ .vmem, ⟨47, _⟩ => ⟨S256x1024, .f32⟩
  | .local _ .vmem, ⟨48, _⟩ => ⟨S1x128, .f32⟩
  | .local _ .smem, ⟨0, _⟩ => ⟨S12, .i32⟩
  | .local _ .smem, ⟨1, _⟩ => ⟨S12, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg9_0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg7_1 : Ref sig .tc := ⟨.vmem, 47, rfl⟩
abbrev cc3_stg8_0 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc2_sem6_0 : DmaSem sig := 29
abbrev cc2_sem6_1 : DmaSem sig := 30
abbrev cc2_sem7_0 : DmaSem sig := 31
abbrev cc2_sem7_1 : DmaSem sig := 32
abbrev cc2_sem8_0 : DmaSem sig := 33
abbrev cc2_sem9_0 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem3_0 : DmaSem sig := 40
abbrev cc3_sem4_0 : DmaSem sig := 41
abbrev cc3_sem4_1 : DmaSem sig := 42
abbrev cc3_sem5_0 : DmaSem sig := 43
abbrev cc3_sem6_0 : DmaSem sig := 44
abbrev cc3_sem7_0 : DmaSem sig := 45
abbrev cc3_sem7_1 : DmaSem sig := 46
abbrev cc3_sem8_0 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![16, 12], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond1 (v1 : BitVec 32) (v3 : BitVec 32) : BitVec 1 :=
  let c4_i32 : BitVec 32 := 4#32
  let v4 : BitVec 32 := Scalar.muli c4_i32 v1
  let c4_i32_0 : BitVec 32 := 4#32
  let v5 : BitVec 32 := Scalar.addi v4 c4_i32_0
  let c1_i32 : BitVec 32 := 1#32
  let v6 : BitVec 32 := Scalar.subi v5 c1_i32
  let v7 : BitVec 1 := Scalar.cmpi .eq v3 v6
  let v31 : BitVec 32 := Scalar.extui v7
  let c0_i32 : BitVec 32 := 0#32
  let v32 : BitVec 1 := Scalar.cmpi .ne v31 c0_i32
  v32

def k1_cond2 (v1 : BitVec 32) (v3 : BitVec 32) : BitVec 1 :=
  let c4_i32_1 : BitVec 32 := 4#32
  let v8 : BitVec 32 := Scalar.muli c4_i32_1 v1
  let v9 : BitVec 1 := Scalar.cmpi .sge v3 v8
  let v33 : BitVec 32 := Scalar.extui v9
  let c0_i32_15 : BitVec 32 := 0#32
  let v34 : BitVec 1 := Scalar.cmpi .ne v33 c0_i32_15
  v34

def k1_cond3 (v1 : BitVec 32) (v3 : BitVec 32) : BitVec 1 :=
  let c4_i32_1 : BitVec 32 := 4#32
  let v8 : BitVec 32 := Scalar.muli c4_i32_1 v1
  let v9 : BitVec 1 := Scalar.cmpi .sge v3 v8
  let v_true : BitVec 1 := 1#1
  let v35 : BitVec 1 := Scalar.xori v9 v_true
  let v36 : BitVec 32 := Scalar.extui v35
  let c0_i32_16 : BitVec 32 := 0#32
  let v37 : BitVec 1 := Scalar.cmpi .ne v36 c0_i32_16
  v37

def cc1_transform_0 (k1_off1_inb : ∀ i : grid1.Coords, ∀ a, (k1_off1 i) a + S1.size a ≤ S12.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S12) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S12.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S12) ![v0.toNat] S1.size (k1_off1_inb i)) numel1_S1
  let c0_i32 : BitVec 32 := 0#32
  let c0_i32_0 : BitVec 32 := 0#32
  ![arg0.toNat, v1.toNat, c0_i32.toNat]

def cc1_transform_2 (k1_off1_inb : ∀ i : grid1.Coords, ∀ a, (k1_off1 i) a + S1.size a ≤ S12.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S12) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S12.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S12) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨2, ![8, 8], ![false, false]⟩

def k3_off1 (i : grid3.Coords) : Fin 3 → Nat :=
  let arg1 : BitVec 32 := BitVec.ofNat 32 (i 1).val
  let v5 : Index := Scalar.indexCast arg1
  let c0_2 : Index := 0#32
  let c0_3 : Index := 0#32
  ![v5.toNat, 0, 0]
def k3_cond2 (i : grid3.Coords) : BitVec 1 :=
  let arg0 : BitVec 32 := BitVec.ofNat 32 (i 0).val
  let c0_i32_14 : BitVec 32 := 0#32
  let v24 : BitVec 1 := Scalar.cmpi .eq arg0 c0_i32_14
  let arg1 : BitVec 32 := BitVec.ofNat 32 (i 1).val
  let c0_i32_15 : BitVec 32 := 0#32
  let v25 : BitVec 1 := Scalar.cmpi .eq arg1 c0_i32_15
  let v26 : BitVec 1 := Scalar.andi v24 v25
  let v27 : BitVec 32 := Scalar.extui v26
  let c0_i32_16 : BitVec 32 := 0#32
  let v28 : BitVec 1 := Scalar.cmpi .ne v27 c0_i32_16
  v28

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S8x1024x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S8x1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x256x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]
-- ==== KernelIdeal.lean ====
variable {F : FTy → Type} [FloatOps F] [Named F]
def κ : String → Option EReal := fun
  | "inv_ln2" => some (((Real.log 2)⁻¹ : ℝ) : EReal)
  | "mask" => some ⊥
  | "scale" => some (((Real.log 2)⁻¹ * (Real.sqrt 64)⁻¹ : ℝ) : EReal)
  | _ => none
-- ==== RefIdeal.lean ====
abbrev S1x2048x1024 : Shape := ⟨3, ![1, 2048, 1024]⟩
abbrev S1024 : Shape := ⟨1, ![1024]⟩
abbrev S1024x1024 : Shape := ⟨2, ![1024, 1024]⟩
abbrev S1024x8 : Shape := ⟨2, ![1024, 8]⟩
abbrev S8x1024x1024 : Shape := ⟨3, ![8, 1024, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S1x2048 : Shape := ⟨2, ![1, 2048]⟩
abbrev S2048x2048 : Shape := ⟨2, ![2048, 2048]⟩
abbrev S1x2048x2048 : Shape := ⟨3, ![1, 2048, 2048]⟩
abbrev S2048x8 : Shape := ⟨2, ![2048, 8]⟩
abbrev S2048x2 : Shape := ⟨2, ![2048, 2]⟩
abbrev S2048x2x1 : Shape := ⟨3, ![2048, 2, 1]⟩
abbrev S8 : Shape := ⟨1, ![8]⟩
abbrev S1x1x8 : Shape := ⟨3, ![1, 1, 8]⟩
abbrev S2048x2x8 : Shape := ⟨3, ![2048, 2, 8]⟩
abbrev S2048x8x1024 : Shape := ⟨3, ![2048, 8, 1024]⟩
abbrev S8x1024x2048 : Shape := ⟨3, ![8, 1024, 2048]⟩
abbrev S2048x8x1 : Shape := ⟨3, ![2048, 8, 1]⟩

abbrev nBuf : Space → Nat
  | .hbm => 161
  | .vmem => 0
  | .smem => 0
  | _ => 0

abbrev hbmTy0_0 (i : Nat) : BufTy := match i % 128 with
  | 0 => ⟨S1x2048x1024, .f32⟩
  | 1 => ⟨S1024, .f32⟩
  | 2 => ⟨S1024x1024, .f32⟩
  | 3 => ⟨S1024x1024, .f32⟩
  | 4 => ⟨S1024x1024, .f32⟩
  | 5 => ⟨S1024x1024, .f32⟩
  | 6 => ⟨S1024, .f32⟩
  | 7 => ⟨S1024x8, .f32⟩
  | 8 => ⟨S8x1024x1024, .f32⟩
  | 9 => ⟨S8x1024x1024, .f32⟩
  | 10 => ⟨S2048x1024, .f32⟩
  | 11 => ⟨S2048x1024, .f32⟩
  | 12 => ⟨S_, .f32⟩
  | 13 => ⟨S2048, .f32⟩
  | 14 => ⟨S2048x1, .f32⟩
  | 15 => ⟨S_, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1, .f32⟩
  | 22 => ⟨S2048x1024, .f32⟩
  | 23 => ⟨S2048x1024, .f32⟩
  | 24 => ⟨S1x1024, .f32⟩
  | 25 => ⟨S2048x1024, .f32⟩
  | 26 => ⟨S2048x1024, .f32⟩
  | 27 => ⟨S2048x1024, .f32⟩
  | 28 => ⟨S2048x16x64, .f32⟩
  | 29 => ⟨S16x2048x64, .f32⟩
  | 30 => ⟨S2048x1024, .f32⟩
  | 31 => ⟨S2048x16x64, .f32⟩
  | 32 => ⟨S16x2048x64, .f32⟩
  | 33 => ⟨S2048x1024, .f32⟩
  | 34 => ⟨S2048x16x64, .f32⟩
  | 35 => ⟨S16x2048x64, .f32⟩
  | 36 => ⟨S16x2048x2048, .f32⟩
  | 37 => ⟨S_, .f32⟩
  | 38 => ⟨S_, .f32⟩
  | 39 => ⟨S16x2048x2048, .f32⟩
  | 40 => ⟨S16x2048x2048, .f32⟩
  | 41 => ⟨S2048, .i32⟩
  | 42 => ⟨S2048x1, .i32⟩
  | 43 => ⟨S2048, .i32⟩
  | 44 => ⟨S1x2048, .i32⟩
  | 45 => ⟨S2048x2048, .i32⟩
  | 46 => ⟨S2048x2048, .i32⟩
  | 47 => ⟨S2048x2048, .i1⟩
  | 48 => ⟨S2048x2048, .f32⟩
  | 49 => ⟨S16x2048x2048, .f32⟩
  | 50 => ⟨S16x2048x2048, .f32⟩
  | 51 => ⟨S16x2048x2048, .f32⟩
  | 52 => ⟨S16x2048x2048, .f32⟩
  | 53 => ⟨S16x2048x2048, .f32⟩
  | 54 => ⟨S16x2048x2048, .f32⟩
  | 55 => ⟨S16x2048x2048, .f32⟩
  | 56 => ⟨S1x2048x2048, .f32⟩
  | 57 => ⟨S16x2048x2048, .f32⟩
  | 58 => ⟨S16x2048x2048, .f32⟩
  | 59 => ⟨S16x2048x2048, .f32⟩
  | 60 => ⟨S_, .f32⟩
  | 61 => ⟨S_, .f32⟩
  | 62 => ⟨S16x2048x2048, .f32⟩
  | 63 => ⟨S16x2048x2048, .f32⟩
  | 64 => ⟨S16x2048x2048, .f32⟩
  | 65 => ⟨S16x2048x2048, .f32⟩
  | 66 => ⟨S16x2048x2048, .f32⟩
  | 67 => ⟨S1x2048x2048, .f32⟩
  | 68 => ⟨S16x2048x2048, .f32⟩
  | 69 => ⟨S16x2048x2048, .f32⟩
  | 70 => ⟨S16x2048x64, .f32⟩
  | 71 => ⟨S2048x16x64, .f32⟩
  | 72 => ⟨S2048x1024, .f32⟩
  | 73 => ⟨S2048x1024, .f32⟩
  | 74 => ⟨S2048x1024, .f32⟩
  | 75 => ⟨S2048x1024, .f32⟩
  | 76 => ⟨S_, .f32⟩
  | 77 => ⟨S2048, .f32⟩
  | 78 => ⟨S2048x1, .f32⟩
  | 79 => ⟨S_, .f32⟩
  | 80 => ⟨S2048x1, .f32⟩
  | 81 => ⟨S2048x1, .f32⟩
  | 82 => ⟨S_, .f32⟩
  | 83 => ⟨S2048x1, .f32⟩
  | 84 => ⟨S2048x1, .f32⟩
  | 85 => ⟨S2048x1, .f32⟩
  | 86 => ⟨S2048x1024, .f32⟩
  | 87 => ⟨S2048x1024, .f32⟩
  | 88 => ⟨S1x1024, .f32⟩
  | 89 => ⟨S2048x1024, .f32⟩
  | 90 => ⟨S2048x1024, .f32⟩
  | 91 => ⟨S2048x8, .f32⟩
  | 92 => ⟨S_, .f32⟩
  | 93 => ⟨S2048, .f32⟩
  | 94 => ⟨S_, .f32⟩
  | 95 => ⟨S2048, .f32⟩
  | 96 => ⟨S2048, .f32⟩
  | 97 => ⟨S2048x1, .f32⟩
  | 98 => ⟨S2048x8, .f32⟩
  | 99 => ⟨S2048x8, .f32⟩
  | 100 => ⟨S2048x8, .f32⟩
  | 101 => ⟨S_, .f32⟩
  | 102 => ⟨S2048, .f32⟩
  | 103 => ⟨S2048x1, .f32⟩
  | 104 => ⟨S2048x8, .f32⟩
  | 105 => ⟨S2048x8, .f32⟩
  | 106 => ⟨S2048x2, .f32⟩
  | 107 => ⟨S2048x2, .i32⟩
  | 108 => ⟨S_, .f32⟩
  | 109 => ⟨S2048, .f32⟩
  | 110 => ⟨S2048x1, .f32⟩
  | 111 => ⟨S2048x2, .f32⟩
  | 112 => ⟨S2048x2, .f32⟩
  | 113 => ⟨S2048x2x1, .i32⟩
  | 114 => ⟨S8, .i32⟩
  | 115 => ⟨S1x1x8, .i32⟩
  | 116 => ⟨S2048x2x8, .i32⟩
  | 117 => ⟨S2048x2x8, .i32⟩
  | 118 => ⟨S2048x2x8, .i1⟩
  | 119 => ⟨S2048x2x8, .f32⟩
  | 120 => ⟨S2048x2x1, .f32⟩
  | 121 => ⟨S2048x2x8, .f32⟩
  | 122 => ⟨S2048x2x8, .f32⟩
  | 123 => ⟨S_, .f32⟩
  | 124 => ⟨S2048x8, .f32⟩
  | 125 => ⟨S_, .f32⟩
  | 126 => ⟨S2048x8, .f32⟩
  | 127 => ⟨S2048x8x1024, .f32⟩
  | _ => ⟨S1x2048x1024, .f32⟩

abbrev hbmTy0_1 (i : Nat) : BufTy := match i % 128 with
  | 0 => ⟨S2048x8x1024, .f32⟩
  | 1 => ⟨S2048x8x1024, .f32⟩
  | 2 => ⟨S_, .f32⟩
  | 3 => ⟨S2048x8x1024, .f32⟩
  | 4 => ⟨S2048x8x1024, .f32⟩
  | 5 => ⟨S_, .f32⟩
  | 6 => ⟨S2048x8x1024, .f32⟩
  | 7 => ⟨S2048x8x1024, .f32⟩
  | 8 => ⟨S2048x8x1024, .f32⟩
  | 9 => ⟨S8x1024x2048, .f32⟩
  | 10 => ⟨S2048x8x1024, .f32⟩
  | 11 => ⟨S2048x8x1, .f32⟩
  | 12 => ⟨S2048x8x1024, .f32⟩
  | 13 => ⟨S2048x8x1024, .f32⟩
  | 14 => ⟨S_, .f32⟩
  | 15 => ⟨S2048x1024, .f32⟩
  | 16 => ⟨S_, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S_, .f32⟩
  | 24 => ⟨S8, .f32⟩
  | 25 => ⟨S8, .f32⟩
  | 26 => ⟨S8, .f32⟩
  | 27 => ⟨S_, .f32⟩
  | 28 => ⟨S_, .f32⟩
  | 29 => ⟨S_, .f32⟩
  | 30 => ⟨S_, .f32⟩
  | 31 => ⟨S2048x1024, .f32⟩
  | 32 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_call0_cst : Ref sig .tc := ⟨.hbm, 60, rfl⟩
abbrev main_call0_call0_v0 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_3 : Ref sig .tc := ⟨.hbm, 76, rfl⟩
abbrev main_v60 : Ref sig .tc := ⟨.hbm, 77, rfl⟩
abbrev main_v61 : Ref sig .tc := ⟨.hbm, 78, rfl⟩
abbrev main_cst_4 : Ref sig .tc := ⟨.hbm, 79, rfl⟩
abbrev main_v62 : Ref sig .tc := ⟨.hbm, 80, rfl⟩
abbrev main_v63 : Ref sig .tc := ⟨.hbm, 81, rfl⟩
abbrev main_cst_5 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_6 : Ref sig .tc := ⟨.hbm, 92, rfl⟩
abbrev main_v73 : Ref sig .tc := ⟨.hbm, 93, rfl⟩
abbrev main_cst_7 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_8 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_values : Ref sig .tc := ⟨.hbm, 106, rfl⟩
abbrev main_indices : Ref sig .tc := ⟨.hbm, 107, rfl⟩
abbrev main_cst_9 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_10 : Ref sig .tc := ⟨.hbm, 123, rfl⟩
abbrev main_v98 : Ref sig .tc := ⟨.hbm, 124, rfl⟩
abbrev main_cst_11 : Ref sig .tc := ⟨.hbm, 125, rfl⟩
abbrev main_v99 : Ref sig .tc := ⟨.hbm, 126, rfl⟩
abbrev main_v100 : Ref sig .tc := ⟨.hbm, 127, rfl⟩
abbrev main_call1_v0 : Ref sig .tc := ⟨.hbm, 128, rfl⟩
abbrev main_call1_v1 : Ref sig .tc := ⟨.hbm, 129, rfl⟩
abbrev main_call1_cst : Ref sig .tc := ⟨.hbm, 130, rfl⟩
abbrev main_call1_v2 : Ref sig .tc := ⟨.hbm, 131, rfl⟩
abbrev main_call1_v3 : Ref sig .tc := ⟨.hbm, 132, rfl⟩
abbrev main_call1_cst_0 : Ref sig .tc := ⟨.hbm, 133, rfl⟩
abbrev main_call1_v4 : Ref sig .tc := ⟨.hbm, 134, rfl⟩
abbrev main_call1_v5 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_12 : Ref sig .tc := ⟨.hbm, 142, rfl⟩
abbrev main_v107 : Ref sig .tc := ⟨.hbm, 143, rfl⟩
abbrev main_cst_13 : Ref sig .tc := ⟨.hbm, 144, rfl⟩
abbrev main_v108 : Ref sig .tc := ⟨.hbm, 145, rfl⟩
abbrev main_cst_14 : Ref sig .tc := ⟨.hbm, 146, rfl⟩
abbrev main_v109 : Ref sig .tc := ⟨.hbm, 147, rfl⟩
abbrev main_v110 : Ref sig .tc := ⟨.hbm, 148, rfl⟩
abbrev main_cst_15 : Ref sig .tc := ⟨.hbm, 149, rfl⟩
abbrev main_v111 : Ref sig .tc := ⟨.hbm, 150, rfl⟩
abbrev main_cst_16 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_17 : Ref sig .tc := ⟨.hbm, 155, rfl⟩
abbrev main_v115 : Ref sig .tc := ⟨.hbm, 156, rfl⟩
abbrev main_cst_18 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩

abbrev nD : Nat := 1
abbrev τ : Topo := Topo.v7x

variable {F : FTy → Type} [FloatOps F]
-- ==== Qkv.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S2048x1024, .f32⟩
  | .hbm, ⟨8, _⟩ => ⟨S2048x1024, .f32⟩
  | .hbm, ⟨9, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvIdeal.lean ====
variable {F : FTy → Type} [FloatOps F] [Named F]
def κ : String → Option EReal := fun
  | "scale" => some (((Real.log 2)⁻¹ * (Real.sqrt 64)⁻¹ : ℝ) : EReal)
  | _ => none
-- ==== QkvRefIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Router.lean ====
abbrev S2048x1024 : Shape := ⟨2, ![2048, 1024]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S2048x128 : Shape := ⟨2, ![2048, 128]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128 : Shape := ⟨1, ![128]⟩
abbrev S2048x8 : Shape := ⟨2, ![2048, 8]⟩

abbrev nBuf : Space → Nat
  | .hbm => 16
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S1024x8, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x1024, .bf16⟩
  | .hbm, ⟨9, _⟩ => ⟨S1x1024, .f32⟩
  | .hbm, ⟨10, _⟩ => ⟨S2048x1024, .f32⟩
  | .hbm, ⟨11, _⟩ => ⟨S2048x1024, .bf16⟩
  | .hbm, ⟨12, _⟩ => ⟨S2048x128, .f32⟩
  | .hbm, ⟨13, _⟩ => ⟨S1x128, .f32⟩
  | .hbm, ⟨14, _⟩ => ⟨S1x128, .f32⟩
  | .hbm, ⟨15, _⟩ => ⟨S2048x8, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | .local _ .vmem, ⟨6, _⟩ => ⟨S1024x128, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x128, .f32⟩
  | .local _ .vmem, ⟨12, _⟩ => ⟨S256x128, .f32⟩
  | .local _ .vmem, ⟨13, _⟩ => ⟨S1x128, .f32⟩
  | .local _ .vmem, ⟨14, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RouterIdeal.lean ====
variable {F : FTy → Type} [FloatOps F] [Named F]
def κ : String → Option EReal := fun
  | "mask" => some ⊥
  | _ => none
-- ==== RouterRefIdeal.lean ====
abbrev S2048x1024 : Shape := ⟨2, ![2048, 1024]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x8 : Shape := ⟨2, ![2048, 8]⟩
abbrev S2048x2 : Shape := ⟨2, ![2048, 2]⟩
abbrev S2048x2x1 : Shape := ⟨3, ![2048, 2, 1]⟩
abbrev S8 : Shape := ⟨1, ![8]⟩
abbrev S1x1x8 : Shape := ⟨3, ![1, 1, 8]⟩
abbrev S2048x2x8 : Shape := ⟨3, ![2048, 2, 8]⟩
abbrev S128 : Shape := ⟨1, ![128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S1024x8, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x8, .f32⟩
  | .hbm, ⟨24, _⟩ => ⟨S_, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048x1, .f32⟩
  | .hbm, ⟨30, _⟩ => ⟨S2048x8, .f32⟩
  | .hbm, ⟨31, _⟩ => ⟨S2048x8, .f32⟩
  | .hbm, ⟨32, _⟩ => ⟨S2048x8, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x8, .f32⟩
  | .hbm, ⟨37, _⟩ => ⟨S2048x8, .f32⟩
  | .hbm, ⟨38, _⟩ => ⟨S2048x2, .f32⟩
  | .hbm, ⟨39, _⟩ => ⟨S2048x2, .i32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x2, .f32⟩
  | .hbm, ⟨44, _⟩ => ⟨S2048x2, .f32⟩
  | .hbm, ⟨45, _⟩ => ⟨S2048x2x1, .i32⟩
  | .hbm, ⟨46, _⟩ => ⟨S8, .i32⟩
  | .hbm, ⟨47, _⟩ => ⟨S1x1x8, .i32⟩
  | .hbm, ⟨48, _⟩ => ⟨S2048x2x8, .i32⟩
  | .hbm, ⟨49, _⟩ => ⟨S2048x2x8, .i32⟩
  | .hbm, ⟨50, _⟩ => ⟨S2048x2x8, .i1⟩
  | .hbm, ⟨51, _⟩ => ⟨S2048x2x8, .f32⟩
  | .hbm, ⟨52, _⟩ => ⟨S2048x2x1, .f32⟩
  | .hbm, ⟨53, _⟩ => ⟨S2048x2x8, .f32⟩
  | .hbm, ⟨54, _⟩ => ⟨S2048x2x8, .f32⟩
  | .hbm, ⟨55, _⟩ => ⟨S_, .f32⟩
  | .hbm, ⟨56, _⟩ => ⟨S2048x8, .f32⟩
  | .hbm, ⟨57, _⟩ => ⟨S_, .f32⟩
  | .hbm, ⟨58, _⟩ => ⟨S2048x8, .f32⟩
  | .hbm, ⟨59, _⟩ => ⟨S_, .f32⟩
  | .hbm, ⟨60, _⟩ => ⟨S8, .f32⟩
  | .hbm, ⟨61, _⟩ => ⟨S_, .i32⟩
  | .hbm, ⟨62, _⟩ => ⟨S_, .f32⟩
  | .hbm, ⟨63, _⟩ => ⟨S128, .f32⟩
  | .hbm, ⟨64, _⟩ => ⟨S1x128, .f32⟩
  | .hbm, ⟨65, _⟩ => ⟨S_, .f32⟩
  | .hbm, ⟨66, _⟩ => ⟨S8, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_values : Ref sig .tc := ⟨.hbm, 38, rfl⟩
abbrev main_indices : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_c : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_c_10 : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== Moe.lean ====
abbrev S2048x1024 : Shape := ⟨2, ![2048, 1024]⟩
abbrev S8x1024x1024 : Shape := ⟨3, ![8, 1024, 1024]⟩
abbrev S2048x128 : Shape := ⟨2, ![2048, 128]⟩
abbrev S1x128 : Shape := ⟨2, ![1, 128]⟩
abbrev S2048x8 : Shape := ⟨2, ![2048, 8]⟩
abbrev S8x2048 : Shape := ⟨2, ![8, 2048]⟩
abbrev S8x2048x1 : Shape := ⟨3, ![8, 2048, 1]⟩
abbrev S256x1024 : Shape := ⟨2, ![256, 1024]⟩
abbrev S1x256x1 : Shape := ⟨3, ![1, 256, 1]⟩
abbrev S1x1024x1024 : Shape := ⟨3, ![1, 1024, 1024]⟩
abbrev S1024x1024 : Shape := ⟨2, ![1024, 1024]⟩
abbrev S256x1 : Shape := ⟨2, ![256, 1]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 14
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S8x1024x1024, .f32⟩
  | .hbm, ⟨3, _⟩ => ⟨S8x1024x1024, .f32⟩
  | .hbm, ⟨4, _⟩ => ⟨S2048x128, .f32⟩
  | .hbm, ⟨5, _⟩ => ⟨S1x128, .f32⟩
  | .hbm, ⟨6, _⟩ => ⟨S1x128, .f32⟩
  | .hbm, ⟨7, _⟩ => ⟨S2048x8, .f32⟩
  | .hbm, ⟨8, _⟩ => ⟨S8x2048, .f32⟩
  | .hbm, ⟨9, _⟩ => ⟨S8x2048x1, .f32⟩
  | .hbm, ⟨10, _⟩ => ⟨S8x1024x1024, .bf16⟩
  | .hbm, ⟨11, _⟩ => ⟨S8x1024x1024, .bf16⟩
  | .hbm, ⟨12, _⟩ => ⟨S2048x1024, .f32⟩
  | .hbm, ⟨13, _⟩ => ⟨S1x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S8x1024x1024, .bf16⟩
  | .local _ .vmem, ⟨5, _⟩ => ⟨S8x1024x1024, .bf16⟩
  | .local _ .vmem, ⟨6, _⟩ => ⟨S1x256x1, .f32⟩
  | .local _ .vmem, ⟨7, _⟩ => ⟨S1x256x1, .f32⟩
  | .local _ .vmem, ⟨8, _⟩ => ⟨S1x128, .f32⟩
  | .local _ .vmem, ⟨9, _⟩ => ⟨S1x128, .f32⟩
  | .local _ .vmem, ⟨10, _⟩ => ⟨S256x1024, .f32⟩
  | .local _ .vmem, ⟨11, _⟩ => ⟨S256x1024, .f32⟩
  | .local _ .vmem, ⟨12, _⟩ => ⟨S1x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let arg1 : BitVec 32 := BitVec.ofNat 32 (i 1).val
  let v4 : Index := Scalar.indexCast arg1
  let c0_2 : Index := 0#32
  let c0_3 : Index := 0#32
  ![v4.toNat, 0, 0]
def k0_cond2 (i : grid0.Coords) : BitVec 1 :=
  let arg0 : BitVec 32 := BitVec.ofNat 32 (i 0).val
  let c0_i32_14 : BitVec 32 := 0#32
  let v23 : BitVec 1 := Scalar.cmpi .eq arg0 c0_i32_14
  let arg1 : BitVec 32 := BitVec.ofNat 32 (i 1).val
  let c0_i32_15 : BitVec 32 := 0#32
  let v24 : BitVec 1 := Scalar.cmpi .eq arg1 c0_i32_15
  let v25 : BitVec 1 := Scalar.andi v23 v24
  let v26 : BitVec 32 := Scalar.extui v25
  let c0_i32_16 : BitVec 32 := 0#32
  let v27 : BitVec 1 := Scalar.cmpi .ne v26 c0_i32_16
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== MoeRefIdeal.lean ====
abbrev S2048x1024 : Shape := ⟨2, ![2048, 1024]⟩
abbrev S8x1024x1024 : Shape := ⟨3, ![8, 1024, 1024]⟩
abbrev S2048x128 : Shape := ⟨2, ![2048, 128]⟩
abbrev S1x128 : Shape := ⟨2, ![1, 128]⟩
abbrev S2048x8x1024 : Shape := ⟨3, ![2048, 8, 1024]⟩
abbrev S_ : Shape := ⟨0, ![]⟩
abbrev S8x1024x2048 : Shape := ⟨3, ![8, 1024, 2048]⟩
abbrev S2048x8 : Shape := ⟨2, ![2048, 8]⟩
abbrev S2048x8x1 : Shape := ⟨3, ![2048, 8, 1]⟩

abbrev nBuf : Space → Nat
  | .hbm => 39
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S8x1024x1024, .f32⟩
  | .hbm, ⟨3, _⟩ => ⟨S8x1024x1024, .f32⟩
  | .hbm, ⟨4, _⟩ => ⟨S2048x128, .f32⟩
  | .hbm, ⟨5, _⟩ => ⟨S1x128, .f32⟩
  | .hbm, ⟨6, _⟩ => ⟨S1x128, .f32⟩
  | .hbm, ⟨7, _⟩ => ⟨S2048x1024, .f32⟩
  | .hbm, ⟨8, _⟩ => ⟨S2048x8x1024, .f32⟩
  | .hbm, ⟨9, _⟩ => ⟨S2048x8x1024, .f32⟩
  | .hbm, ⟨10, _⟩ => ⟨S2048x8x1024, .f32⟩
  | .hbm, ⟨11, _⟩ => ⟨S_, .f32⟩
  | .hbm, ⟨12, _⟩ => ⟨S2048x8x1024, .f32⟩
  | .hbm, ⟨13, _⟩ => ⟨S2048x8x1024, .f32⟩
  | .hbm, ⟨14, _⟩ => ⟨S_, .f32⟩
  | .hbm, ⟨15, _⟩ => ⟨S2048x8x1024, .f32⟩
  | .hbm, ⟨16, _⟩ => ⟨S2048x8x1024, .f32⟩
  | .hbm, ⟨17, _⟩ => ⟨S2048x8x1024, .f32⟩
  | .hbm, ⟨18, _⟩ => ⟨S8x1024x2048, .f32⟩
  | .hbm, ⟨19, _⟩ => ⟨S2048x8x1024, .f32⟩
  | .hbm, ⟨20, _⟩ => ⟨S2048x8, .f32⟩
  | .hbm, ⟨21, _⟩ => ⟨S2048x8x1, .f32⟩
  | .hbm, ⟨22, _⟩ => ⟨S2048x8x1024, .f32⟩
  | .hbm, ⟨23, _⟩ => ⟨S2048x8x1024, .f32⟩
  | .hbm, ⟨24, _⟩ => ⟨S_, .f32⟩
  | .hbm, ⟨25, _⟩ => ⟨S2048x1024, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S_, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2048x1024, .f32⟩
  | .hbm, ⟨38, _⟩ => ⟨S1x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Proof.RouterMath.lean ====
/-
  The two greatest of eight numbers: when the places are untied, the two sides' selections agree.
-/
module

public import Idealize.ShloMosaic.PureOps.Ideal
public import Idealize.ShloMosaic.Lib.SortFacts
public import Idealize.ShloMosaic.Lib.IdealHost

@[expose] public section

noncomputable section

namespace Cert.RouterMath

open Idealize.ShloMosaic

/-- `i` holds the greatest of eight numbers and `j` the second greatest, both alone. -/
structure Top (p : Fin 8 → EReal) (i j : Fin 8) : Prop where
  ne : i ≠ j
  first : ∀ e, e ≠ i → p e < p i
  second : ∀ e, e ≠ i → e ≠ j → p e < p j

/-- Untied numbers have a greatest and a second greatest. -/
theorem exists_top (p : Fin 8 → EReal)
    (h : ∀ e, (Finset.univ.filter fun e' => p e' = p e).card = 1 ∨ 2 ≤ (Finset.univ.filter fun e' => p e < p e').card) :
    ∃ i j, Top p i j := by
  have uniq : ∀ e, (Finset.univ.filter fun e' => p e' = p e).card = 1 → ∀ e', p e' = p e → e' = e := by
    intro e he e' h'
    obtain ⟨a, ha⟩ := Finset.card_eq_one.mp he
    have h1 : e' ∈ ({a} : Finset (Fin 8)) := ha ▸ Finset.mem_filter.mpr ⟨Finset.mem_univ _, h'⟩
    have h2 : e ∈ ({a} : Finset (Fin 8)) := ha ▸ Finset.mem_filter.mpr ⟨Finset.mem_univ _, rfl⟩
    rw [Finset.mem_singleton.mp h1, Finset.mem_singleton.mp h2]
  obtain ⟨i, -, hi⟩ := Finset.exists_max_image (Finset.univ : Finset (Fin 8)) p ⟨0, Finset.mem_univ _⟩
  have hif : ∀ e, e ≠ i → p e < p i := by
    intro e he
    rcases h i with h1 | h1
    · exact lt_of_le_of_ne (hi e (Finset.mem_univ _)) fun h2 => he (uniq i h1 e h2)
    · have h0 : (Finset.univ.filter fun e' => p i < p e') = ∅ :=
        Finset.filter_eq_empty_iff.mpr fun e' _ h2 => absurd (hi e' (Finset.mem_univ _)) (not_le.mpr h2)
      rw [h0] at h1; simp at h1
  obtain ⟨j, hj, hjm⟩ := Finset.exists_max_image (Finset.univ.erase i) p ⟨i + 1, by
    refine Finset.mem_erase.mpr ⟨?_, Finset.mem_univ _⟩
    exact (by decide : ∀ a : Fin 8, a + 1 ≠ a) i⟩
  have hji : j ≠ i := (Finset.mem_erase.mp hj).1
  refine ⟨i, j, hji.symm, hif, fun e he hej => ?_⟩
  rcases h j with h1 | h1
  · exact lt_of_le_of_ne (hjm e (Finset.mem_erase.mpr ⟨he, Finset.mem_univ _⟩)) fun h2 => hej (uniq j h1 e h2)
  · exfalso
    have h0 : (Finset.univ.filter fun e' => p j < p e') ⊆ {i} := fun e' he' => by
      by_contra hne
      have := hjm e' (Finset.mem_erase.mpr ⟨fun h => hne (Finset.mem_singleton.mpr h), Finset.mem_univ _⟩)
      exact absurd (Finset.mem_filter.mp he').2 (not_lt.mpr this)
    have := Finset.card_le_card h0
    rw [Finset.card_singleton] at this
    omega

/-- The stable descending sort puts the greatest first and the second greatest second. -/
theorem sorted_top (p : Fin 8 → EReal) (i j : Fin 8) (h : Top p i j) (B : Fin 8 → Fin 8 → Bool)
    (hB : ∀ a b, B a b = true ↔ p b < p a) : sortedFrom B 0 = i ∧ sortedFrom B 1 = j := by
  have hn : ∀ a b, B a b = false ↔ p a ≤ p b := fun a b => by
    rw [← not_lt, ← hB, Bool.not_eq_true]
  have inv : ∀ a b : Fin 8, a < b → p (sortedFrom B b) ≤ p (sortedFrom B a) := fun a b hab =>
    (hn _ _).mp (sortedFrom_noInversion B B (fun a b hh => (hn _ _).mpr ((hB _ _).mp hh).le) (fun _ _ hh => hh)
      (fun a b c h1 h2 => (hn _ _).mpr (((hn _ _).mp h1).trans ((hn _ _).mp h2))) a b hab)
  have h0 : sortedFrom B 0 = i := by
    by_contra hne
    obtain ⟨a, ha⟩ := sortedFrom_surjective B i
    have : a ≠ 0 := fun h => hne (h ▸ ha)
    have h1 := inv 0 a (Fin.pos_of_ne_zero this)
    rw [ha] at h1
    exact absurd h1 (not_le.mpr (h.first _ hne))
  refine ⟨h0, ?_⟩
  by_contra hne
  obtain ⟨a, ha⟩ := sortedFrom_surjective B j
  have ha0 : a ≠ 0 := fun hh => h.ne (by rw [← h0, ← ha, hh])
  have ha1 : a ≠ 1 := fun hh => hne (hh ▸ ha)
  have h1 := inv 1 a ((by decide : ∀ a : Fin 8, a ≠ 0 → a ≠ 1 → 1 < a) a ha0 ha1)
  rw [ha] at h1
  have hi : sortedFrom B 1 ≠ i := fun hh => by
    have := sortedFrom_injective B (hh.trans h0.symm)
    exact absurd this (by decide)
  exact absurd h1 (not_le.mpr (h.second _ hi hne))

/-- A fold of the greater from the bottom is a supremum. -/
theorem fold_max_bot {n : ℕ} (f : Fin n → EReal) : Finset.fold max (Ideal.ofBits .f32 0xFF800000#32) f Finset.univ = Finset.univ.sup f := by
  rw [show Ideal.ofBits .f32 0xFF800000#32 = (⊥ : EReal) by simp [Ideal.ofBits, Ideal.ieee]]
  rfl

/-- A value attained that bounds the rest is the supremum. -/
theorem sup_eq {n : ℕ} (f : Fin n → EReal) (a : Fin n) (h : ∀ b, f b ≤ f a) : Finset.univ.sup f = f a :=
  le_antisymm (Finset.sup_le fun b _ => h b) (Finset.le_sup (Finset.mem_univ a))

/-- Eight numbers on the first of 128 lanes, a filler on the rest. -/
def lanes (p : Fin 8 → EReal) (c : EReal) (e : Fin 128) : EReal := if h : e.val < 8 then p ⟨e.val, h⟩ else c

theorem lanes_cast (p : Fin 8 → EReal) (c : EReal) (e : Fin 8) : lanes p c (e.castLE (by decide)) = p e :=
  dif_pos e.isLt

theorem lanes_pad (p : Fin 8 → EReal) (c : EReal) (e : Fin 128) (h : ¬ e.val < 8) : lanes p c e = c := dif_neg h

/-- The filler at the bottom leaves the supremum. -/
theorem sup_lanes (p : Fin 8 → EReal) : Finset.univ.sup (lanes p ⊥) = Finset.univ.sup p := by
  apply le_antisymm
  · refine Finset.sup_le fun e _ => ?_
    unfold lanes
    split
    · exact Finset.le_sup (f := p) (Finset.mem_univ _)
    · exact bot_le
  · refine Finset.sup_le fun e _ => ?_
    rw [← lanes_cast p ⊥ e]
    exact Finset.le_sup (f := lanes p ⊥) (Finset.mem_univ _)

/-- A sum over the lanes of zero fillers. -/
theorem sum_lanes (f : Fin 128 → EReal) (h : ∀ e : Fin 128, ¬ e.val < 8 → f e = 0) :
    ∑ e : Fin 128, f e = ∑ e : Fin 8, f (e.castLE (by decide)) := by
  have := Fin.sum_univ_add (a := 8) (b := 120) f
  rw [show (∑ e : Fin 128, f e) = ∑ e : Fin (8 + 120), f e from rfl, this,
    Finset.sum_eq_zero (s := Finset.univ) (f := fun e : Fin 120 => f (Fin.natAdd 8 e)) fun e _ => h _ (by simp), add_zero]
  rfl

/-- The softmax of eight numbers. -/
def soft (l : Fin 8 → EReal) (e : Fin 8) : EReal :=
  Ideal.div (Ideal.exp (l e - Finset.univ.sup l)) (∑ k : Fin 8, Ideal.exp (l k - Finset.univ.sup l))

/-- The softmax as the lanes compute it. -/
def softL (L : Fin 128 → EReal) (e : Fin 128) : EReal :=
  Ideal.div (Ideal.exp (L e - Finset.univ.sup L)) (∑ k : Fin 128, Ideal.exp (L k - Finset.univ.sup L))

theorem exp_pad (l : Fin 8 → EReal) (x : EReal) (e : Fin 128) (h : ¬ e.val < 8) : Ideal.exp (lanes l ⊥ e - x) = 0 := by
  rw [lanes_pad l ⊥ e h, sub_eq_add_neg, EReal.bot_add]; rfl

theorem sum_exp (l : Fin 8 → EReal) : ∑ k : Fin 128, Ideal.exp (lanes l ⊥ k - Finset.univ.sup (lanes l ⊥)) = ∑ k : Fin 8, Ideal.exp (l k - Finset.univ.sup l) := by
  rw [sum_lanes _ fun e h => exp_pad l _ e h, sup_lanes]
  exact Finset.sum_congr rfl fun k _ => by rw [lanes_cast]

theorem softL_cast (l : Fin 8 → EReal) (e : Fin 8) : softL (lanes l ⊥) (e.castLE (by decide)) = soft l e := by
  unfold softL soft
  rw [sum_exp, sup_lanes, lanes_cast]

theorem exp_nonneg (x : EReal) : 0 ≤ Ideal.exp x := by
  induction x using EReal.rec with
  | bot => exact le_refl _
  | top => exact le_top
  | coe r => exact EReal.coe_nonneg.mpr (Real.exp_pos r).le

theorem sum_exp_ne (l : Fin 8 → EReal) (i j : Fin 8) (h : Top (soft l) i j) : ∑ k : Fin 8, Ideal.exp (l k - Finset.univ.sup l) ≠ 0 := by
  intro h0
  have hz := (Finset.sum_eq_zero_iff_of_nonneg fun k _ => exp_nonneg _).mp h0 i (Finset.mem_univ _)
  have h1 : soft l i = ⊥ := by
    unfold soft
    rw [h0, hz, Ideal.div, if_pos rfl, if_neg (lt_irrefl _)]
  have := h.first j h.ne.symm
  rw [h1] at this
  exact absurd this not_lt_bot

theorem softL_pad (l : Fin 8 → EReal) (i j : Fin 8) (h : Top (soft l) i j) (e : Fin 128) (he : ¬ e.val < 8) : softL (lanes l ⊥) e = 0 := by
  unfold softL
  rw [sum_exp, exp_pad l _ e he]
  exact Ideal.zero_div (sum_exp_ne l i j h)

theorem soft_nonneg (l : Fin 8 → EReal) (i j : Fin 8) (h : Top (soft l) i j) (e : Fin 8) : 0 ≤ soft l e := by
  unfold soft
  rw [Ideal.div, if_neg (sum_exp_ne l i j h)]
  exact mul_nonneg (exp_nonneg _) (EReal.inv_nonneg_of_nonneg (Finset.sum_nonneg fun k _ => exp_nonneg _))

section
variable (p : Fin 8 → EReal) (i j : Fin 8) (h : Top p i j) (hp : ∀ e, 0 ≤ p e) (c : EReal) (hc : c < 0)
include h hp hc

theorem sup1 : Finset.univ.sup (lanes p c) = p i := by
  rw [← lanes_cast p c i]
  refine sup_eq _ _ fun b => ?_
  rw [lanes_cast]
  unfold lanes
  split
  · rename_i hb
    by_cases hbi : (⟨b.val, hb⟩ : Fin 8) = i
    · rw [hbi]
    · exact (h.first _ hbi).le
  · exact (hc.trans_le (hp i)).le

theorem is1 (e : Fin 128) : lanes p c e = p i ↔ e.val = i.val := by
  constructor
  · intro he
    by_contra hne
    unfold lanes at he
    split at he
    · rename_i hb
      exact absurd he (h.first ⟨e.val, hb⟩ fun hh => hne (congrArg Fin.val hh)).ne
    · exact absurd he (hc.trans_le (hp i)).ne
  · intro he
    rw [show e = i.castLE (by decide) from Fin.ext he, lanes_cast]

/-- The lanes with the greatest struck out. -/
def struck (p : Fin 8 → EReal) (i : Fin 8) (c : EReal) (e : Fin 128) : EReal := if lanes p c e = p i then c else lanes p c e

theorem struck_first (e : Fin 128) (he : e.val = i.val) : struck p i c e = c := if_pos ((is1 p i j h hp c hc e).mpr he)
theorem struck_rest (e : Fin 128) (he : e.val ≠ i.val) : struck p i c e = lanes p c e := if_neg fun hh => he ((is1 p i j h hp c hc e).mp hh)

theorem struck_j : struck p i c (j.castLE (by decide)) = p j := by
  rw [struck_rest p i j h hp c hc _ fun hh => h.ne (Fin.ext hh).symm, lanes_cast]

theorem sup2 : Finset.univ.sup (struck p i c) = p j := by
  rw [← struck_j p i j h hp c hc]
  refine sup_eq _ _ fun b => ?_
  rw [struck_j p i j h hp c hc]
  by_cases hbi : b.val = i.val
  · rw [struck_first p i j h hp c hc b hbi]
    exact (hc.trans_le (hp j)).le
  · rw [struck_rest p i j h hp c hc b hbi]
    unfold lanes
    split
    · rename_i hb
      by_cases hbj : (⟨b.val, hb⟩ : Fin 8) = j
      · rw [hbj]
      · exact (h.second _ (fun hh => hbi (congrArg Fin.val hh)) hbj).le
    · exact (hc.trans_le (hp j)).le

theorem is2 (e : Fin 128) : struck p i c e = p j ↔ e.val = j.val := by
  constructor
  · intro he
    by_contra hne
    by_cases hbi : e.val = i.val
    · rw [struck_first p i j h hp c hc e hbi] at he
      exact absurd he (hc.trans_le (hp j)).ne
    · rw [struck_rest p i j h hp c hc e hbi] at he
      unfold lanes at he
      split at he
      · rename_i hb
        exact absurd he (h.second ⟨e.val, hb⟩ (fun hh => hbi (congrArg Fin.val hh)) fun hh => hne (congrArg Fin.val hh)).ne
      · exact absurd he (hc.trans_le (hp j)).ne
  · intro he
    rw [show e = j.castLE (by decide) from Fin.ext he, struck_j p i j h hp c hc]

end

/-- One where a lane is a place, zero elsewhere. -/
def ind (a b : ℕ) : EReal := if a = b then 1 else 0

/-- The combining weight of an expert: the two greatest probabilities over their sum. -/
def comb (p : Fin 8 → EReal) (i j : Fin 8) (e : ℕ) : EReal :=
  Ideal.div (ind e i.val * p i + ind e j.val * p j) (p i + p j)

theorem comb_ref (p : Fin 8 → EReal) (i j : Fin 8) (h : Top p i j) (hp : ∀ e, 0 ≤ p e) (e : ℕ) :
    ind i.val e * Ideal.div (p i) (p i + p j) + ind j.val e * Ideal.div (p j) (p i + p j) = comb p i j e := by
  have hs : p i + p j ≠ 0 := (add_pos_of_pos_of_nonneg ((hp j).trans_lt (h.first j h.ne.symm)) (hp j)).ne'
  unfold comb ind
  by_cases h1 : e = i.val
  · subst h1
    have h2 : ¬ i.val = j.val := fun hh => h.ne (Fin.ext hh)
    simp [h2, if_neg (Ne.symm h2)]
  · by_cases h2 : e = j.val
    · subst h2
      simp [h1, if_neg (Ne.symm h1)]
    · simp [h1, h2, if_neg (Ne.symm h1), if_neg (Ne.symm h2), Ideal.zero_div hs]

/-- A comparison's bit as a number. -/
theorem bit_ind (b : Bool) : FloatOps.sitofp (F := Ideal) .f32 (BitVec.setWidth 32 (BitVec.ofBool b)) = if b then (1 : EReal) else 0 := by
  cases b <;> simp [FloatOps.sitofp]

theorem neg_one : Ideal.ofBits .f32 0xBF800000#32 < 0 := by
  rw [show Ideal.ofBits .f32 0xBF800000#32 = ((-1 : ℝ) : EReal) by simp [Ideal.ofBits, Ideal.ieee, -EReal.coe_mul]; norm_num]
  exact EReal.coe_neg'.mpr (by norm_num)

end Cert.RouterMath

end
-- ==== Proof.RouterVal.lean ====
/-
  The output projection and router region's five result arrays, over the extended reals.
-/
module

public import proofs.«01_k».proof.Proof.Gen.RouterIdeal.Frame
public import Idealize.ShloMosaic.Lib.Pipeline.ValueKit
public import Idealize.ShloMosaic.Lib.Pointwise
public import Idealize.ShloMosaic.Lib.Claim
public import proofs.«01_k».proof.Proof.RouterMath

@[expose] public section

set_option maxRecDepth 16384

noncomputable section

namespace Cert.RouterIdeal.Val

open Cert.RouterIdeal Cert.RouterIdeal.Gen
open Idealize.ShloMosaic Idealize.ShloMosaic.TcCoe Idealize.SL.Sem
open Idealize.ShloMosaic.Pipeline (Dat)

/-- The hidden state after the output projection and the residual. -/
def h2 (A R : FVec Ideal S2048x1024 .f32) (W : FVec Ideal S1024x1024 .bf16) (t : Fin 2048) (d : Fin 1024) : EReal :=
  (∑ k : Fin 1024, A (ix2 t k) * W (ix2 k d)) + R (ix2 t d)

/-- A row's normalised entry. -/
def nrm (h : Fin 1024 → EReal) (w : FVec Ideal S1x1024 .f32) (k : Fin 1024) : EReal :=
  h k * Ideal.rsqrt (Ideal.div (∑ j : Fin 1024, h j * h j) (Ideal.ofBits .f32 0x44800000#32) + Ideal.ofBits .f32 0x3727C5AC#32) * w (ix2 0 k)

theorem mask : Named.named (F := Ideal) Cert.RouterIdeal.κ "mask" (φ := .f32) 0xF149F2CA#32 = (⊥ : EReal) :=
  IdealRules.named_const.ideal_named_scalar _ _ _ _ rfl

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![0, 0] ∧ win0_9.index t = ![0, 0] :=
  (by decide +kernel : ∀ t : Fin grid0.N, _)

/-- The token a tile row is. -/
def tok (t : Fin cfg0.N) (r : Fin 256) : Fin 2048 :=
  ⟨t.val * 256 + r.val, by have := t.isLt; have h : cfg0.N = 8 := N_0; omega⟩

theorem pay2_apply (v0 : Vec Ideal S256x1024 .f32) (v2 : Vec Ideal S1024x1024 .bf16) (v5 : Vec Ideal S256x1024 .f32) (r : Fin 256) (d : Fin 1024) :
    k0_pay2 (F := Ideal) v0 v2 v5 (ix2 r d) = (∑ k : Fin 1024, v0 (ix2 r k) * v2 (ix2 k d)) + v5 (ix2 r d) := by
  pointwise [k0_pay2]

theorem pay3_apply (v0 : Vec Ideal S256x1024 .f32) (v2 : Vec Ideal S1024x1024 .bf16) (v5 : Vec Ideal S256x1024 .f32) (v18 : Vec Ideal S1x1024 .f32) (r : Fin 256) (d : Fin 1024) :
    k0_pay3 (F := Ideal) v0 v2 v5 v18 (ix2 r d) = nrm (fun d => k0_pay2 (F := Ideal) v0 v2 v5 (ix2 r d)) v18 d := by
  pointwise [k0_pay3, nrm]

/-- The logits of a row against the first eight columns. -/
def lg (x : Fin 1024 → EReal) (W : FVec Ideal S1024x128 .f32) (e : Fin 8) : EReal := ∑ k : Fin 1024, x k * W (ix2 k (e.castLE (by decide)))

theorem pay6_apply (v0 : Vec Ideal S256x1024 .f32) (v2 : Vec Ideal S1024x1024 .bf16) (v5 : Vec Ideal S256x1024 .f32) (v18 : Vec Ideal S1x1024 .f32) (v24 : Vec Ideal S1024x128 .f32) (r : Fin 256) (e : Fin 128) :
    k0_pay6 (F := Ideal) v0 v2 v5 v18 v24 (ix2 r e) = RouterMath.lanes (lg (fun k => k0_pay3 (F := Ideal) v0 v2 v5 v18 (ix2 r k)) v24) ⊥ e := by
  pointwise [k0_pay6, k0_pay5]
  rw [mask]
  word_cmp
  unfold RouterMath.lanes
  by_cases h : e.val < 8
  · rw [if_pos (by omega), dif_pos h]; rfl
  · rw [if_neg (by omega), dif_neg h]

theorem pay7_apply (v0 : Vec Ideal S256x1024 .f32) (v2 : Vec Ideal S1024x1024 .bf16) (v5 : Vec Ideal S256x1024 .f32) (v18 : Vec Ideal S1x1024 .f32) (v24 : Vec Ideal S1024x128 .f32) (r : Fin 256) (e : Fin 128) :
    k0_pay7 (F := Ideal) v0 v2 v5 v18 v24 (ix2 r e) = Finset.univ.sup (RouterMath.lanes (lg (fun k => k0_pay3 (F := Ideal) v0 v2 v5 v18 (ix2 r k)) v24) ⊥) := by
  pointwise [k0_pay7]
  rw [RouterMath.fold_max_bot]
  exact congrArg _ (funext fun x => pay6_apply v0 v2 v5 v18 v24 r x)

section
variable (v31 v34 : FVec Ideal S256x128 .f32) (r : Fin 256) (l : Fin 8 → EReal)
    (h31 : ∀ e : Fin 128, v31 (ix2 r e) = RouterMath.lanes l ⊥ e) (h34 : ∀ e : Fin 128, v34 (ix2 r e) = Finset.univ.sup (RouterMath.lanes l ⊥))
include h31 h34

theorem pay8_apply (e : Fin 128) : k0_pay8 (F := Ideal) v31 v34 (ix2 r e) = RouterMath.softL (RouterMath.lanes l ⊥) e := by
  pointwise [k0_pay8]
  simp only [h31, h34]
  rfl

theorem pay9_apply (e : Fin 128) : k0_pay9 (F := Ideal) k0_pay5 v31 v34 (ix2 r e) = RouterMath.lanes (RouterMath.soft l) (Ideal.ofBits .f32 0xBF800000#32) e := by
  pointwise [k0_pay9, k0_pay5]
  rw [pay8_apply v31 v34 r l h31 h34]
  word_cmp
  unfold RouterMath.lanes
  by_cases h : e.val < 8
  · rw [if_pos (by omega), dif_pos h]
    exact RouterMath.softL_cast l ⟨e.val, h⟩
  · rw [if_neg (by omega), dif_neg h]

variable (i j : Fin 8) (hT : RouterMath.Top (RouterMath.soft l) i j)
include hT

theorem pay10_apply : k0_pay10 (F := Ideal) k0_pay5 v31 v34 (ix2 r 0) = RouterMath.soft l i := by
  pointwise [k0_pay10]
  rw [RouterMath.fold_max_bot]
  refine Eq.trans ?_ (RouterMath.sup1 _ i j hT (RouterMath.soft_nonneg l i j hT) _ RouterMath.neg_one)
  exact congrArg _ (funext fun x => pay9_apply v31 v34 r l h31 h34 x)

theorem pay11_apply (e : Fin 128) : k0_pay11 (F := Ideal) k0_pay5 v31 v34 (ix2 r e) = BitVec.ofBool (decide (e.val = i.val)) := by
  pointwise [k0_pay11]
  rw [pay9_apply v31 v34 r l h31 h34, pay10_apply v31 v34 r l h31 h34 i j hT]
  exact congrArg _ (decide_eq_decide.mpr (RouterMath.is1 _ i j hT (RouterMath.soft_nonneg l i j hT) _ RouterMath.neg_one e))

theorem pay12_apply (e : Fin 128) : k0_pay12 (F := Ideal) k0_pay5 v31 v34 (ix2 r e) = RouterMath.struck (RouterMath.soft l) i (Ideal.ofBits .f32 0xBF800000#32) e := by
  pointwise [k0_pay12]
  rw [pay11_apply v31 v34 r l h31 h34 i j hT, pay9_apply v31 v34 r l h31 h34]
  unfold RouterMath.struck
  have hk := RouterMath.is1 _ i j hT (RouterMath.soft_nonneg l i j hT) _ RouterMath.neg_one e
  by_cases he : e.val = i.val
  · rw [if_pos (hk.mpr he), decide_eq_true he]; rfl
  · rw [if_neg fun hh => he (hk.mp hh), decide_eq_false he]; rfl

theorem pay13_apply : k0_pay13 (F := Ideal) k0_pay5 v31 v34 (ix2 r 0) = RouterMath.soft l j := by
  pointwise [k0_pay13]
  rw [RouterMath.fold_max_bot]
  refine Eq.trans ?_ (RouterMath.sup2 _ i j hT (RouterMath.soft_nonneg l i j hT) _ RouterMath.neg_one)
  exact congrArg _ (funext fun x => pay12_apply v31 v34 r l h31 h34 i j hT x)

theorem pay14_apply (e : Fin 128) : k0_pay14 (F := Ideal) k0_pay5 v31 v34 (ix2 r e) = BitVec.ofBool (decide (e.val = j.val)) := by
  pointwise [k0_pay14]
  rw [pay12_apply v31 v34 r l h31 h34 i j hT, pay13_apply v31 v34 r l h31 h34 i j hT]
  exact congrArg _ (decide_eq_decide.mpr (RouterMath.is2 _ i j hT (RouterMath.soft_nonneg l i j hT) _ RouterMath.neg_one e))

theorem pay15_apply (e : Fin 128) : k0_pay15 (F := Ideal) k0_pay5 v31 v34 (ix2 r e) = RouterMath.comb (RouterMath.soft l) i j e.val := by
  pointwise [k0_pay15]
  rw [pay11_apply v31 v34 r l h31 h34 i j hT, pay14_apply v31 v34 r l h31 h34 i j hT, pay10_apply v31 v34 r l h31 h34 i j hT, pay13_apply v31 v34 r l h31 h34 i j hT,
    RouterMath.bit_ind, RouterMath.bit_ind]
  simp only [decide_eq_true_eq]
  rfl

end

theorem pay18_apply (v31 v34 : FVec Ideal S256x128 .f32) (v74 : FVec Ideal S1x128 .f32) (l : Fin 256 → Fin 8 → EReal)
    (h31 : ∀ r, ∀ e : Fin 128, v31 (ix2 r e) = RouterMath.lanes (l r) ⊥ e) (h34 : ∀ r, ∀ e : Fin 128, v34 (ix2 r e) = Finset.univ.sup (RouterMath.lanes (l r) ⊥))
    (i j : Fin 256 → Fin 8) (hT : ∀ r, RouterMath.Top (RouterMath.soft (l r)) (i r) (j r)) (e : Fin 128) :
    k0_pay18 (F := Ideal) k0_pay5 v31 v34 v74 (ix2 0 e) = v74 (ix2 0 e) + ∑ r : Fin 256, (RouterMath.ind e.val (i r).val + RouterMath.ind e.val (j r).val) := by
  pointwise [k0_pay18]
  refine congrArg (_ + ·) (Finset.sum_congr rfl fun r _ => ?_)
  rw [pay11_apply v31 v34 r _ (h31 r) (h34 r) _ _ (hT r), pay14_apply v31 v34 r _ (h31 r) (h34 r) _ _ (hT r), RouterMath.bit_ind, RouterMath.bit_ind]
  simp only [decide_eq_true_eq]
  rfl

theorem pay1_apply (v40 : FVec Ideal S256x128 .f32) (v80 : FVec Ideal S1x128 .f32) (e : Fin 128) :
    k0_pay1 (F := Ideal) v40 v80 (ix2 0 e) = v80 (ix2 0 e) + ∑ r : Fin 256, v40 (ix2 r e) := by
  pointwise [k0_pay1]

/-- A token's logits. -/
def logit (A R : FVec Ideal S2048x1024 .f32) (W : FVec Ideal S1024x1024 .bf16) (w : FVec Ideal S1x1024 .f32) (WR : FVec Ideal S1024x128 .f32) (t : Fin 2048) : Fin 8 → EReal :=
  lg (fun k => nrm (fun d => h2 A R W t d) w k) WR

section
variable (c : Dev nD) (t : Fin cfg0.N) (r : Fin 256)

theorem row2 (d : Fin 1024) : k0_pay2 (F := Ideal) (iblk m c 0 t) (iblk m c 2 t) (iblk m c 1 t) (ix2 r d)
    = h2 (V m c main_arg0) (V m c main_arg1) (V m c main_v1) (tok t r) d := by
  rw [pay2_apply]
  unfold h2
  blk_point [iblk, idx t]
  all_goals rfl

theorem row3 (k : Fin 1024) : k0_pay3 (F := Ideal) (iblk m c 0 t) (iblk m c 2 t) (iblk m c 1 t) (iblk m c 3 t) (ix2 r k)
    = nrm (fun d => h2 (V m c main_arg0) (V m c main_arg1) (V m c main_v1) (tok t r) d) (V m c main_v2) k := by
  rw [pay3_apply, show (fun d => k0_pay2 (F := Ideal) (iblk m c 0 t) (iblk m c 2 t) (iblk m c 1 t) (ix2 r d)) = fun d => h2 (V m c main_arg0) (V m c main_arg1) (V m c main_v1) (tok t r) d from funext fun d => row2 m c t r d]
  unfold nrm
  refine Ideal.mul_congr rfl ?_
  blk_point [iblk, idx t]

theorem rowl : lg (fun k => k0_pay3 (F := Ideal) (iblk m c 0 t) (iblk m c 2 t) (iblk m c 1 t) (iblk m c 3 t) (ix2 r k)) (iblk m c 4 t)
    = logit (V m c main_arg0) (V m c main_arg1) (V m c main_v1) (V m c main_v2) (V m c main_v0) (tok t r) := by
  rw [show (fun k => k0_pay3 (F := Ideal) (iblk m c 0 t) (iblk m c 2 t) (iblk m c 1 t) (iblk m c 3 t) (ix2 r k)) = fun k => nrm (fun d => h2 (V m c main_arg0) (V m c main_arg1) (V m c main_v1) (tok t r) d) (V m c main_v2) k from funext fun k => row3 m c t r k]
  funext e
  unfold logit lg
  refine Finset.sum_congr rfl fun k _ => Ideal.mul_congr rfl ?_
  blk_point [iblk, idx t]

/-- The masked logits of a block and their greatest, as the later stages read them. -/
abbrev b31 := k0_pay6 (F := Ideal) (iblk m c 0 t) (iblk m c 2 t) (iblk m c 1 t) (iblk m c 3 t) (iblk m c 4 t)
abbrev b34 := k0_pay7 (F := Ideal) (iblk m c 0 t) (iblk m c 2 t) (iblk m c 1 t) (iblk m c 3 t) (iblk m c 4 t)
/-- A token's logits at the region's entry. -/
abbrev tl (t : Fin 2048) := logit (V m c main_arg0) (V m c main_arg1) (V m c main_v1) (V m c main_v2) (V m c main_v0) t

theorem b31_apply (e : Fin 128) : b31 m c t (ix2 r e) = RouterMath.lanes (tl m c (tok t r)) ⊥ e := by
  rw [b31, pay6_apply, rowl]
theorem b34_apply (e : Fin 128) : b34 m c t (ix2 r e) = Finset.univ.sup (RouterMath.lanes (tl m c (tok t r)) ⊥) := by
  rw [b34, pay7_apply, rowl]

end

theorem final5 (c : Dev nD) : (dats m 0 c).arrAt 5 cfg0.N
    = (fun y => h2 (V m c main_arg0) (V m c main_arg1) (V m c main_v1) (y 0) (y 1) : FVec Ideal S2048x1024 .f32) := by
  refine (dats m 0 c).arrAt_eq_of_covers 5 _ (by decide +kernel) fun t hf y => ?_
  blk_simp
  rw [after0_5]
  by_cases h0 : t.val % 8 = 0
  · rw [outsAt0_A m c t h0]
    frame_out
    obtain ⟨r, d, rfl⟩ : ∃ (r : Fin 256) (d : Fin 1024), y = ix2 r d := ⟨y 0, y 1, eq_ix2 y⟩
    pointwise [k0_pay2, h2]
    blk_point [iblk, idx t]
  · rw [outsAt0_B m c t h0]
    frame_out
    obtain ⟨r, d, rfl⟩ : ∃ (r : Fin 256) (d : Fin 1024), y = ix2 r d := ⟨y 0, y 1, eq_ix2 y⟩
    pointwise [k0_pay2, h2]
    blk_point [iblk, idx t]

theorem sum_tok (f : Fin 2048 → EReal) : ∑ p : Fin cfg0.N, ∑ r : Fin 256, f (tok p r) = ∑ t : Fin 2048, f t :=
  Fin.sum_mul_add_congr (fun _ _ _ => rfl) (by rw [show cfg0.N = 8 from N_0])

theorem at6 (t : Fin cfg0.N) (r : Fin 256) (d : Fin 1024) (G : FVec Ideal S2048x1024 .bf16) :
    G (ix2 (tok t r) d) = G ((win0_6.blk t).view.emb (ix2 r d)) := by
  blk_ext [idx t]
  all_goals rfl

theorem at7 (t : Fin cfg0.N) (r : Fin 256) (d : Fin 128) (G : FVec Ideal S2048x128 .f32) :
    G (ix2 (tok t r) d) = G ((win0_7.blk t).view.emb (ix2 r d)) := by
  blk_ext [idx t]
  all_goals rfl

theorem final6 (c : Dev nD) : (dats m 0 c).arrAt 6 cfg0.N
    = (fun y => nrm (fun d => h2 (V m c main_arg0) (V m c main_arg1) (V m c main_v1) (y 0) d) (V m c main_v2) (y 1) : FVec Ideal S2048x1024 .bf16) := by
  refine (dats m 0 c).arrAt_eq_of_covers 6 _ (by decide +kernel) fun t hf y => ?_
  blk_simp
  rw [after0_6]
  obtain ⟨r, d, rfl⟩ : ∃ (r : Fin 256) (d : Fin 1024), y = ix2 r d := ⟨y 0, y 1, eq_ix2 y⟩
  by_cases h0 : t.val % 8 = 0
  · rw [outsAt0_A m c t h0]
    frame_out
    exact (row3 m c t r d).trans (at6 t r d fun y => nrm (fun d => h2 (V m c main_arg0) (V m c main_arg1) (V m c main_v1) (y 0) d) (V m c main_v2) (y 1))
  · rw [outsAt0_B m c t h0]
    frame_out
    exact (row3 m c t r d).trans (at6 t r d fun y => nrm (fun d => h2 (V m c main_arg0) (V m c main_arg1) (V m c main_v1) (y 0) d) (V m c main_v2) (y 1))

/-- The combining weights on the lanes. -/
def comb7 (c : Dev nD) (i j : Fin 2048 → Fin 8) : FVec Ideal S2048x128 .f32 :=
  fun y => RouterMath.comb (RouterMath.soft (tl m c (y 0))) (i (y 0)) (j (y 0)) (y 1).val

section
variable (c : Dev nD) (i j : Fin 2048 → Fin 8) (hT : ∀ t, RouterMath.Top (RouterMath.soft (tl m c t)) (i t) (j t))
include hT

theorem final7 : (dats m 0 c).arrAt 7 cfg0.N = comb7 m c i j := by
  refine (dats m 0 c).arrAt_eq_of_covers 7 _ (by decide +kernel) fun t hf y => ?_
  blk_simp
  rw [after0_7]
  obtain ⟨r, d, rfl⟩ : ∃ (r : Fin 256) (d : Fin 128), y = ix2 r d := ⟨y 0, y 1, eq_ix2 y⟩
  have key := (pay15_apply (b31 m c t) (b34 m c t) r _ (b31_apply m c t r) (b34_apply m c t r) _ _ (hT (tok t r)) d).trans
    (at7 t r d (comb7 m c i j))
  by_cases h0 : t.val % 8 = 0
  · rw [outsAt0_A m c t h0]
    frame_out
    exact key
  · rw [outsAt0_B m c t h0]
    frame_out
    exact key

theorem final8 : (dats m 0 c).arrAt 8 cfg0.N
    = (fun y => ∑ t : Fin 2048, (RouterMath.ind (y 1).val (i t).val + RouterMath.ind (y 1).val (j t).val) : FVec Ideal S1x128 .f32) := by
  have key : ∀ (t : Fin cfg0.N) (v : FVec Ideal S1x128 .f32) (y : S1x128.Idx), k0_pay18 (F := Ideal) k0_pay5 (b31 m c t) (b34 m c t) v y
      = v y + ∑ r : Fin 256, (RouterMath.ind (y 1).val (i (tok t r)).val + RouterMath.ind (y 1).val (j (tok t r)).val) := fun t v y => by
    obtain ⟨e, rfl⟩ : ∃ (e : Fin 128), y = ix2 0 e := ⟨y 1, by rw [eq_ix2 y]; congr 1; exact Subsingleton.elim _ _⟩
    exact pay18_apply (b31 m c t) (b34 m c t) v _ (b31_apply m c t) (b34_apply m c t) _ _ (fun r => hT (tok t r)) e
  refine (dats m 0 c).arrAt_eq_of_after_last 8 t0_7 (by decide +kernel) _ fun y => ?_
  blk_simp
  obtain ⟨e, rfl⟩ : ∃ (e : Fin 128), y = ix2 0 e := ⟨y 1, by rw [eq_ix2 y]; congr 1; exact Subsingleton.elim _ _⟩
  rw [after0_8, Pipeline.eq_sum_fin_of_reset_step_apply_last (fun n h => (outsAt0 m c n h).2.2.2.1) 8 (fun _ => 0)
    (fun t y => ∑ r : Fin 256, (RouterMath.ind (y 1).val (i (tok t r)).val + RouterMath.ind (y 1).val (j (tok t r)).val))
    (fun t h y => ?_) (fun t h y => ?_) (le_of_eq N_0) t0_7 rfl (ix2 0 e), zero_add]
  · exact sum_tok (fun t => RouterMath.ind e.val (i t).val + RouterMath.ind e.val (j t).val)
  · rw [outsAt0_A m c t h]
    frame_out
    refine (key t _ y).trans ?_
    exact congrArg (· + _) (by pointwise [k0_pay16])
  · rw [outsAt0_B m c t h]
    frame_out
    exact key t _ y

end

theorem final9 (c : Dev nD) : (dats m 0 c).arrAt 9 cfg0.N
    = (fun y => ∑ t : Fin 2048, RouterMath.softL (RouterMath.lanes (tl m c t) ⊥) (y 1) : FVec Ideal S1x128 .f32) := by
  have key : ∀ (t : Fin cfg0.N) (v : FVec Ideal S1x128 .f32) (y : S1x128.Idx), k0_pay1 (F := Ideal) (k0_pay8 (b31 m c t) (b34 m c t)) v y
      = v y + ∑ r : Fin 256, RouterMath.softL (RouterMath.lanes (tl m c (tok t r)) ⊥) (y 1) := fun t v y => by
    obtain ⟨e, rfl⟩ : ∃ (e : Fin 128), y = ix2 0 e := ⟨y 1, by rw [eq_ix2 y]; congr 1; exact Subsingleton.elim _ _⟩
    rw [pay1_apply]
    exact congrArg (_ + ·) (Finset.sum_congr rfl fun r _ => pay8_apply (b31 m c t) (b34 m c t) r _ (b31_apply m c t r) (b34_apply m c t r) e)
  refine (dats m 0 c).arrAt_eq_of_after_last 9 t0_7 (by decide +kernel) _ fun y => ?_
  blk_simp
  obtain ⟨e, rfl⟩ : ∃ (e : Fin 128), y = ix2 0 e := ⟨y 1, by rw [eq_ix2 y]; congr 1; exact Subsingleton.elim _ _⟩
  rw [after0_9, Pipeline.eq_sum_fin_of_reset_step_apply_last (fun n h => (outsAt0 m c n h).2.2.2.2) 8 (fun _ => 0)
    (fun t y => ∑ r : Fin 256, RouterMath.softL (RouterMath.lanes (tl m c (tok t r)) ⊥) (y 1))
    (fun t h y => ?_) (fun t h y => ?_) (le_of_eq N_0) t0_7 rfl (ix2 0 e), zero_add]
  · exact sum_tok (fun t => RouterMath.softL (RouterMath.lanes (tl m c t) ⊥) e)
  · rw [outsAt0_A m c t h]
    frame_out
    refine (key t _ y).trans ?_
    exact congrArg (· + _) (by pointwise [k0_pay17])
  · rw [outsAt0_B m c t h]
    frame_out
    exact key t _ y

end Cert.RouterIdeal.Val
-- ==== Proof.RouterRefVal.lean ====
/-
  The plain router's results over the extended reals.
-/
module

public import proofs.«01_k».proof.Proof.RouterVal
public import proofs.«01_k».proof.Proof.Gen.RouterRefIdeal.Read

@[expose] public section

set_option maxRecDepth 16384

noncomputable section

namespace Cert.RouterRefIdeal.Val

open Cert.RouterRefIdeal Cert.RouterRefIdeal.Gen Cert.RouterRefIdeal.Read
open Idealize.ShloMosaic Idealize.ShloMosaic.TcCoe Idealize.SL.Sem

variable (x0 x1 : FVec Ideal S2048x1024 .f32) (x2 : FVec Ideal S1024x1024 .f32) (x3 : FVec Ideal S1024 .f32) (x4 : FVec Ideal S1024x8 .f32)

theorem zero : Ideal.ofBits .f32 0x00000000#32 = 0 := by simp [Ideal.ofBits, Ideal.ieee]

/-- A token's hidden state. -/
def hid (t : Fin 2048) (d : Fin 1024) : EReal := (∑ k : Fin 1024, x0 (ix2 t k) * x2 (ix2 k d)) + x1 (ix2 t d)
/-- A token's normalised entry. -/
def nrm (t : Fin 2048) (k : Fin 1024) : EReal :=
  hid x0 x1 x2 t k * Ideal.rsqrt (Ideal.div (∑ j : Fin 1024, hid x0 x1 x2 t j * hid x0 x1 x2 t j) (Ideal.ofBits .f32 0x44800000#32) + Ideal.ofBits .f32 0x3727C5AC#32) * x3 (ix1 k)
/-- A token's logits. -/
def logit (t : Fin 2048) (e : Fin 8) : EReal := ∑ k : Fin 1024, nrm x0 x1 x2 x3 t k * x4 (ix2 k e)

theorem v1_at (t : Fin 2048) (d : Fin 1024) : val_main_v1 (F := Ideal) x0 x1 x2 (ix2 t d) = hid x0 x1 x2 t d := by
  pointwise [val_main_v1, val_main_v0, hid]

theorem v14_at (t : Fin 2048) (d : Fin 1024) : val_main_v14 (F := Ideal) x0 x1 x2 x3 (ix2 t d) = nrm x0 x1 x2 x3 t d := by
  pointwise [val_main_v14, val_main_v13, val_main_v12, val_main_v11, val_main_v10, val_main_v9, val_main_v8, val_main_v7, val_main_v6, val_main_v5, val_main_v4, val_main_v3, val_main_v2, val_main_cst, val_main_cst_0, val_main_cst_1]
  simp only [v1_at]
  rfl

theorem v15_at (t : Fin 2048) (e : Fin 8) : val_main_v15 (F := Ideal) x0 x1 x2 x3 x4 (ix2 t e) = logit x0 x1 x2 x3 x4 t e := by
  pointwise [val_main_v15]
  simp only [v14_at]
  rfl

theorem v18_at (t : Fin 2048) : val_main_v18 (F := Ideal) x0 x1 x2 x3 x4 (ix1 t) = Finset.univ.sup (logit x0 x1 x2 x3 x4 t) := by
  pointwise [val_main_v18, val_main_v17, val_main_v16, val_main_cst_2, val_main_cst_3]
  rw [RouterMath.fold_max_bot, show Ideal.ofBits FTy.f32 0xFF800000#32 = (⊥ : EReal) by simp [Ideal.ofBits, Ideal.ieee], max_eq_right bot_le]
  exact congrArg _ (funext fun e => v15_at x0 x1 x2 x3 x4 t e)

theorem v26_at (t : Fin 2048) (e : Fin 8) : val_main_v26 (F := Ideal) x0 x1 x2 x3 x4 (ix2 t e) = RouterMath.soft (logit x0 x1 x2 x3 x4 t) e := by
  pointwise [val_main_v26, val_main_v25, val_main_v24, val_main_v23, val_main_v22, val_main_v21, val_main_v20, val_main_v19, val_main_cst_4]
  simp only [v15_at, v18_at]
  rfl

section
variable (t : Fin 2048) (i j : Fin 8) (hT : RouterMath.Top (RouterMath.soft (logit x0 x1 x2 x3 x4 t)) i j)
include hT

theorem topk_at : val_main_values (F := Ideal) x0 x1 x2 x3 x4 (ix2 t 0) = RouterMath.soft (logit x0 x1 x2 x3 x4 t) i
    ∧ val_main_values (F := Ideal) x0 x1 x2 x3 x4 (ix2 t 1) = RouterMath.soft (logit x0 x1 x2 x3 x4 t) j
    ∧ val_main_indices (F := Ideal) x0 x1 x2 x3 x4 (ix2 t 0) = BitVec.ofNat 32 i.val
    ∧ val_main_indices (F := Ideal) x0 x1 x2 x3 x4 (ix2 t 1) = BitVec.ofNat 32 j.val := by
  have hs := RouterMath.sorted_top _ i j hT (fun a b => FloatOps.cmpfTotal (F := Ideal) (φ := .f32) .gt (val_main_v26 (F := Ideal) x0 x1 x2 x3 x4 (ix2 t a)) (val_main_v26 (F := Ideal) x0 x1 x2 x3 x4 (ix2 t b)) == 1#1) fun a b => by
    rw [v26_at, v26_at, Ideal.cmpfTotal_def]
    simp only [Ideal.cmp, CmpDirection.ordered]
    by_cases h : RouterMath.soft (logit x0 x1 x2 x3 x4 t) b < RouterMath.soft (logit x0 x1 x2 x3 x4 t) a <;> simp [h]
  have hal : ∀ (r k : Fin 8), (ix2 t r : S2048x8.Idx).along 1 k = ix2 t k := fun r k => by
    refine (eq_ix2 _).trans ?_
    exact congrArg₂ ix2 rfl rfl
  have hv : ∀ (r : Fin 2), val_main_values (F := Ideal) x0 x1 x2 x3 x4 (ix2 t r) = val_main_v26 (F := Ideal) x0 x1 x2 x3 x4 (ix2 t (sortedFrom (fun a b : Fin 8 => FloatOps.cmpfTotal (F := Ideal) (φ := .f32) .gt (val_main_v26 (F := Ideal) x0 x1 x2 x3 x4 (ix2 t a)) (val_main_v26 (F := Ideal) x0 x1 x2 x3 x4 (ix2 t b)) == 1#1) (r.castLE (by decide)))) := fun r => by
    unfold val_main_values Host.topK Host.sort2
    generalize val_main_v26 (F := Ideal) x0 x1 x2 x3 x4 = X
    pointwise []
    simp only [hal]
    rfl
  have hi : ∀ (r : Fin 2), val_main_indices (F := Ideal) x0 x1 x2 x3 x4 (ix2 t r) = BitVec.ofNat 32 (sortedFrom (fun a b : Fin 8 => FloatOps.cmpfTotal (F := Ideal) (φ := .f32) .gt (val_main_v26 (F := Ideal) x0 x1 x2 x3 x4 (ix2 t a)) (val_main_v26 (F := Ideal) x0 x1 x2 x3 x4 (ix2 t b)) == 1#1) (r.castLE (by decide))).val := fun r => by
    unfold val_main_indices Host.topK Host.sort2
    generalize val_main_v26 (F := Ideal) x0 x1 x2 x3 x4 = X
    pointwise []
    simp only [hal]
    rfl
  refine ⟨(hv 0).trans ?_, (hv 1).trans ?_, (hi 0).trans ?_, (hi 1).trans ?_⟩
  · exact (v26_at x0 x1 x2 x3 x4 t _).trans (congrArg _ hs.1)
  · exact (v26_at x0 x1 x2 x3 x4 t _).trans (congrArg _ hs.2)
  · exact congrArg (fun k : Fin 8 => BitVec.ofNat 32 k.val) hs.1
  · exact congrArg (fun k : Fin 8 => BitVec.ofNat 32 k.val) hs.2

theorem v37_at (e : Fin 8) : val_main_v37 (F := Ideal) x0 x1 x2 x3 x4 (ix3 t 0 e) = RouterMath.ind i.val e.val
    ∧ val_main_v37 (F := Ideal) x0 x1 x2 x3 x4 (ix3 t 1 e) = RouterMath.ind j.val e.val := by
  obtain ⟨h1, h2, h3, h4⟩ := topk_at x0 x1 x2 x3 x4 t i j hT
  have hb : ∀ a : Fin 8, FloatOps.uitofp (F := Ideal) .f32 (IntOp.cmpi .eq (BitVec.ofNat 32 a.val) (BitVec.ofNat 32 e.val)) = RouterMath.ind a.val e.val := fun a => by
    unfold RouterMath.ind
    by_cases h : a.val = e.val
    · rw [if_pos h, h]; simp [FloatOps.uitofp, IntOp.cmpi]
    · rw [if_neg h, show IntOp.cmpi .eq (BitVec.ofNat 32 a.val) (BitVec.ofNat 32 e.val) = 0#1 from
        (by decide : ∀ a e : Fin 8, a.val ≠ e.val → IntOp.cmpi .eq (BitVec.ofNat 32 a.val) (BitVec.ofNat 32 e.val) = 0#1) a e h]
      simp [FloatOps.uitofp]
  constructor
  · pointwise [val_main_v37, val_main_v36, val_main_v35, val_main_v34, val_main_v33, val_main_v32, val_main_v31]
    rw [h3]
    exact hb i
  · pointwise [val_main_v37, val_main_v36, val_main_v35, val_main_v34, val_main_v33, val_main_v32, val_main_v31]
    rw [h4]
    exact hb j

theorem v41_at (e : Fin 8) : val_main_v41 (F := Ideal) x0 x1 x2 x3 x4 (ix2 t e) = RouterMath.comb (RouterMath.soft (logit x0 x1 x2 x3 x4 t)) i j e.val := by
  obtain ⟨h1, h2, h3, h4⟩ := topk_at x0 x1 x2 x3 x4 t i j hT
  obtain ⟨g1, g2⟩ := v37_at x0 x1 x2 x3 x4 t i j hT e
  refine Eq.trans ?_ (RouterMath.comb_ref _ i j hT (RouterMath.soft_nonneg _ i j hT) e.val)
  pointwise [val_main_v41, val_main_v40, val_main_v39, val_main_v38, val_main_v30, val_main_v29, val_main_v28, val_main_v27, val_main_cst_5, val_main_cst_6]
  simp only [Fin.sum_univ_two, h1, h2, g1, g2]

theorem v42_at (e : Fin 8) : val_main_v42 (F := Ideal) x0 x1 x2 x3 x4 (ix2 t e) = RouterMath.ind e.val i.val + RouterMath.ind e.val j.val := by
  obtain ⟨g1, g2⟩ := v37_at x0 x1 x2 x3 x4 t i j hT e
  pointwise [val_main_v42, val_main_cst_7]
  rw [Fin.sum_univ_two, g1, g2]
  unfold RouterMath.ind
  simp only [eq_comm]

end

section
variable (i j : Fin 2048 → Fin 8) (hT : ∀ t, RouterMath.Top (RouterMath.soft (logit x0 x1 x2 x3 x4 t)) (i t) (j t))
include hT

theorem v45_at (e : Fin 128) : val_main_v45 (F := Ideal) x0 x1 x2 x3 x4 (ix2 0 e) = ∑ t : Fin 2048, (RouterMath.ind e.val (i t).val + RouterMath.ind e.val (j t).val) := by
  pointwise [val_main_v45, val_main_v44, val_main_v43, val_main_call0_v0, val_main_c, val_main_cst_8]
  by_cases h : e.val < 8
  · rw [dif_pos h]
    exact Finset.sum_congr rfl fun t _ => v42_at x0 x1 x2 x3 x4 t (i t) (j t) (hT t) ⟨e.val, h⟩
  · rw [dif_neg h]
    refine Eq.trans (by simp [FloatOps.sitofp]) (Finset.sum_eq_zero fun t _ => ?_).symm
    unfold RouterMath.ind
    rw [if_neg (by have := (i t).isLt; omega), if_neg (by have := (j t).isLt; omega), add_zero]

theorem v48_at (e : Fin 128) : val_main_v48 (F := Ideal) x0 x1 x2 x3 x4 (ix2 0 e) = ∑ t : Fin 2048, RouterMath.softL (RouterMath.lanes (logit x0 x1 x2 x3 x4 t) ⊥) e := by
  pointwise [val_main_v48, val_main_v47, val_main_v46, val_main_call1_v0, val_main_c_10, val_main_cst_9]
  by_cases h : e.val < 8
  · rw [dif_pos h]
    exact Finset.sum_congr rfl fun t _ => (v26_at x0 x1 x2 x3 x4 t ⟨e.val, h⟩).trans (RouterMath.softL_cast (logit x0 x1 x2 x3 x4 t) ⟨e.val, h⟩).symm
  · rw [dif_neg h]
    exact Eq.trans (by simp [FloatOps.sitofp]) (Finset.sum_eq_zero fun t _ => RouterMath.softL_pad _ (i t) (j t) (hT t) e h).symm

end

theorem v49_at (t : Fin 2048) (d : Fin 1024) : val_main_v49 (F := Ideal) x0 x1 x2 x3 (ix2 t d) = nrm x0 x1 x2 x3 t d := by
  pointwise [val_main_v49]
  exact v14_at x0 x1 x2 x3 t d

end Cert.RouterRefIdeal.Val
-- ==== Proof.RouterPre.lean ====
/-
  What the precondition says of a token: its two greatest probabilities are each held by one expert.
-/
module

public import proofs.«01_k».proof.Proof.RouterRefVal
public import proofs.«01_k».proof.Proof.Gen.Pre_untied
public import Idealize.ShloMosaic.Lib.ReduceAll
public import Idealize.ShloMosaic.Lib.IndicatorCount
public import Idealize.ShloMosaic.Lib.WordArith

@[expose] public section

set_option maxRecDepth 16384

noncomputable section

namespace Cert.Pre_untied.Val

open Cert.Pre_untied Cert.Pre_untied.Gen
open Idealize.ShloMosaic Idealize.ShloMosaic.TcCoe Idealize.SL.Sem

theorem part2_at (a b : IVec S2048x8 32) (c : IVec S_ 32) (h : fn_part2 (F := Ideal) a b c = fun _ => 1#1) (t : Fin 2048) (e : Fin 8) :
    b (ix2 t e) = c (Shape.Idx.first Gen.h_S_) ∨ 2 ≤ (a (ix2 t e)).toInt := by
  have hj := congrFun h (Shape.Idx.first Gen.h_S_)
  dsimp only [fn_part2] at hj
  have := Host.reduce_andi_all _ _ _ _ _ hj (ix2 t e)
  revert this
  pointwise []
  rw [show Shape.Idx.first Gen.h_S_ = ix0 from Subsingleton.elim _ _]
  generalize b (ix2 t e) = p
  generalize a (ix2 t e) = q
  generalize c ix0 = r
  intro hh
  by_cases hpr : p = r
  · exact Or.inl hpr
  · refine Or.inr ?_
    by_contra hq
    have h1 : IntOp.cmpi .eq p r = 0#1 := by show BitVec.ofBool (p == r) = 0#1; rw [beq_eq_false_iff_ne.mpr hpr]; rfl
    have h2 : IntOp.cmpi .sge q 2#32 = 0#1 := by show BitVec.ofBool (decide ((2#32).toInt ≤ q.toInt)) = 0#1; rw [decide_eq_false (show ¬ (2#32).toInt ≤ q.toInt from hq)]; rfl
    rw [h1, h2] at hh
    exact absurd hh (by decide)

theorem count (Q : Fin 8 → Prop) [DecidablePred Q] :
    Finset.fold IntOp.addi (0#32) (fun x => BitVec.setWidth 32 (BitVec.ofBool (decide (Q x)))) Finset.univ = BitVec.ofNat 32 (Finset.univ.filter Q).card := by
  rw [IndicatorCount.fold_addi_setWidth_eq_card]
  congr 2
  ext x
  by_cases h : Q x <;> simp [h]

/-- A token's probabilities from its logits and their greatest. -/
def prob (X : FVec Ideal S2048x8 .f32) (M : FVec Ideal S2048 .f32) (t : Fin 2048) (e : Fin 8) : EReal :=
  Ideal.div (Ideal.exp (X (ix2 t e) - M (ix1 t))) (∑ k : Fin 8, Ideal.exp (X (ix2 t k) - M (ix1 t)))

theorem part1_at (X : FVec Ideal S2048x8 .f32) (M : FVec Ideal S2048 .f32) (h : fn_part1 (F := Ideal) X M = fun _ => 1#1) (t : Fin 2048) (e : Fin 8) :
    (Finset.univ.filter fun e' => prob X M t e' = prob X M t e).card = 1 ∨ 2 ≤ (Finset.univ.filter fun e' => prob X M t e < prob X M t e').card := by
  dsimp only [fn_part1] at h
  have h2 := part2_at _ _ _ h t e
  clear h
  revert h2
  pointwise []
  rw [count, count]
  have c8 : ∀ s : Finset (Fin 8), s.card ≤ 8 := fun s => (Finset.card_le_univ s).trans (by simp)
  rintro (h1 | h2)
  · refine Or.inl ?_
    have hc := congrArg BitVec.toNat h1
    rw [BitVec.toNat_ofNat, BitVec.toNat_ofNat, Nat.mod_eq_of_lt ((c8 _).trans_lt (by norm_num))] at hc
    exact hc
  · refine Or.inr ?_
    rw [BitVec.toInt_eq_toNat_of_lt (by rw [BitVec.toNat_ofNat, Nat.mod_eq_of_lt ((c8 _).trans_lt (by norm_num))]; have := c8 (Finset.univ.filter fun e' => prob X M t e < prob X M t e'); exact (Nat.mul_le_mul_left 2 this).trans_lt (by norm_num)),
      BitVec.toNat_ofNat, Nat.mod_eq_of_lt ((c8 _).trans_lt (by norm_num))] at h2
    exact_mod_cast h2

/-- Under the precondition every token has a first and a second expert. -/
theorem top (x0 x1 : FVec Ideal S2048x1024 .f32) (x2 : FVec Ideal S1024x1024 .f32) (x3 : FVec Ideal S1024 .f32) (x4 : FVec Ideal S1024x8 .f32)
    (h : fn (F := Ideal) x0 x1 x2 x3 x4 = fun _ => 1#1) (t : Fin 2048) :
    ∃ i j, RouterMath.Top (RouterMath.soft (Cert.RouterRefIdeal.Val.logit x0 x1 x2 x3 x4 t)) i j := by
  refine RouterMath.exists_top _ fun e => ?_
  have hp := part1_at (Cert.RouterRefIdeal.Read.val_main_v15 (F := Ideal) x0 x1 x2 x3 x4) (Cert.RouterRefIdeal.Read.val_main_v18 (F := Ideal) x0 x1 x2 x3 x4) h t e
  have hs : prob (Cert.RouterRefIdeal.Read.val_main_v15 (F := Ideal) x0 x1 x2 x3 x4) (Cert.RouterRefIdeal.Read.val_main_v18 (F := Ideal) x0 x1 x2 x3 x4) t
      = RouterMath.soft (Cert.RouterRefIdeal.Val.logit x0 x1 x2 x3 x4 t) := by
    funext e
    unfold prob RouterMath.soft
    rw [Cert.RouterRefIdeal.Val.v18_at]
    simp only [Cert.RouterRefIdeal.Val.v15_at]
  rw [hs] at hp
  exact hp

end Cert.Pre_untied.Val
-- ==== Proof.RouterClaim.lean ====
/-
  The output projection and the router against their plain formula.
-/
module

public import proofs.«01_k».proof.Defs
public import proofs.«01_k».proof.Proof.Gen.Router.Frame
public import proofs.«01_k».proof.Proof.Gen.RouterIdeal.Frame
public import proofs.«01_k».proof.Proof.Gen.RouterRefIdeal.Run
public import proofs.«01_k».proof.Proof.RouterVal
public import proofs.«01_k».proof.Proof.RouterRefVal
public import proofs.«01_k».proof.Proof.RouterPre
public import Idealize.ShloMosaic.Lib.Quiescent

@[expose] public section

set_option maxRecDepth 16384

noncomputable section

namespace Cert.RouterIdeal.Val

open Cert.RouterIdeal Cert.RouterIdeal.Gen
open Idealize.ShloMosaic Idealize.ShloMosaic.TcCoe

section
variable (m : (ℓ : Loc nD τ sig) → Buf (Elt Ideal) ℓ) (c : Dev nD)

abbrev a0 : FVec Ideal S2048x1024 .f32 := m ((c : Thread nD τ).loc main_arg0)
abbrev a1 : FVec Ideal S2048x1024 .f32 := m ((c : Thread nD τ).loc main_arg1)
abbrev a2 : FVec Ideal S1024x1024 .f32 := m ((c : Thread nD τ).loc main_arg2)
abbrev a3 : FVec Ideal S1024 .f32 := m ((c : Thread nD τ).loc main_arg3)
abbrev a4 : FVec Ideal S1024x8 .f32 := m ((c : Thread nD τ).loc main_arg4)

theorem V_v0 (k : Fin 1024) (e : Fin 8) : (V m c main_v0 : FVec Ideal S1024x128 .f32) (ix2 k (e.castLE (by decide))) = a4 m c (ix2 k e) := by
  show (StableHlo.after (List.flatten [hostOps0, hostOps0_1, hostOps0_2]) (fun b => m (c, b)) (Proc.devRef .tc main_v0) : FVec Ideal S1024x128 .f32) _ = _
  simp only [hostOps0, hostOps0_1, hostOps0_2, List.flatten_cons, List.flatten_nil, List.append_nil, List.cons_append, List.nil_append,
    StableHlo.after_cons, StableHlo.after_nil]
  after_results_simp
  simp only [StableHlo.TRef.toBuf, StableHlo.TRef.ofBuf, cast_eq]
  pointwise
  rw [dif_pos (show (Fin.castLE (by decide : 8 ≤ 128) e).val < 8 from e.isLt)]
  rfl

theorem V_v1 (i : S1024x1024.Idx) : (V m c main_v1 : FVec Ideal S1024x1024 .bf16) i = a2 m c i := by
  show (StableHlo.after (List.flatten [hostOps0, hostOps0_1, hostOps0_2]) (fun b => m (c, b)) (Proc.devRef .tc main_v1) : FVec Ideal S1024x1024 .bf16) _ = _
  simp only [hostOps0, hostOps0_1, hostOps0_2, List.flatten_cons, List.flatten_nil, List.append_nil, List.cons_append, List.nil_append,
    StableHlo.after_cons, StableHlo.after_nil]
  after_results_simp
  rfl

theorem V_v2 (k : Fin 1024) : (V m c main_v2 : FVec Ideal S1x1024 .f32) (ix2 0 k) = a3 m c (ix1 k) := by
  show (StableHlo.after (List.flatten [hostOps0, hostOps0_1, hostOps0_2]) (fun b => m (c, b)) (Proc.devRef .tc main_v2) : FVec Ideal S1x1024 .f32) _ = _
  simp only [hostOps0, hostOps0_1, hostOps0_2, List.flatten_cons, List.flatten_nil, List.append_nil, List.cons_append, List.nil_append,
    StableHlo.after_cons, StableHlo.after_nil]
  after_results_simp
  pointwise

theorem h2_hid (t : Fin 2048) (d : Fin 1024) : h2 (V m c main_arg0) (V m c main_arg1) (V m c main_v1) t d
    = Cert.RouterRefIdeal.Val.hid (a0 m c) (a1 m c) (a2 m c) t d := by
  rw [V_main_arg0, V_main_arg1]
  unfold h2 Cert.RouterRefIdeal.Val.hid
  exact Ideal.add_congr (Finset.sum_congr rfl fun k _ => Ideal.mul_congr rfl (V_v1 m c _)) rfl

theorem nrm_ref (t : Fin 2048) (k : Fin 1024) : nrm (fun d => h2 (V m c main_arg0) (V m c main_arg1) (V m c main_v1) t d) (V m c main_v2) k
    = Cert.RouterRefIdeal.Val.nrm (a0 m c) (a1 m c) (a2 m c) (a3 m c) t k := by
  rw [funext fun d => h2_hid m c t d]
  unfold nrm Cert.RouterRefIdeal.Val.nrm
  exact Ideal.mul_congr rfl (V_v2 m c k)

theorem tl_ref (t : Fin 2048) : tl m c t = Cert.RouterRefIdeal.Val.logit (a0 m c) (a1 m c) (a2 m c) (a3 m c) (a4 m c) t := by
  funext e
  unfold tl logit lg Cert.RouterRefIdeal.Val.logit
  exact Finset.sum_congr rfl fun k _ => Ideal.mul_congr (nrm_ref m c t k) (V_v0 m c k e)

theorem W_v4 (A : FVec Ideal S2048x128 .f32) (hA : (dats m 0 c).arrAt 7 cfg0.N = A) (t : Fin 2048) (e : Fin 8) :
    (Pipeline.afterTail₀ cfgs (dats m) 0 (V0 m) [hostOps1] c main_v4 : FVec Ideal S2048x8 .f32) (ix2 t e) = A (ix2 t (e.castLE (by decide))) := by
  unfold Pipeline.afterTail₀
  simp only [hostOps1, List.flatten_cons, List.flatten_nil, List.append_nil, StableHlo.after_cons, StableHlo.after_nil]
  after_results_simp
  refine Eq.trans (b := extractStridedSlice S2048x8 ![0, 0] A slices_S2048x128_S2048x8_0_0 (ix2 t e)) ?_ ?_
  · refine congrArg (fun X : FVec Ideal S2048x128 .f32 => extractStridedSlice S2048x8 ![0, 0] X slices_S2048x128_S2048x8_0_0 (ix2 t e)) ?_
    exact (Pipeline.withArrays_arr spec0 launch0.win.arr_inj c (V0 m c) _ 7).trans hA
  · pointwise
    rfl

end
end Cert.RouterIdeal.Val

namespace Cert.Proof

open Idealize.ShloMosaic Idealize.SL.Sem

theorem quiescent_router_ref : Cert.quiescent_RouterRefIdeal := fun m ρ _ =>
  (θ_run Cert.RouterRefIdeal.defs _ _).mono (fun r h => ⟨fun c => (h c).2.2.2.2.2, Idealize.ShloMosaic.sem_eq_zero_of_no_sems (by decide) r.2⟩)
    (Cert.RouterRefIdeal.Value.run (F := Ideal) m ρ)

theorem quiescent_router_ref_pre : Cert.quiescent_RouterRefIdeal_pre_untied := fun m ρ _ => quiescent_router_ref m ρ trivial

theorem preserves_router : Cert.preserves_Router_RouterIdeal :=
  IdealRules.named_const.statement Cert.RouterIdeal.κ "mask" .f32 0xF149F2CA#32 (⊥ : EReal) rfl

set_option maxHeartbeats 1600000 in
theorem algebraic_router : Cert.algebraic_RouterIdeal_RouterRefIdeal_pre_untied := by
  pair_intro
  · run_from Cert.RouterIdeal.Gen.run_main m g
    · exact Cert.RouterIdeal.Gen.W_main_arg2 m _ c
    · exact Cert.RouterIdeal.Gen.W_main_arg3 m _ c
    · exact Cert.RouterIdeal.Gen.W_main_arg4 m _ c
  · have hc : ∀ c, ∀ t, ∃ i j, RouterMath.Top (RouterMath.soft (Cert.RouterIdeal.Val.tl m c t)) i j := fun c t => by
      rw [Cert.RouterIdeal.Val.tl_ref]
      exact Cert.Pre_untied.Val.top _ _ _ _ _ (hpre c) t
    choose i j hT using hc
    run_from Cert.RouterRefIdeal.Value.run m' g'
    · rw [Cert.RouterIdeal.Val.final5]
      refine Eq.trans (b := Cert.RouterRefIdeal.Read.val_main_v1 (F := Ideal) _ _ _) rfl ?_
      funext y
      idx_vars y
      exact (Cert.RouterRefIdeal.Val.v1_at _ _ _ y0 y1).trans (Cert.RouterIdeal.Val.h2_hid m c y0 y1).symm
    · rw [Cert.RouterIdeal.Val.final6]
      refine Eq.trans (b := Cert.RouterRefIdeal.Read.val_main_v49 (F := Ideal) _ _ _ _) rfl ?_
      funext y
      idx_vars y
      exact (Cert.RouterRefIdeal.Val.v49_at _ _ _ _ y0 y1).trans (Cert.RouterIdeal.Val.nrm_ref m c y0 y1).symm
    · refine (Cert.RouterRefIdeal.Read.val_main_v41_eq (F := Ideal) m' c).trans ?_
      rw [(hagree c).1, (hagree c).2.1, (hagree c).2.2.1, (hagree c).2.2.2.1, (hagree c).2.2.2.2]
      funext y
      idx_vars y
      refine (Cert.RouterRefIdeal.Val.v41_at _ _ _ _ _ y0 (i c y0) (j c y0) (by rw [← Cert.RouterIdeal.Val.tl_ref m c y0]; exact hT c y0) y1).trans ?_
      refine Eq.trans ?_ (Cert.RouterIdeal.Val.W_v4 m c _ (Cert.RouterIdeal.Val.final7 m c (i c) (j c) (hT c)) y0 y1).symm
      rw [← Cert.RouterIdeal.Val.tl_ref m c y0]
      rfl
    · refine (Cert.RouterRefIdeal.Read.val_main_v45_eq (F := Ideal) m' c).trans ?_
      rw [(hagree c).1, (hagree c).2.1, (hagree c).2.2.1, (hagree c).2.2.2.1, (hagree c).2.2.2.2, Cert.RouterIdeal.Val.final8 m c (i c) (j c) (hT c)]
      funext y
      idx_vars y
      obtain rfl : y0 = (0 : Fin 1) := Subsingleton.elim (α := Fin 1) _ _
      refine (Cert.RouterRefIdeal.Val.v45_at _ _ _ _ _ (i c) (j c) (fun t => by rw [← Cert.RouterIdeal.Val.tl_ref m c t]; exact hT c t) y1).trans ?_
      rfl
    · refine (Cert.RouterRefIdeal.Read.val_main_v48_eq (F := Ideal) m' c).trans ?_
      rw [(hagree c).1, (hagree c).2.1, (hagree c).2.2.1, (hagree c).2.2.2.1, (hagree c).2.2.2.2, Cert.RouterIdeal.Val.final9 m c]
      funext y
      idx_vars y
      obtain rfl : y0 = (0 : Fin 1) := Subsingleton.elim (α := Fin 1) _ _
      refine (Cert.RouterRefIdeal.Val.v48_at _ _ _ _ _ (i c) (j c) (fun t => by rw [← Cert.RouterIdeal.Val.tl_ref m c t]; exact hT c t) y1).trans ?_
      exact Finset.sum_congr rfl fun t _ => by rw [← Cert.RouterIdeal.Val.tl_ref m c t]

end Cert.Proof

end
-- ==== Proof.QkvVal.lean ====
/-
  The projection region's three result arrays, as sums over the extended reals.
-/
module

public import proofs.«01_k».proof.Proof.Gen.QkvIdeal.Frame
public import Idealize.ShloMosaic.Lib.Pipeline.ValueKit
public import Idealize.ShloMosaic.Lib.Pointwise
public import Idealize.ShloMosaic.Lib.Claim

@[expose] public section

set_option maxRecDepth 16384

noncomputable section

namespace Cert.QkvIdeal.Val

open Cert.QkvIdeal Cert.QkvIdeal.Gen
open Idealize.ShloMosaic Idealize.ShloMosaic.TcCoe Idealize.SL.Sem
open Idealize.ShloMosaic.Pipeline (Dat)

/-- The normalised entry of a token at a column. -/
def xn (X : FVec Ideal S2048x1024 .f32) (w : FVec Ideal S1x1024 .f32) (t : Fin 2048) (k : Fin 1024) : EReal :=
  X (ix2 t k) * Ideal.rsqrt (Ideal.div (∑ j : Fin 1024, X (ix2 t j) * X (ix2 t j)) (Ideal.ofBits .f32 0x44800000#32) + Ideal.ofBits .f32 0x3727C5AC#32) * w (ix2 0 k)

/-- A projection of the normalised tokens. -/
def proj (X : FVec Ideal S2048x1024 .f32) (w : FVec Ideal S1x1024 .f32) (W : FVec Ideal S1024x1024 .f32) (t : Fin 2048) (d : Fin 1024) : EReal :=
  ∑ k : Fin 1024, xn X w t k * W (ix2 k d)

theorem scale : Named.named (F := Ideal) Cert.QkvIdeal.κ "scale" (φ := .f32) 0x3E38AA3B#32 = (((Real.log 2)⁻¹ * (Real.sqrt 64)⁻¹ : ℝ) : EReal) :=
  IdealRules.named_const.ideal_named_scalar _ _ _ _ rfl

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- The token a tile row is. -/
def tok (t : Fin cfg0.N) (r : Fin 256) : Fin 2048 :=
  ⟨256 * t.val + r.val, by have := t.isLt; have h : cfg0.N = 8 := N_0; omega⟩

theorem final5 (c : Dev nD) : (dats m 0 c).arrAt 5 cfg0.N
    = (fun y => proj (V m c main_arg0) (V m c main_v0) (V m c main_arg2) (y 0) (y 1) * (((Real.log 2)⁻¹ * (Real.sqrt 64)⁻¹ : ℝ) : EReal) : FVec Ideal S2048x1024 .f32) := by
  refine (dats m 0 c).arrAt_eq_of_covers 5 _ (by decide +kernel) fun t hf y => ?_
  blk_simp
  rw [after0_5]
  frame_out
  obtain ⟨r, d, rfl⟩ : ∃ (r : Fin 256) (d : Fin 1024), y = ix2 r d := ⟨y 0, y 1, eq_ix2 y⟩
  pointwise [k0_pay2, k0_pay1, proj, xn]
  rw [scale]
  blk_point [iblk, idx t]

theorem final6 (c : Dev nD) : (dats m 0 c).arrAt 6 cfg0.N
    = (fun y => proj (V m c main_arg0) (V m c main_v0) (V m c main_arg3) (y 0) (y 1) : FVec Ideal S2048x1024 .f32) := by
  refine (dats m 0 c).arrAt_eq_of_covers 6 _ (by decide +kernel) fun t hf y => ?_
  blk_simp
  rw [after0_6]
  frame_out
  obtain ⟨r, d, rfl⟩ : ∃ (r : Fin 256) (d : Fin 1024), y = ix2 r d := ⟨y 0, y 1, eq_ix2 y⟩
  pointwise [k0_pay3, k0_pay1, proj, xn]
  blk_point [iblk, idx t]

theorem final7 (c : Dev nD) : (dats m 0 c).arrAt 7 cfg0.N
    = (fun y => proj (V m c main_arg0) (V m c main_v0) (fun i => (V m c main_v1 : FVec Ideal S1024x1024 .bf16) i) (y 0) (y 1) : FVec Ideal S2048x1024 .bf16) := by
  refine (dats m 0 c).arrAt_eq_of_covers 7 _ (by decide +kernel) fun t hf y => ?_
  blk_simp
  rw [after0_7]
  frame_out
  obtain ⟨r, d, rfl⟩ : ∃ (r : Fin 256) (d : Fin 1024), y = ix2 r d := ⟨y 0, y 1, eq_ix2 y⟩
  pointwise [k0_pay4, k0_pay1, proj, xn]
  blk_point [iblk, idx t]

end Cert.QkvIdeal.Val
-- ==== Proof.QkvClaim.lean ====
/-
  The normalised projections against their plain formula.
-/
module

public import proofs.«01_k».proof.Defs
public import proofs.«01_k».proof.Proof.Gen.Qkv.Frame
public import proofs.«01_k».proof.Proof.Gen.QkvRefIdeal.Run
public import proofs.«01_k».proof.Proof.QkvVal
public import Idealize.ShloMosaic.Lib.Quiescent

@[expose] public section

set_option maxRecDepth 16384

noncomputable section

namespace Cert.QkvIdeal.Val

open Cert.QkvIdeal Cert.QkvIdeal.Gen
open Idealize.ShloMosaic Idealize.ShloMosaic.TcCoe

theorem ofBits_two : Ideal.ofBits .f32 0x40000000#32 = ((2 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num

/-- Division by the root of the head width and by the logarithm of two is the named factor. -/
theorem div_div_scale (x : EReal) :
    Ideal.div (Ideal.div x (Ideal.sqrt (Ideal.ofBits .f32 0x42800000#32))) (Ideal.log (Ideal.ofBits .f32 0x40000000#32))
      = x * (((Real.log 2)⁻¹ * (Real.sqrt 64)⁻¹ : ℝ) : EReal) := by
  have h64 : Ideal.sqrt (Ideal.ofBits .f32 0x42800000#32) = ((Real.sqrt 64 : ℝ) : EReal) := by
    rw [ofBits_64, Ideal.sqrt_coe, if_neg (by norm_num)]
  have h2 : Ideal.log (Ideal.ofBits .f32 0x40000000#32) = ((Real.log 2 : ℝ) : EReal) := by
    rw [ofBits_two]
    show (if (2 : ℝ) ≤ 0 then (⊥ : EReal) else _) = _
    rw [if_neg (by norm_num)]
  rw [h64, h2, Ideal.div_coe (show Real.sqrt 64 ≠ 0 from (Real.sqrt_pos.mpr (by norm_num)).ne'),
    Ideal.div_coe (show Real.log 2 ≠ 0 from (Real.log_pos (by norm_num)).ne'), mul_assoc, ← EReal.coe_mul, one_div, one_div, mul_comm (Real.sqrt 64)⁻¹]

section
variable (m : (ℓ : Loc nD τ sig) → Buf (Elt Ideal) ℓ)

theorem V_v0 (c : Dev nD) (k : Fin 1024) : (V m c main_v0 : FVec Ideal S1x1024 .f32) (ix2 0 k) = (m ((c : Thread nD τ).loc main_arg1) : FVec Ideal S1024 .f32) (ix1 k) := by
  entry_read
  pointwise

theorem V_v1 (c : Dev nD) (i : S1024x1024.Idx) : (V m c main_v1 : FVec Ideal S1024x1024 .bf16) i = (m ((c : Thread nD τ).loc main_arg4) : FVec Ideal S1024x1024 .f32) i := by
  entry_read
  rfl

/-- The projection's plain formula, from the arguments as passed. -/
def plain (X : FVec Ideal S2048x1024 .f32) (w : FVec Ideal S1024 .f32) (W : FVec Ideal S1024x1024 .f32) (t : Fin 2048) (d : Fin 1024) : EReal :=
  ∑ k : Fin 1024, X (ix2 t k) * Ideal.rsqrt (Ideal.div (∑ j : Fin 1024, X (ix2 t j) * X (ix2 t j)) (Ideal.ofBits .f32 0x44800000#32) + Ideal.ofBits .f32 0x3727C5AC#32) * w (ix1 k) * W (ix2 k d)

theorem proj_plain (c : Dev nD) (W W' : FVec Ideal S1024x1024 .f32) (h : ∀ i, W i = W' i) (t : Fin 2048) (d : Fin 1024) :
    proj (V m c main_arg0) (V m c main_v0) W t d = plain (m ((c : Thread nD τ).loc main_arg0)) (m ((c : Thread nD τ).loc main_arg1)) W' t d := by
  rw [V_main_arg0]
  unfold proj plain xn
  exact Finset.sum_congr rfl fun k _ => Ideal.mul_congr (Ideal.mul_congr rfl (V_v0 m c k)) (h _)
end

end Cert.QkvIdeal.Val

namespace Cert.Proof

open Idealize.ShloMosaic Idealize.SL.Sem

theorem quiescent_qkv_ref : Cert.quiescent_QkvRefIdeal := fun m ρ _ =>
  (θ_run Cert.QkvRefIdeal.defs _ _).mono (fun r h => ⟨fun c => (h c).2.2.2, Idealize.ShloMosaic.sem_eq_zero_of_no_sems (by decide) r.2⟩)
    (Cert.QkvRefIdeal.Value.run (F := Ideal) m ρ)

theorem preserves_qkv : Cert.preserves_Qkv_QkvIdeal :=
  IdealRules.named_const.statement Cert.QkvIdeal.κ "scale" .f32 0x3E38AA3B#32 (((Real.log 2)⁻¹ * (Real.sqrt 64)⁻¹ : ℝ) : EReal) rfl

set_option maxHeartbeats 1600000 in
theorem algebraic_qkv : Cert.algebraic_QkvIdeal_QkvRefIdeal := by
  pair_intro
  · run_from Cert.QkvIdeal.Gen.run_main m g
  · run_from Cert.QkvRefIdeal.Value.run m' g'
    · rw [Cert.QkvIdeal.Val.final5]
      funext y
      idx_vars y
      refine Eq.trans ?_ (Ideal.mul_congr (Cert.QkvIdeal.Val.proj_plain _ c _ _ (fun i => by rw [Cert.QkvIdeal.Gen.V_main_arg2]) y0 y1) rfl).symm
      pointwise [Cert.QkvIdeal.Val.plain]
      exact Cert.QkvIdeal.Val.div_div_scale _
    · rw [Cert.QkvIdeal.Val.final6]
      funext y
      idx_vars y
      refine Eq.trans ?_ (Cert.QkvIdeal.Val.proj_plain _ c _ _ (fun i => by rw [Cert.QkvIdeal.Gen.V_main_arg3]) y0 y1).symm
      pointwise [Cert.QkvIdeal.Val.plain]
    · rw [Cert.QkvIdeal.Val.final7]
      funext y
      idx_vars y
      refine Eq.trans ?_ (Cert.QkvIdeal.Val.proj_plain _ c _ _ (fun i => Cert.QkvIdeal.Val.V_v1 _ c i) y0 y1).symm
      pointwise [Cert.QkvIdeal.Val.plain]

end Cert.Proof

end
-- ==== Proof.KQ.lean ====
/-
  The query, key and value projection region of the whole kernel.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Claim
public import Idealize.ShloMosaic.Lib.Pipeline.Value
public import Idealize.ShloMosaic.Lib.Pipeline.ValueKit
public import Idealize.ShloMosaic.Lib.Pipeline.Regions
public import Idealize.ShloMosaic.Lib.Pipeline.RegionArraysTS
public import Idealize.ShloMosaic.Lib.Pipeline.Frame
public import Idealize.ShloMosaic.Lib.Pipeline.FrameBody
public import Idealize.ShloMosaic.Lib.Quiescent
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.KernelIdeal.Q

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cells launchToks Dat Cfg Window BodyObligation cellOf)

variable {F : FTy → Type} [FloatOps F] [Named F]

local notation "𝕄" => MT nD τ sig Unit (Elt F) ℕ (UR sig nD τ) ℕ

-- what the TensorCore buffers hold when the region is entered
variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1024x1024 := Rect.unit (s := S1024x1024) ![0, 0] S1024x1024.size inb_S1024x1024_S1024x1024_0_0

def out0_5 (x0 : Vec F S256x1024 .f32) (x1 : Vec F S1x1024 .f32) (x2 : Vec F S1024x1024 .f32) (x3 : Vec F S1024x1024 .f32) (x4 : Vec F S1024x1024 .bf16) : Vec F S256x1024 .f32 :=
  View.canon [⟨r0_0, k0_pay2 (View.ld x0 r0_0) (View.ld x1 r0_1) (View.ld x2 r0_2)⟩]

theorem cover0_5 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_6 (x0 : Vec F S256x1024 .f32) (x1 : Vec F S1x1024 .f32) (x2 : Vec F S1024x1024 .f32) (x3 : Vec F S1024x1024 .f32) (x4 : Vec F S1024x1024 .bf16) : Vec F S256x1024 .f32 :=
  View.canon [⟨r0_0, k0_pay3 (View.ld x0 r0_0) (View.ld x1 r0_1) (View.ld x3 r0_2)⟩]

def out0_7 (x0 : Vec F S256x1024 .f32) (x1 : Vec F S1x1024 .f32) (x2 : Vec F S1024x1024 .f32) (x3 : Vec F S1024x1024 .f32) (x4 : Vec F S1024x1024 .bf16) : Vec F S256x1024 .bf16 :=
  View.canon [⟨r0_0, k0_pay4 (View.ld x0 r0_0) (View.ld x1 r0_1) (View.ld x4 r0_2)⟩]

theorem cover0_7 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

set_option maxHeartbeats 1000000 in

theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .bf16) (harg8 : arg8.IsWhole)
    (x0 : Vec F S256x1024 .f32) (x1 : Vec F S1x1024 .f32) (x2 : Vec F S1024x1024 .f32) (x3 : Vec F S1024x1024 .f32) (x4 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4)) -∗ K ⟨⟩))
      ⊢ wp frame (wpE (defs₀ (F := F)) Variants.none c none) E (cc0__qkv_body i arg1 harg1 arg2 harg2 arg3 harg3 arg4 harg4 arg5 harg5 arg6 harg6 arg7 harg7 arg8 harg8) K := by
  simp only [cc0__qkv_body_eq_skeleton]; unfold cc0__qkv_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_5 _)
  iexists _; isplitr
  swap; · iexact H7
  ipureintro
  exact View.read_writes_eq_canon _ _ _ (cover0_7 _)

def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out0_5 (iblk V c 0 t) (iblk V c 1 t) (iblk V c 2 t) (iblk V c 3 t) (iblk V c 4 t)
    | ⟨6, _⟩ => out0_6 (iblk V c 0 t) (iblk V c 1 t) (iblk V c 2 t) (iblk V c 3 t) (iblk V c 4 t)
    | ⟨7, _⟩ => out0_7 (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dats V 0 c).A w = V c (Pipeline.arrRef spec0 w) := by
  dsimp only [dats]

theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = iblk V c 3 t := by dsimp only [dats]
theorem after0_4 (c : Dev nD) (t : Fin cfg0.N) : (dats V 0 c).after 4 t = iblk V c 4 t := by dsimp only [dats]
theorem after0_5 (c : Dev nD) (t : Fin cfg0.N) : (dats V 0 c).after 5 t = out0_5 (iblk V c 0 t) (iblk V c 1 t) (iblk V c 2 t) (iblk V c 3 t) (iblk V c 4 t) := by dsimp only [dats]
theorem after0_6 (c : Dev nD) (t : Fin cfg0.N) : (dats V 0 c).after 6 t = out0_6 (iblk V c 0 t) (iblk V c 1 t) (iblk V c 2 t) (iblk V c 3 t) (iblk V c 4 t) := by dsimp only [dats]
theorem after0_7 (c : Dev nD) (t : Fin cfg0.N) : (dats V 0 c).after 7 t = out0_7 (iblk V c 0 t) (iblk V c 1 t) (iblk V c 2 t) (iblk V c 3 t) (iblk V c 4 t) := by dsimp only [dats]

theorem before0_0 (c : Dev nD) (t : Fin cfg0.N) (d) : (dats V 0 c).before 0 t d = iblk V c 0 t :=
  before0_0_of V (dats V 0 c) (A_eq V c 0) (after0_0 V c) t d
theorem before0_1 (c : Dev nD) (t : Fin cfg0.N) (d) : (dats V 0 c).before 1 t d = iblk V c 1 t :=
  before0_1_of V (dats V 0 c) (A_eq V c 1) (after0_1 V c) t d
theorem before0_2 (c : Dev nD) (t : Fin cfg0.N) (d) : (dats V 0 c).before 2 t d = iblk V c 2 t :=
  before0_2_of V (dats V 0 c) (A_eq V c 2) (after0_2 V c) t d
theorem before0_3 (c : Dev nD) (t : Fin cfg0.N) (d) : (dats V 0 c).before 3 t d = iblk V c 3 t :=
  before0_3_of V (dats V 0 c) (A_eq V c 3) (after0_3 V c) t d
theorem before0_4 (c : Dev nD) (t : Fin cfg0.N) (d) : (dats V 0 c).before 4 t d = iblk V c 4 t :=
  before0_4_of V (dats V 0 c) (A_eq V c 4) (after0_4 V c) t d

def bodyPre (c : Dev nD) (t : Fin cfg0.N) : sProp 𝕄 :=
  iprop((dats V 0 c).Φ t.castSucc ∗ (dats V 0 c).owesAt () t.castSucc
    ∗ (∃ d, owns (c : Thread nD τ) (st0_0 t) fullShare ((dats V 0 c).before 0 t d))
    ∗ (∃ d, owns (c : Thread nD τ) (st0_1 t) fullShare ((dats V 0 c).before 1 t d))
    ∗ (∃ d, owns (c : Thread nD τ) (st0_2 t) fullShare ((dats V 0 c).before 2 t d))
    ∗ (∃ d, owns (c : Thread nD τ) (st0_3 t) fullShare ((dats V 0 c).before 3 t d))
    ∗ (∃ d, owns (c : Thread nD τ) (st0_4 t) fullShare ((dats V 0 c).before 4 t d))
    ∗ (∃ d, owns (c : Thread nD τ) (st0_5 t) fullShare ((dats V 0 c).before 5 t d))
    ∗ (∃ d, owns (c : Thread nD τ) (st0_6 t) fullShare ((dats V 0 c).before 6 t d))
    ∗ (∃ d, owns (c : Thread nD τ) (st0_7 t) fullShare ((dats V 0 c).before 7 t d)))

def bodyPost (c : Dev nD) (t : Fin cfg0.N) : sProp 𝕄 :=
  iprop((dats V 0 c).Φ t.succ ∗ (dats V 0 c).owesAt () t.succ
    ∗ owns (c : Thread nD τ) (st0_0 t) fullShare ((dats V 0 c).after 0 t)
    ∗ owns (c : Thread nD τ) (st0_1 t) fullShare ((dats V 0 c).after 1 t)
    ∗ owns (c : Thread nD τ) (st0_2 t) fullShare ((dats V 0 c).after 2 t)
    ∗ owns (c : Thread nD τ) (st0_3 t) fullShare ((dats V 0 c).after 3 t)
    ∗ owns (c : Thread nD τ) (st0_4 t) fullShare ((dats V 0 c).after 4 t)
    ∗ owns (c : Thread nD τ) (st0_5 t) fullShare ((dats V 0 c).after 5 t)
    ∗ owns (c : Thread nD τ) (st0_6 t) fullShare ((dats V 0 c).after 6 t)
    ∗ owns (c : Thread nD τ) (st0_7 t) fullShare ((dats V 0 c).after 7 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dats V 0 c).Φ t.succ = (dats V 0 c).Φ t.castSucc from rfl,
    show (dats V 0 c).owesAt () t.succ = (dats V 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) V 0 c) (defs₀ (F := F)) Variants.none () Set.univ := fun t => by
  rw [bigSep_W0, bigSep_W0, defs₀_row]
  exact triple_restated (sound_body V c t) rfl .rfl fun _ => .rfl

end Cert.KernelIdeal.Q

end
-- ==== Proof.KABody.lean ====
/-
  The attention body of the whole kernel.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Claim
public import Idealize.ShloMosaic.Lib.Pipeline.Value
public import Idealize.ShloMosaic.Lib.Pipeline.ValueKit
public import Idealize.ShloMosaic.Lib.Pipeline.Regions
public import Idealize.ShloMosaic.Lib.Pipeline.RegionArraysTS
public import Idealize.ShloMosaic.Lib.Pipeline.Frame
public import Idealize.ShloMosaic.Lib.Pipeline.FrameBody
public import Idealize.ShloMosaic.Lib.Quiescent
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cells launchToks Dat Cfg Window BodyObligation cellOf)

variable {F : FTy → Type} [FloatOps F] [Named F]

local notation "𝕄" => MT nD τ sig Unit (Elt F) ℕ (UR sig nD τ) ℕ

-- what the TensorCore buffers hold when the region is entered
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

theorem read_writes_whole {κ : Kind} {sp : Space} {S : Shape} {e : EltTy} {off : Fin S.rank → Nat} (h : off = fun _ => 0)
    (v : View sig κ sp S e) (f : v.ty.Contents (Elt F)) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self, by
    subst h; rw [Rect.mem_set_unit]; intro a; exact ⟨Nat.zero_le _, by rw [Nat.zero_add]; exact (y a).isLt⟩⟩]
  exact View.canon_cons_unit_zero h inb w L

theorem readCov_part {κ : Kind} {sp : Space} {S : Shape} {e : EltTy} {off : Fin S.rank → Nat} (h : off = fun _ => 0)
    (v : View sig κ sp S e) (inb : ∀ a, off a + S.size a ≤ S.size a) (w : S.Idx → Elt F e) (r : LoadRect S) :
    v.readCov [(⟨Rect.unit off S.size inb, w⟩ : View.Piece (Elt F) S e)] r = fun j => w (r.idx j) := by
  rw [View.readCov_eq_canon', View.canon_cons_unit_zero h inb w]

abbrev rd0 {c : Dev nD} (T : Buf (Elt F) ((Memref.whole main_c).view.loc (c : Thread nD τ))) (i : grid1.Coords) : BitVec 32 :=
  View.readAt (Elt F) (Memref.whole main_c : Memref sig .tc .smem S12 .i32).view
    (Rect.unit (s := S12) (k1_off1 i) S1.size (k1_off1_inb i)).toLoadRect T (Shape.Idx.first (numel1_S1.symm ▸ Nat.one_pos))
abbrev rd1 {c : Dev nD} (T : Buf (Elt F) ((Memref.whole main_c_0).view.loc (c : Thread nD τ))) (i : grid1.Coords) : BitVec 32 :=
  View.readAt (Elt F) (Memref.whole main_c_0 : Memref sig .tc .smem S12 .i32).view
    (Rect.unit (s := S12) (k1_off1 i) S1.size (k1_off1_inb i)).toLoadRect T (Shape.Idx.first (numel1_S1.symm ▸ Nat.one_pos))

def lane0 (y8 : Vec F S1024x128 .f32) : Vec F S1024x1 .f32 :=
  View.ld y8 (Rect.unit (s := S1024x128) ![0, 0] S1024x1.size inb_S1024x128_S1024x1_0_0)

def diagO (w1 w3 : BitVec 32) (xq : Vec F S1x1024x64 .f32) (xk : Vec F S1x256x64 .f32) (xv : Vec F S1x256x64 .bf16)
    (y7 : Vec F S1x1024x64 .f32) (y8 : Vec F S1024x128 .f32) : Vec F S1x1024x64 .f32 :=
  k1_pay6 w1 w3 (k1_pay8 xv) (k1_pay9 xq xk) (k1_pay10 xq xk) (lane0 y8) y7

def diagC (w1 w3 : BitVec 32) (xq : Vec F S1x1024x64 .f32) (xk : Vec F S1x256x64 .f32) (y8 : Vec F S1024x128 .f32) : Vec F S1024x128 .f32 :=
  k1_pay13 y8 (k1_pay7 w1 w3 (k1_pay10 xq xk))

def offO (xq : Vec F S1x1024x64 .f32) (xk : Vec F S1x256x64 .f32) (xv : Vec F S1x256x64 .bf16)
    (y7 : Vec F S1x1024x64 .f32) (y8 : Vec F S1024x128 .f32) : Vec F S1x1024x64 .f32 :=
  k1_pay2 (k1_pay8 xv) (k1_pay9 xq xk) (k1_pay10 xq xk) (lane0 y8) y7

def offC (xq : Vec F S1x1024x64 .f32) (xk : Vec F S1x256x64 .f32) (y8 : Vec F S1024x128 .f32) : Vec F S1024x128 .f32 :=
  k1_pay3 (k1_pay10 xq xk) y8

set_option maxHeartbeats 2000000 in

theorem run_first (c : Dev nD) (i : grid1.Coords) (arg4 : Memref sig .tc .vmem S1x1024x64 .f32) (harg4 : arg4.IsWhole) (arg5 : Memref sig .tc .vmem S1x256x64 .f32) (harg5 : arg5.IsWhole) (arg6 : Memref sig .tc .vmem S1x256x64 .bf16) (harg6 : arg6.IsWhole) (arg7 : Memref sig .tc .vmem S1x1024x64 .f32) (harg7 : arg7.IsWhole) (arg8 : Memref sig .tc .vmem S1024x128 .f32) (harg8 : arg8.IsWhole)
    (T0 : Buf (Elt F) ((Memref.whole main_c).view.loc (c : Thread nD τ))) (T1 : Buf (Elt F) ((Memref.whole main_c_0).view.loc (c : Thread nD τ))) (hc1 : (k1_cond1 (rd0 (F := F) T0 i) (rd1 (F := F) T1 i) = 1#1)) (hc2 : (k1_cond2 (rd0 (F := F) T0 i) (rd1 (F := F) T1 i) = 1#1)) (hc3 : ¬ (k1_cond3 (rd0 (F := F) T0 i) (rd1 (F := F) T1 i) = 1#1))
    (xq : Vec F S1x1024x64 .f32) (xk : Vec F S1x256x64 .f32) (xv : Vec F S1x256x64 .bf16) (E : Set ℕ) (K : PUnit → sProp 𝕄) :
    iprop(((Memref.whole main_c).view.loc (c : Thread nD τ) ↦{fullShare} T0) ∗ ((Memref.whole main_c_0).view.loc (c : Thread nD τ) ↦{fullShare} T1) ∗ owns (c : Thread nD τ) arg4 fullShare xq ∗ owns (c : Thread nD τ) arg5 fullShare xk ∗ owns (c : Thread nD τ) arg6 fullShare xv ∗ (∃ d, owns (c : Thread nD τ) arg7 fullShare d) ∗ (∃ d, owns (c : Thread nD τ) arg8 fullShare d)
        ∗ (iprop(((Memref.whole main_c).view.loc (c : Thread nD τ) ↦{fullShare} T0) ∗ ((Memref.whole main_c_0).view.loc (c : Thread nD τ) ↦{fullShare} T1) ∗ owns (c : Thread nD τ) arg4 fullShare xq ∗ owns (c : Thread nD τ) arg5 fullShare xk ∗ owns (c : Thread nD τ) arg6 fullShare xv ∗ owns (c : Thread nD τ) arg7 fullShare (diagO (rd0 (F := F) T0 i) (rd1 (F := F) T1 i) xq xk xv (k1_pay11 (F := F)) (k1_pay12 (F := F))) ∗ owns (c : Thread nD τ) arg8 fullShare (diagC (rd0 (F := F) T0 i) (rd1 (F := F) T1 i) xq xk (k1_pay12 (F := F)))) -∗ K ⟨⟩))
      ⊢ wp frame (wpE (defs₀ (F := F)) Variants.none c none) E (cc1__attn_body i (Memref.whole main_c) (Memref.isWhole_whole _) (Memref.whole main_c_0) (Memref.isWhole_whole _) arg4 harg4 arg5 harg5 arg6 harg6 arg7 harg7 arg8 harg8) K := by
  unfold owns
  rw [cc1__attn_body_eq_skeleton]; unfold cc1__attn_body_skel
  rw [k1_part2_eq_skeleton]; unfold k1_part2_skel
  rw [k1_part1_eq_skeleton]
  iintro ⟨HT0, HT1, ⟨%f4, %hf4, H4⟩, ⟨%f5, %hf5, H5⟩, ⟨%f6, %hf6, H6⟩, ⟨%d7, %f7, -, H7⟩, ⟨%d8, %f8, -, H8⟩, Hk⟩
  obtain rfl := harg4.eq_unread hf4; obtain rfl := harg5.eq_unread hf5; obtain rfl := harg6.eq_unread hf6
  have hT0 : (Memref.whole main_c : Memref sig .tc .smem S12 .i32).IsWhole := Memref.isWhole_whole _
  have hT1 : (Memref.whole main_c_0 : Memref sig .tc .smem S12 .i32).IsWhole := Memref.isWhole_whole _
  sl_exec (disch := first | sl_exact hc1 | sl_exact hc2 | sl_exact hc3)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_words
    rw [read_writes_whole (S := S1x1024x64) hz3]
    unfold diagO
    simp only [View.readCov_unit_zero (S := S1x1024x64) _ hz3, View.readCov_unit_zero (S := S1024x128) _ hz2, View.readAt_eq_ld, harg4.read_unread, harg5.read_unread, harg6.read_unread, harg7.read_unread, harg8.read_unread, View.ld_unit_zero (S := S1x1024x64) hz3, View.ld_unit_zero (S := S1x256x64) hz3, View.ld_unit_zero (S := S1024x128) hz2]
    rw [readCov_part (S := S1024x128) hz2]
    try rfl
  iexists _; isplitr; swap; · iexact H8
  ipureintro
  sl_unfold_words
  rw [read_writes_whole (S := S1024x128) hz2]
  unfold diagC
  simp only [View.readCov_unit_zero (S := S1x1024x64) _ hz3, View.readCov_unit_zero (S := S1024x128) _ hz2, View.readAt_eq_ld, harg4.read_unread, harg5.read_unread, harg6.read_unread, harg7.read_unread, harg8.read_unread, View.ld_unit_zero (S := S1x1024x64) hz3, View.ld_unit_zero (S := S1x256x64) hz3, View.ld_unit_zero (S := S1024x128) hz2]
  skip
  try rfl

set_option maxHeartbeats 2000000 in

theorem run_diag (c : Dev nD) (i : grid1.Coords) (arg4 : Memref sig .tc .vmem S1x1024x64 .f32) (harg4 : arg4.IsWhole) (arg5 : Memref sig .tc .vmem S1x256x64 .f32) (harg5 : arg5.IsWhole) (arg6 : Memref sig .tc .vmem S1x256x64 .bf16) (harg6 : arg6.IsWhole) (arg7 : Memref sig .tc .vmem S1x1024x64 .f32) (harg7 : arg7.IsWhole) (arg8 : Memref sig .tc .vmem S1024x128 .f32) (harg8 : arg8.IsWhole)
    (T0 : Buf (Elt F) ((Memref.whole main_c).view.loc (c : Thread nD τ))) (T1 : Buf (Elt F) ((Memref.whole main_c_0).view.loc (c : Thread nD τ))) (hc1 : ¬ (k1_cond1 (rd0 (F := F) T0 i) (rd1 (F := F) T1 i) = 1#1)) (hc2 : (k1_cond2 (rd0 (F := F) T0 i) (rd1 (F := F) T1 i) = 1#1)) (hc3 : ¬ (k1_cond3 (rd0 (F := F) T0 i) (rd1 (F := F) T1 i) = 1#1))
    (xq : Vec F S1x1024x64 .f32) (xk : Vec F S1x256x64 .f32) (xv : Vec F S1x256x64 .bf16) (y7 : Vec F S1x1024x64 .f32) (y8 : Vec F S1024x128 .f32) (E : Set ℕ) (K : PUnit → sProp 𝕄) :
    iprop(((Memref.whole main_c).view.loc (c : Thread nD τ) ↦{fullShare} T0) ∗ ((Memref.whole main_c_0).view.loc (c : Thread nD τ) ↦{fullShare} T1) ∗ owns (c : Thread nD τ) arg4 fullShare xq ∗ owns (c : Thread nD τ) arg5 fullShare xk ∗ owns (c : Thread nD τ) arg6 fullShare xv ∗ owns (c : Thread nD τ) arg7 fullShare y7 ∗ owns (c : Thread nD τ) arg8 fullShare y8
        ∗ (iprop(((Memref.whole main_c).view.loc (c : Thread nD τ) ↦{fullShare} T0) ∗ ((Memref.whole main_c_0).view.loc (c : Thread nD τ) ↦{fullShare} T1) ∗ owns (c : Thread nD τ) arg4 fullShare xq ∗ owns (c : Thread nD τ) arg5 fullShare xk ∗ owns (c : Thread nD τ) arg6 fullShare xv ∗ owns (c : Thread nD τ) arg7 fullShare (diagO (rd0 (F := F) T0 i) (rd1 (F := F) T1 i) xq xk xv y7 y8) ∗ owns (c : Thread nD τ) arg8 fullShare (diagC (rd0 (F := F) T0 i) (rd1 (F := F) T1 i) xq xk y8)) -∗ K ⟨⟩))
      ⊢ wp frame (wpE (defs₀ (F := F)) Variants.none c none) E (cc1__attn_body i (Memref.whole main_c) (Memref.isWhole_whole _) (Memref.whole main_c_0) (Memref.isWhole_whole _) arg4 harg4 arg5 harg5 arg6 harg6 arg7 harg7 arg8 harg8) K := by
  unfold owns
  rw [cc1__attn_body_eq_skeleton]; unfold cc1__attn_body_skel
  rw [k1_part2_eq_skeleton]; unfold k1_part2_skel
  rw [k1_part1_eq_skeleton]
  iintro ⟨HT0, HT1, ⟨%f4, %hf4, H4⟩, ⟨%f5, %hf5, H5⟩, ⟨%f6, %hf6, H6⟩, ⟨%f7, %hf7, H7⟩, ⟨%f8, %hf8, H8⟩, Hk⟩
  obtain rfl := harg4.eq_unread hf4; obtain rfl := harg5.eq_unread hf5; obtain rfl := harg6.eq_unread hf6; obtain rfl := harg7.eq_unread hf7; obtain rfl := harg8.eq_unread hf8
  have hT0 : (Memref.whole main_c : Memref sig .tc .smem S12 .i32).IsWhole := Memref.isWhole_whole _
  have hT1 : (Memref.whole main_c_0 : Memref sig .tc .smem S12 .i32).IsWhole := Memref.isWhole_whole _
  sl_exec (disch := first | sl_exact hc1 | sl_exact hc2 | sl_exact hc3)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_words
    rw [read_writes_whole (S := S1x1024x64) hz3]
    unfold diagO
    simp only [View.readCov_unit_zero (S := S1x1024x64) _ hz3, View.readCov_unit_zero (S := S1024x128) _ hz2, View.readAt_eq_ld, harg4.read_unread, harg5.read_unread, harg6.read_unread, harg7.read_unread, harg8.read_unread, View.ld_unit_zero (S := S1x1024x64) hz3, View.ld_unit_zero (S := S1x256x64) hz3, View.ld_unit_zero (S := S1024x128) hz2]
    skip
    try rfl
  iexists _; isplitr; swap; · iexact H8
  ipureintro
  sl_unfold_words
  rw [read_writes_whole (S := S1024x128) hz2]
  unfold diagC
  simp only [View.readCov_unit_zero (S := S1x1024x64) _ hz3, View.readCov_unit_zero (S := S1024x128) _ hz2, View.readAt_eq_ld, harg4.read_unread, harg5.read_unread, harg6.read_unread, harg7.read_unread, harg8.read_unread, View.ld_unit_zero (S := S1x1024x64) hz3, View.ld_unit_zero (S := S1x256x64) hz3, View.ld_unit_zero (S := S1024x128) hz2]
  skip
  try rfl

set_option maxHeartbeats 2000000 in

theorem run_off (c : Dev nD) (i : grid1.Coords) (arg4 : Memref sig .tc .vmem S1x1024x64 .f32) (harg4 : arg4.IsWhole) (arg5 : Memref sig .tc .vmem S1x256x64 .f32) (harg5 : arg5.IsWhole) (arg6 : Memref sig .tc .vmem S1x256x64 .bf16) (harg6 : arg6.IsWhole) (arg7 : Memref sig .tc .vmem S1x1024x64 .f32) (harg7 : arg7.IsWhole) (arg8 : Memref sig .tc .vmem S1024x128 .f32) (harg8 : arg8.IsWhole)
    (T0 : Buf (Elt F) ((Memref.whole main_c).view.loc (c : Thread nD τ))) (T1 : Buf (Elt F) ((Memref.whole main_c_0).view.loc (c : Thread nD τ))) (hc1 : ¬ (k1_cond1 (rd0 (F := F) T0 i) (rd1 (F := F) T1 i) = 1#1)) (hc2 : ¬ (k1_cond2 (rd0 (F := F) T0 i) (rd1 (F := F) T1 i) = 1#1)) (hc3 : (k1_cond3 (rd0 (F := F) T0 i) (rd1 (F := F) T1 i) = 1#1))
    (xq : Vec F S1x1024x64 .f32) (xk : Vec F S1x256x64 .f32) (xv : Vec F S1x256x64 .bf16) (y7 : Vec F S1x1024x64 .f32) (y8 : Vec F S1024x128 .f32) (E : Set ℕ) (K : PUnit → sProp 𝕄) :
    iprop(((Memref.whole main_c).view.loc (c : Thread nD τ) ↦{fullShare} T0) ∗ ((Memref.whole main_c_0).view.loc (c : Thread nD τ) ↦{fullShare} T1) ∗ owns (c : Thread nD τ) arg4 fullShare xq ∗ owns (c : Thread nD τ) arg5 fullShare xk ∗ owns (c : Thread nD τ) arg6 fullShare xv ∗ owns (c : Thread nD τ) arg7 fullShare y7 ∗ owns (c : Thread nD τ) arg8 fullShare y8
        ∗ (iprop(((Memref.whole main_c).view.loc (c : Thread nD τ) ↦{fullShare} T0) ∗ ((Memref.whole main_c_0).view.loc (c : Thread nD τ) ↦{fullShare} T1) ∗ owns (c : Thread nD τ) arg4 fullShare xq ∗ owns (c : Thread nD τ) arg5 fullShare xk ∗ owns (c : Thread nD τ) arg6 fullShare xv ∗ owns (c : Thread nD τ) arg7 fullShare (offO xq xk xv y7 y8) ∗ owns (c : Thread nD τ) arg8 fullShare (offC xq xk y8)) -∗ K ⟨⟩))
      ⊢ wp frame (wpE (defs₀ (F := F)) Variants.none c none) E (cc1__attn_body i (Memref.whole main_c) (Memref.isWhole_whole _) (Memref.whole main_c_0) (Memref.isWhole_whole _) arg4 harg4 arg5 harg5 arg6 harg6 arg7 harg7 arg8 harg8) K := by
  unfold owns
  rw [cc1__attn_body_eq_skeleton]; unfold cc1__attn_body_skel
  rw [k1_part2_eq_skeleton]; unfold k1_part2_skel
  rw [k1_part1_eq_skeleton]
  iintro ⟨HT0, HT1, ⟨%f4, %hf4, H4⟩, ⟨%f5, %hf5, H5⟩, ⟨%f6, %hf6, H6⟩, ⟨%f7, %hf7, H7⟩, ⟨%f8, %hf8, H8⟩, Hk⟩
  obtain rfl := harg4.eq_unread hf4; obtain rfl := harg5.eq_unread hf5; obtain rfl := harg6.eq_unread hf6; obtain rfl := harg7.eq_unread hf7; obtain rfl := harg8.eq_unread hf8
  have hT0 : (Memref.whole main_c : Memref sig .tc .smem S12 .i32).IsWhole := Memref.isWhole_whole _
  have hT1 : (Memref.whole main_c_0 : Memref sig .tc .smem S12 .i32).IsWhole := Memref.isWhole_whole _
  sl_exec (disch := first | sl_exact hc1 | sl_exact hc2 | sl_exact hc3)
  sl_step
  iapply Hk
  isplitl [HT0]; · iexact HT0
  isplitl [HT1]; · iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_words
    rw [read_writes_whole (S := S1x1024x64) hz3]
    unfold offO
    simp only [View.readCov_unit_zero (S := S1x1024x64) _ hz3, View.readCov_unit_zero (S := S1024x128) _ hz2, View.readAt_eq_ld, harg4.read_unread, harg5.read_unread, harg6.read_unread, harg7.read_unread, harg8.read_unread, View.ld_unit_zero (S := S1x1024x64) hz3, View.ld_unit_zero (S := S1x256x64) hz3, View.ld_unit_zero (S := S1024x128) hz2]
    skip
    try rfl
  iexists _; isplitr; swap; · iexact H8
  ipureintro
  sl_unfold_words
  rw [read_writes_whole (S := S1024x128) hz2]
  unfold offC
  simp only [View.readCov_unit_zero (S := S1x1024x64) _ hz3, View.readCov_unit_zero (S := S1024x128) _ hz2, View.readAt_eq_ld, harg4.read_unread, harg5.read_unread, harg6.read_unread, harg7.read_unread, harg8.read_unread, View.ld_unit_zero (S := S1x1024x64) hz3, View.ld_unit_zero (S := S1x256x64) hz3, View.ld_unit_zero (S := S1024x128) hz2]
  skip
  try rfl

end Cert.KernelIdeal.A

end
-- ==== Proof.KATab.lean ====
/-
  The schedule of the attention region of the whole kernel.
-/
module

public import proofs.«01_k».proof.Proof.KABody

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cells launchToks Dat Cfg Window BodyObligation cellOf)

variable {F : FTy → Type} [FloatOps F] [Named F]

local notation "𝕄" => MT nD τ sig Unit (Elt F) ℕ (UR sig nD τ) ℕ

-- what the TensorCore buffers hold when the region is entered
variable (V : (c : Dev nD) → (b : Ref sig .tc) → Buf (Elt F) ((c : Thread nD τ).loc b))

def pos (j : Fin 12) : S12.Idx := fun a => ⟨j.val, by fin_cases a; exact j.isLt⟩

def tq (j : Fin 12) : BitVec 32 := lit0 (S12.rowMajor (pos j))

def ta (j : Fin 12) : BitVec 32 := lit1 (S12.rowMajor (pos j))

def tabs : pre1.Contents (Elt F) :=
  fun | 0 => fun i => lit0 (S12.rowMajor i) | 1 => fun i => lit1 (S12.rowMajor i) | ⟨_ + 2, h⟩ => absurd h (Nat.not_lt.2 (Nat.le_add_left _ _))

theorem off_val (i : grid1.Coords) : k1_off1 i 0 = (i 1).val := congrFun (k1_off1_eq i) 0

theorem emb_eq (i : grid1.Coords) (h) :
    (Rect.unit (s := S12) (k1_off1 i) S1.size (k1_off1_inb i)).emb (Shape.Idx.first h) = pos (i 1) := by
  funext a
  fin_cases a
  refine Fin.ext ?_
  show k1_off1 i 0 + 1 * 0 = (i 1).val
  rw [off_val]
  exact Nat.add_zero _

theorem ix_0 (i : grid1.Coords) : cc1_transform_0 k1_off1_inb numel1_S1 (tabs (F := F)) i = ![(i 0).val, (tq (i 1)).toNat, 0] := by
  have e : (tabs (F := F)).at 0 (Rect.unit (s := S12) (k1_off1 i) S1.size (k1_off1_inb i)) numel1_S1 = tq (i 1) := by
    exact congrArg (fun x => lit0 (S12.rowMajor x)) (emb_eq i _)
  have e0 : (BitVec.ofNat 32 (i 0).val).toNat = (i 0).val := by
    rw [BitVec.toNat_ofNat]; exact Nat.mod_eq_of_lt (lt_trans (i 0).isLt (by decide))
  show ![(BitVec.ofNat 32 (i 0).val).toNat, BitVec.toNat (w := 32) ((tabs (F := F)).at 0 (Rect.unit (s := S12) (k1_off1 i) S1.size (k1_off1_inb i)) numel1_S1), (0#32).toNat] = _
  rw [e, e0]; rfl

theorem ix_1 (i : grid1.Coords) : cc1_transform_1 k1_off1_inb numel1_S1 (tabs (F := F)) i = ![(i 0).val, (ta (i 1)).toNat, 0] := by
  have e : (tabs (F := F)).at 1 (Rect.unit (s := S12) (k1_off1 i) S1.size (k1_off1_inb i)) numel1_S1 = ta (i 1) := by
    exact congrArg (fun x => lit1 (S12.rowMajor x)) (emb_eq i _)
  have e0 : (BitVec.ofNat 32 (i 0).val).toNat = (i 0).val := by
    rw [BitVec.toNat_ofNat]; exact Nat.mod_eq_of_lt (lt_trans (i 0).isLt (by decide))
  show ![(BitVec.ofNat 32 (i 0).val).toNat, BitVec.toNat (w := 32) ((tabs (F := F)).at 1 (Rect.unit (s := S12) (k1_off1 i) S1.size (k1_off1_inb i)) numel1_S1), (0#32).toNat] = _
  rw [e, e0]; rfl

theorem ix_2 (i : grid1.Coords) : cc1_transform_2 k1_off1_inb numel1_S1 (tabs (F := F)) i = ![(i 0).val, (ta (i 1)).toNat, 0] := ix_1 i
theorem ix_3 (i : grid1.Coords) : cc1_transform_3 k1_off1_inb numel1_S1 (tabs (F := F)) i = ![(i 0).val, (tq (i 1)).toNat, 0] := ix_0 i

theorem tq_lt : ∀ j : Fin 12, (tq j).toNat < 2 := by decide +kernel
theorem ta_lt : ∀ j : Fin 12, (ta j).toNat < 8 := by decide +kernel

theorem fits_q (i : grid1.Coords) (a : Fin 3) : ((![(i 0).val, (tq (i 1)).toNat, 0] : Fin 3 → Nat) a + 1) * S1x1024x64.size a ≤ S16x2048x64.size a := by
  have h0 := (i 0).isLt
  have h1 := tq_lt (i 1)
  have h0' : (i 0).val < 16 := h0
  fin_cases a
  · show ((i 0).val + 1) * 1 ≤ 16; omega
  · show ((tq (i 1)).toNat + 1) * 1024 ≤ 2048; omega
  · show (0 + 1) * 64 ≤ 64; omega

theorem fits_k (i : grid1.Coords) (a : Fin 3) : ((![(i 0).val, (ta (i 1)).toNat, 0] : Fin 3 → Nat) a + 1) * S1x256x64.size a ≤ S16x2048x64.size a := by
  have h0 := (i 0).isLt
  have h1 := ta_lt (i 1)
  have h0' : (i 0).val < 16 := h0
  fin_cases a
  · show ((i 0).val + 1) * 1 ≤ 16; omega
  · show ((ta (i 1)).toNat + 1) * 256 ≤ 2048; omega
  · show (0 + 1) * 64 ≤ 64; omega

theorem words_k : ∀ (x : Fin 16) (y : Fin 8), ∃ h : (∀ a, ((![x.val, y.val, 0] : Fin 3 → Nat) a + 1) * S1x256x64.size a ≤ S16x2048x64.size a),
    (Rect.block (s := S16x2048x64) S1x256x64.size ![x.val, y.val, 0] h).WholeWords (EltTy.packing .bf16) := by decide +kernel

theorem tabs_ok : ok1 (tabs (F := F)) := by
  refine ⟨fun i => ⟨?_, .inl rfl⟩, fun i => ⟨?_, .inl rfl⟩, fun i => ?_, fun i => ⟨?_, .inl rfl⟩⟩
  · rw [ix_0]; exact fits_q i
  · rw [ix_1]; exact fits_k i
  · rw [ix_2]
    obtain ⟨h, hw⟩ := words_k ⟨(i 0).val, (i 0).isLt⟩ ⟨(ta (i 1)).toNat, ta_lt (i 1)⟩
    exact ⟨h, .inr hw⟩
  · rw [ix_3]; exact fits_q i

def adm1 : (pcfg1 (F := F)).Adm := ⟨tabs, tabs_ok⟩

abbrev cfgT : Cfg sig Λ₀ := cfg1 (F := F) adm1

theorem N_T : (cfgT (F := F)).N = 192 := N_1

theorem co0 : ∀ t : Fin grid1.N, (grid1.coords t 0).val = t.val / 12 := by decide +kernel
theorem co1 : ∀ t : Fin grid1.N, (grid1.coords t 1).val = t.val % 12 := by decide +kernel

def wq (t : Fin grid1.N) : BitVec 32 := tq (grid1.coords t 1)
def wa (t : Fin grid1.N) : BitVec 32 := ta (grid1.coords t 1)

theorem rd0_eq (c : Dev nD) (t : Fin grid1.N) : rd0 (F := F) (c := c) (tabs (F := F) 0) (grid1.coords t) = wq t := by
  show lit0 (S12.rowMajor _) = _
  unfold wq tq
  congr 2
  exact emb_eq _ _
theorem rd1_eq (c : Dev nD) (t : Fin grid1.N) : rd1 (F := F) (c := c) (tabs (F := F) 1) (grid1.coords t) = wa t := by
  show lit1 (S12.rowMajor _) = _
  unfold wa ta
  congr 2
  exact emb_eq _ _

theorem cond1_iff : ∀ t : Fin grid1.N, k1_cond1 (wq t) (wa t) = 1#1 ↔ (t.val % 12 = 0 ∨ t.val % 12 = 4) := by decide +kernel
theorem cond2_iff : ∀ t : Fin grid1.N, k1_cond2 (wq t) (wa t) = 1#1 ↔ t.val % 12 < 8 := by decide +kernel
theorem cond3_iff : ∀ t : Fin grid1.N, k1_cond3 (wq t) (wa t) = 1#1 ↔ ¬ t.val % 12 < 8 := by decide +kernel

theorem live_j : ∀ j : Fin 12, ((!(k1_cond1 (tq j) (ta j) == 1#1)) && (!(k1_cond2 (tq j) (ta j) == 1#1)) && !(k1_cond3 (tq j) (ta j) == 1#1)) = false := by
  decide +kernel

theorem live_3 (i : grid1.Coords) : (cfgT (F := F)).idle 3 i = false := by
  have e0 : (tabs (F := F)).atD 0 (k1_off1 i) = tq (i 1) := by
    have h : ∀ a : Fin 1, k1_off1 i a + 1 ≤ S12.size a := fun a => by
      fin_cases a; exact lt_of_eq_of_lt (off_val _) (i 1).isLt
    show dite (∀ a : Fin 1, k1_off1 i a + 1 ≤ S12.size a) (fun h => lit0 (S12.rowMajor fun a => ⟨_, h a⟩)) (fun _ => default) = _
    rw [dif_pos h]
    exact congrArg (fun x => lit0 (S12.rowMajor x)) (funext fun a => by fin_cases a; exact Fin.ext (off_val _))
  have e1 : (tabs (F := F)).atD 1 (k1_off1 i) = ta (i 1) := by
    have h : ∀ a : Fin 1, k1_off1 i a + 1 ≤ S12.size a := fun a => by
      fin_cases a; exact lt_of_eq_of_lt (off_val _) (i 1).isLt
    show dite (∀ a : Fin 1, k1_off1 i a + 1 ≤ S12.size a) (fun h => lit1 (S12.rowMajor fun a => ⟨_, h a⟩)) (fun _ => default) = _
    rw [dif_pos h]
    exact congrArg (fun x => lit1 (S12.rowMajor x)) (funext fun a => by fin_cases a; exact Fin.ext (off_val _))
  show (!(k1_cond1 ((tabs (F := F)).atD 0 (k1_off1 i)) ((tabs (F := F)).atD 1 (k1_off1 i)) == 1#1)
    && !(k1_cond2 ((tabs (F := F)).atD 0 (k1_off1 i)) ((tabs (F := F)).atD 1 (k1_off1 i)) == 1#1)
    && !(k1_cond3 ((tabs (F := F)).atD 0 (k1_off1 i)) ((tabs (F := F)).atD 1 (k1_off1 i)) == 1#1)) = false
  rw [e0, e1]
  exact live_j (i 1)

theorem index_3 (t : Fin (cfgT (F := F)).N) : ((cfgT (F := F)).win 3).index t = ![(grid1.coords t 0).val, (wq t).toNat, 0] := ix_3 _

theorem same_tile : ∀ (n : Fin 191), (![(grid1.coords ⟨n.val + 1, lt_of_lt_of_eq (Nat.succ_lt_succ n.isLt) N_1.symm⟩ 0).val, (wq ⟨n.val + 1, lt_of_lt_of_eq (Nat.succ_lt_succ n.isLt) N_1.symm⟩).toNat, 0] : Fin 3 → Nat)
      = ![(grid1.coords ⟨n.val, lt_of_lt_of_eq (Nat.lt_succ_of_lt n.isLt) N_1.symm⟩ 0).val, (wq ⟨n.val, lt_of_lt_of_eq (Nat.lt_succ_of_lt n.isLt) N_1.symm⟩).toNat, 0] ↔ ¬ (n.val % 12 = 3 ∨ n.val % 12 = 11) := by
  decide +kernel

theorem flush_3 (t : Fin (cfgT (F := F)).N) : ((cfgT (F := F)).win 3).flush t = true ↔ (t.val % 12 = 3 ∨ t.val % 12 = 11) := by
  have hN : t.val < 192 := lt_of_lt_of_eq t.isLt N_T
  unfold Window.flush
  show (true && (decide (t.val + 1 = grid1.N) || decide (∃ h : t.val + 1 < (cfgT (F := F)).N, ((cfgT (F := F)).win 3).index ⟨t.val + 1, h⟩ ≠ ((cfgT (F := F)).win 3).index t))) = true ↔ _
  rw [Bool.true_and, Bool.or_eq_true, decide_eq_true_iff, decide_eq_true_iff]
  have hN0 : grid1.N = 192 := N_1
  by_cases hl : t.val = 191
  · exact ⟨fun _ => by omega, fun _ => .inl (by omega)⟩
  · have hs := same_tile ⟨t.val, by omega⟩
    constructor
    · rintro (h | ⟨h, hne⟩)
      · omega
      · by_contra hc
        refine hne ?_
        rw [index_3, index_3]
        exact hs.mpr hc
    · intro hc
      refine .inr ⟨lt_of_lt_of_eq (show t.val + 1 < 192 by omega) N_T.symm, fun he => ?_⟩
      rw [index_3, index_3] at he
      exact hs.mp he hc

end Cert.KernelIdeal.A

end
-- ==== Proof.KARun.lean ====
/-
  The attention region of the whole kernel.
-/
module

public import proofs.«01_k».proof.Proof.KATab

@[expose] public section

set_option maxRecDepth 16384

noncomputable section

namespace Cert.KernelIdeal.A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cells launchToks Dat Cfg Window BodyObligation cellOf)

variable {F : FTy → Type} [FloatOps F] [Named F]

local notation "𝕄" => MT nD τ sig Unit (Elt F) ℕ (UR sig nD τ) ℕ

-- what the TensorCore buffers hold when the region is entered
variable (V : (c : Dev nD) → (b : Ref sig .tc) → Buf (Elt F) ((c : Thread nD τ).loc b))

def blkV (c : Dev nD) (w : Fin (cfgT (F := F)).W) (t : Fin (cfgT (F := F)).N) :
    (((cfgT (F := F)).win w).xblock ((cfgT (F := F)).grid.coords t)).Idx → Elt F ((cfgT (F := F)).win w).elt :=
  (((cfgT (F := F)).win w).blk t).view.read (Elt F) (V c (Pipeline.arrRef spec1 w))

def bq (c : Dev nD) (t : Fin (cfgT (F := F)).N) : Vec F S1x1024x64 .f32 := blkV V c 0 t
def bk (c : Dev nD) (t : Fin (cfgT (F := F)).N) : Vec F S1x256x64 .f32 := blkV V c 1 t
def bv (c : Dev nD) (t : Fin (cfgT (F := F)).N) : Vec F S1x256x64 .bf16 := blkV V c 2 t

def stepO (c : Dev nD) (t : Fin (cfgT (F := F)).N) (p : Vec F S1x1024x64 .f32 × Vec F S1024x128 .f32) : Vec F S1x1024x64 .f32 :=
  if t.val % 12 = 0 ∨ t.val % 12 = 4 then diagO (wq t) (wa t) (bq V c t) (bk V c t) (bv V c t) (k1_pay11 (F := F)) (k1_pay12 (F := F))
  else if t.val % 12 < 8 then diagO (wq t) (wa t) (bq V c t) (bk V c t) (bv V c t) p.1 p.2
  else offO (bq V c t) (bk V c t) (bv V c t) p.1 p.2
def stepC (c : Dev nD) (t : Fin (cfgT (F := F)).N) (p : Vec F S1x1024x64 .f32 × Vec F S1024x128 .f32) : Vec F S1024x128 .f32 :=
  if t.val % 12 = 0 ∨ t.val % 12 = 4 then diagC (wq t) (wa t) (bq V c t) (bk V c t) (k1_pay12 (F := F))
  else if t.val % 12 < 8 then diagC (wq t) (wa t) (bq V c t) (bk V c t) p.2
  else offC (bq V c t) (bk V c t) p.2

def st (c : Dev nD) : (n : ℕ) → n < (cfgT (F := F)).N → Vec F S1x1024x64 .f32 × Vec F S1024x128 .f32
  | 0, h => (stepO V c ⟨0, h⟩ (k1_pay11, k1_pay12), stepC V c ⟨0, h⟩ (k1_pay11, k1_pay12))
  | n + 1, h => (stepO V c ⟨n + 1, h⟩ (st c n (Nat.lt_of_succ_lt h)), stepC V c ⟨n + 1, h⟩ (st c n (Nat.lt_of_succ_lt h)))

theorem st_first (c : Dev nD) (t : Fin (cfgT (F := F)).N) (h : t.val % 12 = 0 ∨ t.val % 12 = 4) :
    st V c t.val t.isLt = (diagO (wq t) (wa t) (bq V c t) (bk V c t) (bv V c t) (k1_pay11 (F := F)) (k1_pay12 (F := F)),
      diagC (wq t) (wa t) (bq V c t) (bk V c t) (k1_pay12 (F := F))) := by
  obtain ⟨n, hn⟩ := t
  cases n with
  | zero => show (stepO _ _ _ _, stepC _ _ _ _) = _; unfold stepO stepC; rw [if_pos h, if_pos h]
  | succ n => show (stepO _ _ _ _, stepC _ _ _ _) = _; unfold stepO stepC; rw [if_pos h, if_pos h]

theorem st_diag (c : Dev nD) (t : Fin (cfgT (F := F)).N) (h : ¬ (t.val % 12 = 0 ∨ t.val % 12 = 4)) (h8 : t.val % 12 < 8) :
    st V c t.val t.isLt = (diagO (wq t) (wa t) (bq V c t) (bk V c t) (bv V c t)
        (st V c (t.val - 1) (Nat.lt_of_le_of_lt (Nat.sub_le _ _) t.isLt)).1 (st V c (t.val - 1) (Nat.lt_of_le_of_lt (Nat.sub_le _ _) t.isLt)).2,
      diagC (wq t) (wa t) (bq V c t) (bk V c t) (st V c (t.val - 1) (Nat.lt_of_le_of_lt (Nat.sub_le _ _) t.isLt)).2) := by
  obtain ⟨n, hn⟩ := t
  cases n with
  | zero => exact absurd (.inl rfl) h
  | succ n => show (stepO _ _ _ _, stepC _ _ _ _) = _; unfold stepO stepC; rw [if_neg h, if_neg h, if_pos h8, if_pos h8]; rfl

theorem st_off (c : Dev nD) (t : Fin (cfgT (F := F)).N) (h8 : ¬ t.val % 12 < 8) :
    st V c t.val t.isLt = (offO (bq V c t) (bk V c t) (bv V c t)
        (st V c (t.val - 1) (Nat.lt_of_le_of_lt (Nat.sub_le _ _) t.isLt)).1 (st V c (t.val - 1) (Nat.lt_of_le_of_lt (Nat.sub_le _ _) t.isLt)).2,
      offC (bq V c t) (bk V c t) (st V c (t.val - 1) (Nat.lt_of_le_of_lt (Nat.sub_le _ _) t.isLt)).2) := by
  obtain ⟨n, hn⟩ := t
  have h : ¬ (n % 12 = 0 ∨ n % 12 = 4) := by dsimp only at h8; omega
  cases n with
  | zero => exact absurd (.inl rfl) h
  | succ n => show (stepO _ _ _ _, stepC _ _ _ _) = _; unfold stepO stepC; rw [if_neg h, if_neg h, if_neg h8, if_neg h8]; rfl

/-- What the attention region does not touch and hands back. -/
abbrev rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

def Phi (c : Dev nD) : (n : ℕ) → n < (cfgT (F := F)).N + 1 → sProp 𝕄
  | 0, _ => iprop(((Memref.whole main_c).view.loc (c : Thread nD τ) ↦{fullShare} (tabs (F := F) 0)) ∗ ((Memref.whole main_c_0).view.loc (c : Thread nD τ) ↦{fullShare} (tabs (F := F) 1))
      ∗ (∃ d, owns (c : Thread nD τ) (Memref.whole cc1_scratch0 : Memref sig .tc .vmem S1024x128 .f32) fullShare d))
  | n + 1, h => iprop(((Memref.whole main_c).view.loc (c : Thread nD τ) ↦{fullShare} (tabs (F := F) 0)) ∗ ((Memref.whole main_c_0).view.loc (c : Thread nD τ) ↦{fullShare} (tabs (F := F) 1))
      ∗ owns (c : Thread nD τ) (Memref.whole cc1_scratch0 : Memref sig .tc .vmem S1024x128 .f32) fullShare (st V c n (Nat.lt_of_succ_lt_succ h)).2)

def dat (c : Dev nD) : Dat τ (Elt F) Unit ℕ (UR sig nD τ) ℕ (cfgT (F := F)) c where
  A w := V c (Pipeline.arrRef spec1 w)
  after w t := match w with
    | ⟨0, _⟩ => blkV V c 0 t
    | ⟨1, _⟩ => blkV V c 1 t
    | ⟨2, _⟩ => blkV V c 2 t
    | ⟨3, _⟩ => (st V c t.val t.isLt).1
  Φ n := iprop(Phi V c n.val n.isLt ∗ rest1 c)
  q _ := fullShare
  owed _ := 0

theorem A_eq (c : Dev nD) (w : Fin (cfgT (F := F)).W) : (dat V c).A w = V c (Pipeline.arrRef spec1 w) := by
  dsimp only [dat]

theorem after_0 (c : Dev nD) (t : Fin (cfgT (F := F)).N) : (dat V c).after 0 t = blkV V c 0 t := rfl
theorem after_1 (c : Dev nD) (t : Fin (cfgT (F := F)).N) : (dat V c).after 1 t = blkV V c 1 t := rfl
theorem after_2 (c : Dev nD) (t : Fin (cfgT (F := F)).N) : (dat V c).after 2 t = blkV V c 2 t := rfl
theorem after_3 (c : Dev nD) (t : Fin (cfgT (F := F)).N) : (dat V c).after 3 t = (st V c t.val t.isLt).1 := rfl

theorem before_0 (c : Dev nD) (t : Fin (cfgT (F := F)).N) (d) : (dat V c).before 0 t d = blkV V c 0 t :=
  ((dat V c).before_in_eq_fetched 0 rfl (fun _ => rfl) (fun _ _ _ => rfl) (fun t => by rw [after_0]; unfold Dat.blockOf blkV; rw [A_eq]; try rfl) t d).trans
    (by unfold Dat.fetched Dat.blockOf blkV; rw [A_eq]; try rfl)
theorem before_1 (c : Dev nD) (t : Fin (cfgT (F := F)).N) (d) : (dat V c).before 1 t d = blkV V c 1 t :=
  ((dat V c).before_in_eq_fetched 1 rfl (fun _ => rfl) (fun _ _ _ => rfl) (fun t => by rw [after_1]; unfold Dat.blockOf blkV; rw [A_eq]; try rfl) t d).trans
    (by unfold Dat.fetched Dat.blockOf blkV; rw [A_eq]; try rfl)
theorem before_2 (c : Dev nD) (t : Fin (cfgT (F := F)).N) (d) : (dat V c).before 2 t d = blkV V c 2 t :=
  ((dat V c).before_in_eq_fetched 2 rfl (fun _ => rfl) (fun _ _ _ => rfl) (fun t => by rw [after_2]; unfold Dat.blockOf blkV; rw [A_eq]; try rfl) t d).trans
    (by unfold Dat.fetched Dat.blockOf blkV; rw [A_eq]; try rfl)

theorem before_3 (c : Dev nD) (t : Fin (cfgT (F := F)).N) (h0 : ¬ (t.val % 12 = 0 ∨ t.val % 12 = 4)) (d) :
    (dat V c).before 3 t d = (st V c (t.val - 1) (Nat.lt_of_le_of_lt (Nat.sub_le _ _) t.isLt)).1 := by
  have ht : t.val ≠ 0 := fun h => h0 (by rw [h]; exact .inl rfl)
  refine ((dat V c).before_out_kept 3 rfl t ht ?_ (fun i => live_3 i) (fun _ _ => rfl) d).trans (after_3 V c _)
  exact Bool.eq_false_iff.mpr fun h => by
    have := (flush_3 _).mp h
    dsimp only at this
    omega

abbrev st0 (t : Fin (cfgT (F := F)).N) : Memref sig .tc .vmem S1x1024x64 .f32 := spec1_0.stage ((cfgT (F := F)).slots t 0)
abbrev st1 (t : Fin (cfgT (F := F)).N) : Memref sig .tc .vmem S1x256x64 .f32 := spec1_1.stage ((cfgT (F := F)).slots t 1)
abbrev st2 (t : Fin (cfgT (F := F)).N) : Memref sig .tc .vmem S1x256x64 .bf16 := spec1_2.stage ((cfgT (F := F)).slots t 2)
abbrev st3 (t : Fin (cfgT (F := F)).N) : Memref sig .tc .vmem S1x1024x64 .f32 := spec1_3.stage ((cfgT (F := F)).slots t 3)

abbrev bodyAt (t : Fin (cfgT (F := F)).N) : Prog (TpuEff nD τ sig (Elt F) Λ₀ .tc) PUnit :=
  cc1__attn_body (grid1.coords t) (Memref.whole main_c) (Memref.isWhole_whole _) (Memref.whole main_c_0) (Memref.isWhole_whole _)
    (st0 t) (hstage1_0 (((cfgT (F := F)).slots t 0).cast nbuf1_0)) (st1 t) (hstage1_1 (((cfgT (F := F)).slots t 1).cast nbuf1_1))
    (st2 t) (hstage1_2 (((cfgT (F := F)).slots t 2).cast nbuf1_2)) (st3 t) (hstage1_3 (((cfgT (F := F)).slots t 3).cast nbuf1_3))
    (Memref.whole cc1_scratch0) (Memref.isWhole_whole _)

def bodyPre (c : Dev nD) (t : Fin (cfgT (F := F)).N) : sProp 𝕄 :=
  iprop(Phi V c t.castSucc.val t.castSucc.isLt ∗ (dat V c).owesAt () t.castSucc
    ∗ (∃ d, owns (c : Thread nD τ) (st0 t) fullShare ((dat V c).before 0 t d))
    ∗ (∃ d, owns (c : Thread nD τ) (st1 t) fullShare ((dat V c).before 1 t d))
    ∗ (∃ d, owns (c : Thread nD τ) (st2 t) fullShare ((dat V c).before 2 t d))
    ∗ (∃ d, owns (c : Thread nD τ) (st3 t) fullShare ((dat V c).before 3 t d)))

def bodyPost (c : Dev nD) (t : Fin (cfgT (F := F)).N) : sProp 𝕄 :=
  iprop(Phi V c t.succ.val t.succ.isLt ∗ (dat V c).owesAt () t.succ
    ∗ (dat V c).leavesExact 0 t
    ∗ (dat V c).leavesExact 1 t
    ∗ (dat V c).leavesExact 2 t
    ∗ (dat V c).leavesExact 3 t)

theorem leaves_0 (c : Dev nD) (t : Fin (cfgT (F := F)).N) : (dat V c).leavesExact 0 t = owns (c : Thread nD τ) (st0 t) fullShare (bq V c t) := by
  unfold bq; rw [← after_0]; rfl
theorem leaves_1 (c : Dev nD) (t : Fin (cfgT (F := F)).N) : (dat V c).leavesExact 1 t = owns (c : Thread nD τ) (st1 t) fullShare (bk V c t) := by
  unfold bk; rw [← after_1]; rfl
theorem leaves_2 (c : Dev nD) (t : Fin (cfgT (F := F)).N) : (dat V c).leavesExact 2 t = owns (c : Thread nD τ) (st2 t) fullShare (bv V c t) := by
  unfold bv; rw [← after_2]; rfl
theorem leaves_3 (c : Dev nD) (t : Fin (cfgT (F := F)).N) : (dat V c).leavesExact 3 t = owns (c : Thread nD τ) (st3 t) fullShare (st V c t.val t.isLt).1 := by
  unfold Dat.leavesExact; rw [show (cfgT (F := F)).idle 3 ((cfgT (F := F)).grid.coords t) = false from live_3 _, ← after_3 V c t]; rfl

theorem Phi_any (c : Dev nD) (n : ℕ) (h : n < (cfgT (F := F)).N + 1) :
    Phi V c n h ⊢ iprop(((Memref.whole main_c).view.loc (c : Thread nD τ) ↦{fullShare} (tabs (F := F) 0)) ∗ ((Memref.whole main_c_0).view.loc (c : Thread nD τ) ↦{fullShare} (tabs (F := F) 1))
      ∗ (∃ d, owns (c : Thread nD τ) (Memref.whole cc1_scratch0 : Memref sig .tc .vmem S1024x128 .f32) fullShare d)) := by
  cases n with
  | zero => exact .rfl
  | succ n =>
    unfold Phi
    iintro ⟨H0, H1, H2⟩
    isplitl [H0]; · iexact H0
    isplitl [H1]; · iexact H1
    iexists _; iexact H2

theorem Phi_any' (c : Dev nD) (t : Fin (cfgT (F := F)).N) :
    Phi V c t.castSucc.val t.castSucc.isLt ⊢ iprop(((Memref.whole main_c).view.loc (c : Thread nD τ) ↦{fullShare} (tabs (F := F) 0)) ∗ ((Memref.whole main_c_0).view.loc (c : Thread nD τ) ↦{fullShare} (tabs (F := F) 1))
      ∗ (∃ d, owns (c : Thread nD τ) (Memref.whole cc1_scratch0 : Memref sig .tc .vmem S1024x128 .f32) fullShare d)) :=
  Phi_any V c t.castSucc.val t.castSucc.isLt

theorem Phi_pos (c : Dev nD) (t : Fin (cfgT (F := F)).N) (ht : t.val ≠ 0) :
    Phi V c t.castSucc.val t.castSucc.isLt = iprop(((Memref.whole main_c).view.loc (c : Thread nD τ) ↦{fullShare} (tabs (F := F) 0)) ∗ ((Memref.whole main_c_0).view.loc (c : Thread nD τ) ↦{fullShare} (tabs (F := F) 1))
      ∗ owns (c : Thread nD τ) (Memref.whole cc1_scratch0 : Memref sig .tc .vmem S1024x128 .f32) fullShare (st V c (t.val - 1) (Nat.lt_of_le_of_lt (Nat.sub_le _ _) t.isLt)).2) := by
  obtain ⟨n, hn⟩ := t
  cases n with
  | zero => exact absurd rfl ht
  | succ n => rfl

theorem Phi_succ (c : Dev nD) (t : Fin (cfgT (F := F)).N) :
    Phi V c t.succ.val t.succ.isLt = iprop(((Memref.whole main_c).view.loc (c : Thread nD τ) ↦{fullShare} (tabs (F := F) 0)) ∗ ((Memref.whole main_c_0).view.loc (c : Thread nD τ) ↦{fullShare} (tabs (F := F) 1))
      ∗ owns (c : Thread nD τ) (Memref.whole cc1_scratch0 : Memref sig .tc .vmem S1024x128 .f32) fullShare (st V c t.val t.isLt).2) := rfl

set_option maxHeartbeats 2400000 in

theorem sound_body (c : Dev nD) (t : Fin (cfgT (F := F)).N) :
    bodyPre V c t ⊢ wp frame (wpE (defs₀ (F := F)) Variants.none c none) Set.univ (bodyAt t) (fun _ => bodyPost V c t) := by
  unfold bodyPre bodyPost bodyAt
  simp only [before_0, before_1, before_2]
  rw [leaves_0, leaves_1, leaves_2, leaves_3]
  rw [Phi_succ]
  rw [show (dat V c).owesAt () t.succ = (dat V c).owesAt () t.castSucc from rfl]
  have e1 : k1_cond1 (rd0 (F := F) (c := c) (tabs (F := F) 0) (grid1.coords t)) (rd1 (F := F) (c := c) (tabs (F := F) 1) (grid1.coords t)) = 1#1 ↔ (t.val % 12 = 0 ∨ t.val % 12 = 4) := by
    rw [rd0_eq, rd1_eq]; exact cond1_iff t
  have e2 : k1_cond2 (rd0 (F := F) (c := c) (tabs (F := F) 0) (grid1.coords t)) (rd1 (F := F) (c := c) (tabs (F := F) 1) (grid1.coords t)) = 1#1 ↔ t.val % 12 < 8 := by
    rw [rd0_eq, rd1_eq]; exact cond2_iff t
  have e3 : k1_cond3 (rd0 (F := F) (c := c) (tabs (F := F) 0) (grid1.coords t)) (rd1 (F := F) (c := c) (tabs (F := F) 1) (grid1.coords t)) = 1#1 ↔ ¬ t.val % 12 < 8 := by
    rw [rd0_eq, rd1_eq]; exact cond3_iff t
  by_cases h0 : t.val % 12 = 0 ∨ t.val % 12 = 4
  · have h8 : t.val % 12 < 8 := by omega
    rw [st_first V c t h0, ← rd0_eq (F := F) c t, ← rd1_eq (F := F) c t]
    iintro ⟨HΦ, Ho, ⟨%d0, H0⟩, ⟨%d1, H1⟩, ⟨%d2, H2⟩, ⟨%d3, H3⟩⟩
    ihave HΦ' := (Phi_any' V c t) $$ HΦ
    icases HΦ' with ⟨HT0, HT1, HS⟩
    iapply (run_first c (grid1.coords t) _ _ _ _ _ _ _ _ _ _ (tabs (F := F) 0) (tabs (F := F) 1) (e1.mpr h0) (e2.mpr h8) (fun h => (e3.mp h) h8) (bq V c t) (bk V c t) (bv V c t) Set.univ _)
    isplitl [HT0]; · iexact HT0
    isplitl [HT1]; · iexact HT1
    isplitl [H0]; · iexact H0
    isplitl [H1]; · iexact H1
    isplitl [H2]; · iexact H2
    isplitl [H3]; · iexists _; iexact H3
    isplitl [HS]; · iexact HS
    iintro ⟨HT0, HT1, H0, H1, H2, H3, HS⟩
    isplitl [HT0 HT1 HS]
    · isplitl [HT0]; · iexact HT0
      isplitl [HT1]; · iexact HT1
      iexact HS
    isplitl [Ho]; · iexact Ho
    isplitl [H0]; · iexact H0
    isplitl [H1]; · iexact H1
    isplitl [H2]; · iexact H2
    iexact H3
  · have hz : t.val ≠ 0 := fun h => h0 (by rw [h]; exact .inl rfl)
    rw [Phi_pos V c t hz]
    simp only [before_3 V c t h0]
    by_cases h8 : t.val % 12 < 8
    · rw [st_diag V c t h0 h8, ← rd0_eq (F := F) c t, ← rd1_eq (F := F) c t]
      iintro ⟨⟨HT0, HT1, HS⟩, Ho, ⟨%d0, H0⟩, ⟨%d1, H1⟩, ⟨%d2, H2⟩, ⟨%d3, H3⟩⟩
      iapply (run_diag c (grid1.coords t) _ _ _ _ _ _ _ _ _ _ (tabs (F := F) 0) (tabs (F := F) 1) (fun h => h0 (e1.mp h)) (e2.mpr h8) (fun h => (e3.mp h) h8) (bq V c t) (bk V c t) (bv V c t) _ _ Set.univ _)
      isplitl [HT0]; · iexact HT0
      isplitl [HT1]; · iexact HT1
      isplitl [H0]; · iexact H0
      isplitl [H1]; · iexact H1
      isplitl [H2]; · iexact H2
      isplitl [H3]; · iexact H3
      isplitl [HS]; · iexact HS
      iintro ⟨HT0, HT1, H0, H1, H2, H3, HS⟩
      isplitl [HT0 HT1 HS]
      · isplitl [HT0]; · iexact HT0
        isplitl [HT1]; · iexact HT1
        iexact HS
      isplitl [Ho]; · iexact Ho
      isplitl [H0]; · iexact H0
      isplitl [H1]; · iexact H1
      isplitl [H2]; · iexact H2
      iexact H3
    · rw [st_off V c t h8]
      iintro ⟨⟨HT0, HT1, HS⟩, Ho, ⟨%d0, H0⟩, ⟨%d1, H1⟩, ⟨%d2, H2⟩, ⟨%d3, H3⟩⟩
      iapply (run_off c (grid1.coords t) _ _ _ _ _ _ _ _ _ _ (tabs (F := F) 0) (tabs (F := F) 1) (fun h => h0 (e1.mp h)) (fun h => h8 (e2.mp h)) (e3.mpr h8) (bq V c t) (bk V c t) (bv V c t) _ _ Set.univ _)
      isplitl [HT0]; · iexact HT0
      isplitl [HT1]; · iexact HT1
      isplitl [H0]; · iexact H0
      isplitl [H1]; · iexact H1
      isplitl [H2]; · iexact H2
      isplitl [H3]; · iexact H3
      isplitl [HS]; · iexact HS
      iintro ⟨HT0, HT1, H0, H1, H2, H3, HS⟩
      isplitl [HT0 HT1 HS]
      · isplitl [HT0]; · iexact HT0
        isplitl [HT1]; · iexact HT1
        iexact HS
      isplitl [Ho]; · iexact Ho
      isplitl [H0]; · iexact H0
      isplitl [H1]; · iexact H1
      isplitl [H2]; · iexact H2
      iexact H3

theorem defs₀_row (t : Fin (cfgT (F := F)).N) :
    defs₀ (F := F) .tc (cfgT (F := F)).body ((cfgT (F := F)).bodyArgs t ((cfgT (F := F)).slots t)) = bodyAt t := by
  unfold defs₀; rw [Defs.onTc_tc]

theorem frameR {p : Prog (TpuEff nD τ sig (Elt F) Λ₀ .tc) PUnit} (c : Dev nD) (P1 P2 R : sProp 𝕄) (Q1 Q2 : PUnit → sProp 𝕄)
    (h : iprop(P1 ∗ P2) ⊢ wp frame (wpE (defs₀ (F := F)) Variants.none (c : Thread nD τ) none) Set.univ p (fun x => iprop(Q1 x ∗ Q2 x))) :
    iprop((P1 ∗ R) ∗ P2) ⊢ wp frame (wpE (defs₀ (F := F)) Variants.none (c : Thread nD τ) none) Set.univ p (fun x => iprop((Q1 x ∗ R) ∗ Q2 x)) := by
  refine BIBase.Entails.trans ?_ ((sep_mono h .rfl).trans ((wp_frame_r (R := R) frame (wpE (defs₀ (F := F)) Variants.none (c : Thread nD τ) none) Set.univ).trans
    (wp_mono frame (wpE (defs₀ (F := F)) Variants.none (c : Thread nD τ) none) Set.univ fun _ => ?_)))
  · iintro ⟨⟨H1, H2⟩, H3⟩
    isplitr [H2]
    · isplitl [H1]; · iexact H1
      iexact H3
    iexact H2
  · iintro ⟨⟨H1, H3⟩, H2⟩
    isplitr [H3]
    · isplitl [H1]; · iexact H1
      iexact H2
    iexact H3

theorem body_obligation (c : Dev nD) : BodyObligation (dat (F := F) V c) (defs₀ (F := F)) Variants.none () Set.univ := fun t => by
  rw [bigSep_W1, bigSep_W1, defs₀_row]
  have h := sound_body V c t
  unfold bodyPre bodyPost at h
  exact triple_restated (frameR c _ _ (rest1 c) _ _ h) rfl .rfl fun _ => .rfl

end Cert.KernelIdeal.A

end
-- ==== Proof.KRA.lean ====
/-
  The router region of the whole kernel: its body at the first point.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Claim
public import Idealize.ShloMosaic.Lib.Pipeline.Value
public import Idealize.ShloMosaic.Lib.Pipeline.ValueKit
public import Idealize.ShloMosaic.Lib.Pipeline.Regions
public import Idealize.ShloMosaic.Lib.Pipeline.RegionArraysTS
public import Idealize.ShloMosaic.Lib.Pipeline.Frame
public import Idealize.ShloMosaic.Lib.Pipeline.FrameBody
public import Idealize.ShloMosaic.Lib.Quiescent
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.KernelIdeal.R

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cells launchToks Dat Cfg Window BodyObligation cellOf)

variable {F : FTy → Type} [FloatOps F] [Named F]

local notation "𝕄" => MT nD τ sig Unit (Elt F) ℕ (UR sig nD τ) ℕ

-- what the TensorCore buffers hold when the region is entered
variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before0_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid2.Coords) : Prop := (Scalar.cmpi .ne (Scalar.extui (Scalar.cmpi .eq (BitVec.ofNat 32 (i 0).val) 0#32)) 0#32) = 1#1

theorem hcond0_0 : ∀ t : Fin cfg2.N, cond0_0 (grid2.coords t) ↔ t.val % 8 = 0 :=
  (fun t => by
    have ht : t.val < 8 := Nat.lt_of_lt_of_eq t.isLt N_2
    have e0 : (grid2.coords t 0).val = t.val / 1 % 8 := Pipeline.Grid.coords_val t 0 (by decide) rfl
    simp only [cond0_0, e0]
    word_cmp
   : ∀ t : Fin grid2.N, cond0_0 (grid2.coords t) ↔ t.val % 8 = 0)

abbrev VO0_5 : View sig .tc .vmem S256x1024 .f32 := (Memref.whole cc2_stg5_0 : Memref sig .tc .vmem S256x1024 .f32).view

abbrev VO0_6 : View sig .tc .vmem S256x1024 .bf16 := (Memref.whole cc2_stg6_0 : Memref sig .tc .vmem S256x1024 .bf16).view

abbrev VO0_7 : View sig .tc .vmem S256x128 .f32 := (Memref.whole cc2_stg7_0 : Memref sig .tc .vmem S256x128 .f32).view

abbrev VO0_8 : View sig .tc .vmem S1x128 .f32 := (Memref.whole cc2_stg8_0 : Memref sig .tc .vmem S1x128 .f32).view

abbrev VO0_9 : View sig .tc .vmem S1x128 .f32 := (Memref.whole cc2_stg9_0 : Memref sig .tc .vmem S1x128 .f32).view

abbrev ms0_0 (t : Fin cfg2.N) : Memref sig .tc .vmem S256x1024 .f32 := win2_0.stage (cfg2.slots t 0)
abbrev hs0_0 (t : Fin cfg2.N) : (ms0_0 t).IsWhole := hstage2_0 ((cfg2.slots t 0).cast nbuf2_0)
abbrev ms0_1 (t : Fin cfg2.N) : Memref sig .tc .vmem S256x1024 .f32 := win2_1.stage (cfg2.slots t 1)
abbrev hs0_1 (t : Fin cfg2.N) : (ms0_1 t).IsWhole := hstage2_1 ((cfg2.slots t 1).cast nbuf2_1)
abbrev ms0_2 (t : Fin cfg2.N) : Memref sig .tc .vmem S1024x1024 .bf16 := win2_2.stage (cfg2.slots t 2)
abbrev hs0_2 (t : Fin cfg2.N) : (ms0_2 t).IsWhole := hstage2_2 ((cfg2.slots t 2).cast nbuf2_2)
abbrev ms0_3 (t : Fin cfg2.N) : Memref sig .tc .vmem S1x1024 .f32 := win2_3.stage (cfg2.slots t 3)
abbrev hs0_3 (t : Fin cfg2.N) : (ms0_3 t).IsWhole := hstage2_3 ((cfg2.slots t 3).cast nbuf2_3)
abbrev ms0_4 (t : Fin cfg2.N) : Memref sig .tc .vmem S1024x128 .f32 := win2_4.stage (cfg2.slots t 4)
abbrev hs0_4 (t : Fin cfg2.N) : (ms0_4 t).IsWhole := hstage2_4 ((cfg2.slots t 4).cast nbuf2_4)
abbrev ms0_5 (t : Fin cfg2.N) : Memref sig .tc .vmem S256x1024 .f32 := win2_5.stage (cfg2.slots t 5)
abbrev hs0_5 (t : Fin cfg2.N) : (ms0_5 t).IsWhole := hstage2_5 ((cfg2.slots t 5).cast nbuf2_5)
abbrev ms0_6 (t : Fin cfg2.N) : Memref sig .tc .vmem S256x1024 .bf16 := win2_6.stage (cfg2.slots t 6)
abbrev hs0_6 (t : Fin cfg2.N) : (ms0_6 t).IsWhole := hstage2_6 ((cfg2.slots t 6).cast nbuf2_6)
abbrev ms0_7 (t : Fin cfg2.N) : Memref sig .tc .vmem S256x128 .f32 := win2_7.stage (cfg2.slots t 7)
abbrev hs0_7 (t : Fin cfg2.N) : (ms0_7 t).IsWhole := hstage2_7 ((cfg2.slots t 7).cast nbuf2_7)
abbrev ms0_8 (t : Fin cfg2.N) : Memref sig .tc .vmem S1x128 .f32 := win2_8.stage (cfg2.slots t 8)
abbrev hs0_8 (t : Fin cfg2.N) : (ms0_8 t).IsWhole := hstage2_8 ((cfg2.slots t 8).cast nbuf2_8)
abbrev ms0_9 (t : Fin cfg2.N) : Memref sig .tc .vmem S1x128 .f32 := win2_9.stage (cfg2.slots t 9)
abbrev hs0_9 (t : Fin cfg2.N) : (ms0_9 t).IsWhole := hstage2_9 ((cfg2.slots t 9).cast nbuf2_9)

set_option maxHeartbeats 1000000 in

noncomputable def kernelRun0_A (c : Dev nD) (i : grid2.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S256x1024 .f32) (x1 : Vec F S256x1024 .f32) (x2 : Vec F S1024x1024 .bf16) (x3 : Vec F S1x1024 .f32) (x4 : Vec F S1024x128 .f32) :
    Σ' (L5 : List (View.Piece (Elt F) S256x1024 .f32)), Σ' (L6 : List (View.Piece (Elt F) S256x1024 .bf16)), Σ' (L7 : List (View.Piece (Elt F) S256x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc2__proj_body i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__proj_body_eq_skeleton]; unfold cc2__proj_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact H9

end Cert.KernelIdeal.R

end
-- ==== Proof.KRB.lean ====
/-
  The router region of the whole kernel: its body at a later point.
-/
module

public import proofs.«01_k».proof.Proof.KRA

@[expose] public section

set_option maxRecDepth 16384

noncomputable section

namespace Cert.KernelIdeal.R

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cells launchToks Dat Cfg Window BodyObligation cellOf)

variable {F : FTy → Type} [FloatOps F] [Named F]

local notation "𝕄" => MT nD τ sig Unit (Elt F) ℕ (UR sig nD τ) ℕ

-- what the TensorCore buffers hold when the region is entered
variable (V : (c : Dev nD) → (b : Ref sig .tc) → Buf (Elt F) ((c : Thread nD τ).loc b))

set_option maxHeartbeats 1000000 in

noncomputable def kernelRun0_B (c : Dev nD) (i : grid2.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S256x1024 .f32) (x1 : Vec F S256x1024 .f32) (x2 : Vec F S1024x1024 .bf16) (x3 : Vec F S1x1024 .f32) (x4 : Vec F S1024x128 .f32) (xo8 : Vec F S1x128 .f32) (xo9 : Vec F S1x128 .f32) :
    Σ' (L5 : List (View.Piece (Elt F) S256x1024 .f32)), Σ' (L6 : List (View.Piece (Elt F) S256x1024 .bf16)), Σ' (L7 : List (View.Piece (Elt F) S256x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc2__proj_body i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__proj_body_eq_skeleton]; unfold cc2__proj_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact H9

end Cert.KernelIdeal.R

end
-- ==== Proof.KR.lean ====
/-
  The router region of the whole kernel.
-/
module

public import proofs.«01_k».proof.Proof.KRB

@[expose] public section

set_option maxRecDepth 16384

noncomputable section

namespace Cert.KernelIdeal.R

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cells launchToks Dat Cfg Window BodyObligation cellOf)

variable {F : FTy → Type} [FloatOps F] [Named F]

local notation "𝕄" => MT nD τ sig Unit (Elt F) ℕ (UR sig nD τ) ℕ

-- what the TensorCore buffers hold when the region is entered
variable (V : (c : Dev nD) → (b : Ref sig .tc) → Buf (Elt F) ((c : Thread nD τ).loc b))

section A

variable (c : Dev nD) (i : grid2.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (hc0 : cond0_0 i)
  (x0 : Vec F S256x1024 .f32) (x1 : Vec F S256x1024 .f32) (x2 : Vec F S1024x1024 .bf16) (x3 : Vec F S1x1024 .f32) (x4 : Vec F S1024x128 .f32)

theorem cover0_A_5 (y : S256x1024.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).1, y ∈ pc.1.set :=
  View.cover_of_tiledL _ S256x1024.size (by sl_kernel_rfl) y

def out0_A_5 : Vec F S256x1024 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 x0 x1 x2 x3 x4).1)

theorem cover0_A_6 (y : S256x1024.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).2.1, y ∈ pc.1.set :=
  View.cover_of_tiledL _ S256x1024.size (by sl_kernel_rfl) y

def out0_A_6 : Vec F S256x1024 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 x0 x1 x2 x3 x4).2.1)

theorem cover0_A_7 (y : S256x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).2.2.1, y ∈ pc.1.set :=
  View.cover_of_tiledL _ S256x128.size (by sl_kernel_rfl) y

def out0_A_7 : Vec F S256x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 x0 x1 x2 x3 x4).2.2.1)

theorem cover0_A_8 (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).2.2.2.1, y ∈ pc.1.set :=
  View.cover_of_tiledL _ S1x128.size (by sl_kernel_rfl) y

def out0_A_8 : Vec F S1x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 hc0 x0 x1 x2 x3 x4).2.2.2.1)

theorem cover0_A_9 (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4).2.2.2.2.1, y ∈ pc.1.set :=
  View.cover_of_tiledL _ S1x128.size (by sl_kernel_rfl) y

def out0_A_9 : Vec F S1x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 hc0 x0 x1 x2 x3 x4).2.2.2.2.1)

end A

section B

variable (c : Dev nD) (i : grid2.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
  (x0 : Vec F S256x1024 .f32) (x1 : Vec F S256x1024 .f32) (x2 : Vec F S1024x1024 .bf16) (x3 : Vec F S1x1024 .f32) (x4 : Vec F S1024x128 .f32) (xo8 : Vec F S1x128 .f32) (xo9 : Vec F S1x128 .f32)

theorem cover0_B_5 (y : S256x1024.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xo8 xo9).1, y ∈ pc.1.set :=
  View.cover_of_tiledL _ S256x1024.size (by sl_kernel_rfl) y

def out0_B_5 : Vec F S256x1024 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 x0 x1 x2 x3 x4 xo8 xo9).1)

theorem cover0_B_6 (y : S256x1024.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xo8 xo9).2.1, y ∈ pc.1.set :=
  View.cover_of_tiledL _ S256x1024.size (by sl_kernel_rfl) y

def out0_B_6 : Vec F S256x1024 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 x0 x1 x2 x3 x4 xo8 xo9).2.1)

theorem cover0_B_7 (y : S256x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xo8 xo9).2.2.1, y ∈ pc.1.set :=
  View.cover_of_tiledL _ S256x128.size (by sl_kernel_rfl) y

def out0_B_7 : Vec F S256x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 x0 x1 x2 x3 x4 xo8 xo9).2.2.1)

theorem cover0_B_8 (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xo8 xo9).2.2.2.1, y ∈ pc.1.set :=
  View.cover_of_tiledL _ S1x128.size (by sl_kernel_rfl) y

def out0_B_8 : Vec F S1x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 hc0 x0 x1 x2 x3 x4 xo8 xo9).2.2.2.1)

theorem cover0_B_9 (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 xo8 xo9).2.2.2.2.1, y ∈ pc.1.set :=
  View.cover_of_tiledL _ S1x128.size (by sl_kernel_rfl) y

def out0_B_9 : Vec F S1x128 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 hc0 x0 x1 x2 x3 x4 xo8 xo9).2.2.2.2.1)

end B
/-- The five results at a point that starts the sums. -/
def tupA (c : Dev nD) (t : Fin cfg2.N) (h0 : t.val % 8 = 0) : Vec F S256x1024 .f32 × Vec F S256x1024 .bf16 × Vec F S256x128 .f32 × Vec F S1x128 .f32 × Vec F S1x128 .f32 :=
  (out0_A_5 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk V c 0 t) (iblk V c 1 t) (iblk V c 2 t) (iblk V c 3 t) (iblk V c 4 t), out0_A_6 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk V c 0 t) (iblk V c 1 t) (iblk V c 2 t) (iblk V c 3 t) (iblk V c 4 t), out0_A_7 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk V c 0 t) (iblk V c 1 t) (iblk V c 2 t) (iblk V c 3 t) (iblk V c 4 t), out0_A_8 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk V c 0 t) (iblk V c 1 t) (iblk V c 2 t) (iblk V c 3 t) (iblk V c 4 t), out0_A_9 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk V c 0 t) (iblk V c 1 t) (iblk V c 2 t) (iblk V c 3 t) (iblk V c 4 t))

/-- The five results at a point that goes on with the sums. -/
def tupB (c : Dev nD) (t : Fin cfg2.N) (h0 : ¬t.val % 8 = 0) (xo8 : Vec F S1x128 .f32) (xo9 : Vec F S1x128 .f32) : Vec F S256x1024 .f32 × Vec F S256x1024 .bf16 × Vec F S256x128 .f32 × Vec F S1x128 .f32 × Vec F S1x128 .f32 :=
  (out0_B_5 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk V c 0 t) (iblk V c 1 t) (iblk V c 2 t) (iblk V c 3 t) (iblk V c 4 t) xo8 xo9, out0_B_6 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk V c 0 t) (iblk V c 1 t) (iblk V c 2 t) (iblk V c 3 t) (iblk V c 4 t) xo8 xo9, out0_B_7 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk V c 0 t) (iblk V c 1 t) (iblk V c 2 t) (iblk V c 3 t) (iblk V c 4 t) xo8 xo9, out0_B_8 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk V c 0 t) (iblk V c 1 t) (iblk V c 2 t) (iblk V c 3 t) (iblk V c 4 t) xo8 xo9, out0_B_9 c (grid2.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk V c 0 t) (iblk V c 1 t) (iblk V c 2 t) (iblk V c 3 t) (iblk V c 4 t) xo8 xo9)

def outsAt0 (c : Dev nD) : (n : ℕ) → n < cfg2.N → Vec F S256x1024 .f32 × Vec F S256x1024 .bf16 × Vec F S256x128 .f32 × Vec F S1x128 .f32 × Vec F S1x128 .f32
  | 0, hn => tupA V c ⟨0, hn⟩ (Nat.zero_mod _)
  | n + 1, hn =>
    if h0 : (n + 1) % 8 = 0 then
      tupA V c ⟨n + 1, hn⟩ h0
    else
      tupB V c ⟨n + 1, hn⟩ h0 (outsAt0 c n (Nat.lt_of_succ_lt hn)).2.2.2.1 (outsAt0 c n (Nat.lt_of_succ_lt hn)).2.2.2.2

theorem outsAt0_A (c : Dev nD) (t : Fin cfg2.N) (h0 : t.val % 8 = 0) :
    outsAt0 V c t.val t.isLt = tupA V c t h0 := by
  obtain ⟨n, hn⟩ := t
  cases n with
  | zero => exact rfl
  | succ n => exact (dif_pos h0).trans rfl

theorem outsAt0_B (c : Dev nD) (t : Fin cfg2.N) (h0 : ¬t.val % 8 = 0) :
    outsAt0 V c t.val t.isLt = tupB V c t h0 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

def dats (_ : Fin 1) (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 V c t.val t.isLt).1
    | ⟨6, _⟩ => (outsAt0 V c t.val t.isLt).2.1
    | ⟨7, _⟩ => (outsAt0 V c t.val t.isLt).2.2.1
    | ⟨8, _⟩ => (outsAt0 V c t.val t.isLt).2.2.2.1
    | ⟨9, _⟩ => (outsAt0 V c t.val t.isLt).2.2.2.2
  Φ _ := Pipeline.ΦA spec2 c
  q _ := fullShare
  owed _ := 0

theorem A_eq (c : Dev nD) (w : Fin cfg2.W) : (dats V 0 c).A w = V c (Pipeline.arrRef spec2 w) := by
  dsimp only [dats]

theorem after0_0 (c : Dev nD) (t : Fin cfg2.N) : (dats V 0 c).after 0 t = iblk V c 0 t := by dsimp only [dats]
theorem after0_1 (c : Dev nD) (t : Fin cfg2.N) : (dats V 0 c).after 1 t = iblk V c 1 t := by dsimp only [dats]
theorem after0_2 (c : Dev nD) (t : Fin cfg2.N) : (dats V 0 c).after 2 t = iblk V c 2 t := by dsimp only [dats]
theorem after0_3 (c : Dev nD) (t : Fin cfg2.N) : (dats V 0 c).after 3 t = iblk V c 3 t := by dsimp only [dats]
theorem after0_4 (c : Dev nD) (t : Fin cfg2.N) : (dats V 0 c).after 4 t = iblk V c 4 t := by dsimp only [dats]
theorem after0_5 (c : Dev nD) (t : Fin cfg2.N) : (dats V 0 c).after 5 t = (outsAt0 V c t.val t.isLt).1 := by dsimp only [dats]
theorem after0_6 (c : Dev nD) (t : Fin cfg2.N) : (dats V 0 c).after 6 t = (outsAt0 V c t.val t.isLt).2.1 := by dsimp only [dats]
theorem after0_7 (c : Dev nD) (t : Fin cfg2.N) : (dats V 0 c).after 7 t = (outsAt0 V c t.val t.isLt).2.2.1 := by dsimp only [dats]
theorem after0_8 (c : Dev nD) (t : Fin cfg2.N) : (dats V 0 c).after 8 t = (outsAt0 V c t.val t.isLt).2.2.2.1 := by dsimp only [dats]
theorem after0_9 (c : Dev nD) (t : Fin cfg2.N) : (dats V 0 c).after 9 t = (outsAt0 V c t.val t.isLt).2.2.2.2 := by dsimp only [dats]

theorem before0_0 (c : Dev nD) (t : Fin cfg2.N) (d) : (dats V 0 c).before 0 t d = iblk V c 0 t :=
  before0_0_of V (dats V 0 c) (A_eq V c 0) (after0_0 V c) t d
theorem before0_1 (c : Dev nD) (t : Fin cfg2.N) (d) : (dats V 0 c).before 1 t d = iblk V c 1 t :=
  before0_1_of V (dats V 0 c) (A_eq V c 1) (after0_1 V c) t d
theorem before0_2 (c : Dev nD) (t : Fin cfg2.N) (d) : (dats V 0 c).before 2 t d = iblk V c 2 t :=
  before0_2_of V (dats V 0 c) (A_eq V c 2) (after0_2 V c) t d
theorem before0_3 (c : Dev nD) (t : Fin cfg2.N) (d) : (dats V 0 c).before 3 t d = iblk V c 3 t :=
  before0_3_of V (dats V 0 c) (A_eq V c 3) (after0_3 V c) t d
theorem before0_4 (c : Dev nD) (t : Fin cfg2.N) (d) : (dats V 0 c).before 4 t d = iblk V c 4 t :=
  before0_4_of V (dats V 0 c) (A_eq V c 4) (after0_4 V c) t d

theorem before0_8_B (c : Dev nD) (t : Fin cfg2.N) (h0 : ¬t.val % 8 = 0) (d) :
    (dats V 0 c).before 8 t d = (outsAt0 V c (t.val - 1) (Nat.lt_of_le_of_lt (Nat.sub_le _ _) t.isLt)).2.2.2.1 := by
  have hN : t.val < 8 := lt_of_lt_of_eq t.isLt (show cfg2.N = 8 from N_2)
  rw [Dat.before_out_kept _ 8 rfl t (by omega) (Bool.eq_false_iff.mpr fun h => by have := (flush2_8 _).mp h; dsimp only at this; omega)
    (fun _ => rfl) (fun _ _ => rfl)]
  dsimp only [dats]

theorem before0_9_B (c : Dev nD) (t : Fin cfg2.N) (h0 : ¬t.val % 8 = 0) (d) :
    (dats V 0 c).before 9 t d = (outsAt0 V c (t.val - 1) (Nat.lt_of_le_of_lt (Nat.sub_le _ _) t.isLt)).2.2.2.2 := by
  have hN : t.val < 8 := lt_of_lt_of_eq t.isLt (show cfg2.N = 8 from N_2)
  rw [Dat.before_out_kept _ 9 rfl t (by omega) (Bool.eq_false_iff.mpr fun h => by have := (flush2_9 _).mp h; dsimp only at this; omega)
    (fun _ => rfl) (fun _ _ => rfl)]
  dsimp only [dats]

def bodyPre (c : Dev nD) (t : Fin cfg2.N) : sProp 𝕄 :=
  iprop((dats V 0 c).Φ t.castSucc ∗ (dats V 0 c).owesAt () t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d))
    ∗ (∃ d, owns (c : Thread nD τ) (ms0_3 t) fullShare ((dats V 0 c).before 3 t d))
    ∗ (∃ d, owns (c : Thread nD τ) (ms0_4 t) fullShare ((dats V 0 c).before 4 t d))
    ∗ (∃ d, owns (c : Thread nD τ) (ms0_5 t) fullShare ((dats V 0 c).before 5 t d))
    ∗ (∃ d, owns (c : Thread nD τ) (ms0_6 t) fullShare ((dats V 0 c).before 6 t d))
    ∗ (∃ d, owns (c : Thread nD τ) (ms0_7 t) fullShare ((dats V 0 c).before 7 t d))
    ∗ (∃ d, owns (c : Thread nD τ) (ms0_8 t) fullShare ((dats V 0 c).before 8 t d))
    ∗ (∃ d, owns (c : Thread nD τ) (ms0_9 t) fullShare ((dats V 0 c).before 9 t d)))

def bodyPost (c : Dev nD) (t : Fin cfg2.N) : sProp 𝕄 :=
  iprop((dats V 0 c).Φ t.succ ∗ (dats V 0 c).owesAt () t.succ
    ∗ owns (c : Thread nD τ) (ms0_0 t) fullShare ((dats V 0 c).after 0 t)
    ∗ owns (c : Thread nD τ) (ms0_1 t) fullShare ((dats V 0 c).after 1 t)
    ∗ owns (c : Thread nD τ) (ms0_2 t) fullShare ((dats V 0 c).after 2 t)
    ∗ owns (c : Thread nD τ) (ms0_3 t) fullShare ((dats V 0 c).after 3 t)
    ∗ owns (c : Thread nD τ) (ms0_4 t) fullShare ((dats V 0 c).after 4 t)
    ∗ owns (c : Thread nD τ) (ms0_5 t) fullShare ((dats V 0 c).after 5 t)
    ∗ owns (c : Thread nD τ) (ms0_6 t) fullShare ((dats V 0 c).after 6 t)
    ∗ owns (c : Thread nD τ) (ms0_7 t) fullShare ((dats V 0 c).after 7 t)
    ∗ owns (c : Thread nD τ) (ms0_8 t) fullShare ((dats V 0 c).after 8 t)
    ∗ owns (c : Thread nD τ) (ms0_9 t) fullShare ((dats V 0 c).after 9 t))

set_option maxHeartbeats 1600000 in

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0_0, before0_1, before0_2, before0_3, before0_4]
  rw [show (dats V 0 c).Φ t.succ = (dats V 0 c).Φ t.castSucc from rfl,
    show (dats V 0 c).owesAt () t.succ = (dats V 0 c).owesAt () t.castSucc from rfl,
    after0_0, after0_1, after0_2, after0_3, after0_4, after0_5, after0_6, after0_7, after0_8, after0_9]
  have hN : t.val < 8 := lt_of_lt_of_eq t.isLt (show cfg2.N = 8 from N_2)
  by_cases h0 : t.val % 8 = 0
  · rw [outsAt0_A V c t h0]
    unfold tupA
    unfold out0_A_5 out0_A_6 out0_A_7 out0_A_8 out0_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid2.coords t) _ _ _ _ _ _ _ _ _ _ _ _ _ _ _ _ _ _ _ _ ((hcond0_0 t).mpr h0) (iblk V c 0 t) (iblk V c 1 t) (iblk V c 2 t) (iblk V c 3 t) (iblk V c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, H3, H4, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _)
  · rw [outsAt0_B V c t h0]
    unfold tupB
    simp only [before0_8_B V c t h0, before0_9_B V c t h0]
    unfold out0_B_5 out0_B_6 out0_B_7 out0_B_8 out0_B_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid2.coords t) _ _ _ _ _ _ _ _ _ _ _ _ _ _ _ _ _ _ _ _ (fun h => h0 ((hcond0_0 t).mp h)) (iblk V c 0 t) (iblk V c 1 t) (iblk V c 2 t) (iblk V c 3 t) (iblk V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexact H9
    iintro ⟨H0, H1, H2, H3, H4, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _)
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _)

theorem defs₀_row (t : Fin cfg2.N) :
    defs₀ (F := F) .tc cfg2.body (cfg2.bodyArgs t (cfg2.slots t)) = bodyAt2 t := by
  unfold defs₀; rw [Defs.onTc_tc]

theorem body_obligation (c : Dev nD) : BodyObligation (dats (F := F) V 0 c) (defs₀ (F := F)) Variants.none () Set.univ := fun t => by
  rw [bigSep_W2, bigSep_W2, defs₀_row]
  exact triple_restated (sound_body V c t) rfl .rfl fun _ => .rfl

end Cert.KernelIdeal.R

end
-- ==== Proof.KMBody.lean ====
/-
  The expert body of the whole kernel.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Claim
public import Idealize.ShloMosaic.Lib.Pipeline.Value
public import Idealize.ShloMosaic.Lib.Pipeline.ValueKit
public import Idealize.ShloMosaic.Lib.Pipeline.Regions
public import Idealize.ShloMosaic.Lib.Pipeline.RegionArraysTS
public import Idealize.ShloMosaic.Lib.Pipeline.Frame
public import Idealize.ShloMosaic.Lib.Pipeline.FrameBody
public import Idealize.ShloMosaic.Lib.Quiescent
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.KernelIdeal.M

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cells launchToks Dat Cfg Window BodyObligation cellOf)

variable {F : FTy → Type} [FloatOps F] [Named F]

local notation "𝕄" => MT nD τ sig Unit (Elt F) ℕ (UR sig nD τ) ℕ

-- what the TensorCore buffers hold when the region is entered
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

theorem read_writes_whole {κ : Kind} {sp : Space} {S : Shape} {e : EltTy} {off : Fin S.rank → Nat} (h : off = fun _ => 0)
    (v : View sig κ sp S e) (f : v.ty.Contents (Elt F)) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self, by
    subst h; rw [Rect.mem_set_unit]; intro a; exact ⟨Nat.zero_le _, by rw [Nat.zero_add]; exact (y a).isLt⟩⟩]
  exact View.canon_cons_unit_zero h inb w L

abbrev condE (i : grid3.Coords) : Prop := (Scalar.cmpi .ne (Scalar.extui (Scalar.cmpi .eq (BitVec.ofNat 32 (i 1).val) 0#32)) 0#32) = 1#1

theorem hcondE (t : Fin cfg3.N) : condE (grid3.coords t) ↔ t.val % 8 = 0 := by
  have ht : t.val < 64 := Nat.lt_of_lt_of_eq t.isLt N_3
  have e1 : (grid3.coords t 1).val = t.val / 1 % 8 := Pipeline.Grid.coords_val t 1 (by decide) rfl
  simp only [condE, e1]
  word_cmp

abbrev condF (i : grid3.Coords) : Prop := k3_cond2 i = 1#1

theorem hcondF (t : Fin cfg3.N) : condF (grid3.coords t) ↔ t.val % 64 = 0 := by
  have ht : t.val < 64 := Nat.lt_of_lt_of_eq t.isLt N_3
  have e0 : (grid3.coords t 0).val = t.val / 8 % 8 := Pipeline.Grid.coords_val t 0 (by decide) rfl
  have e1 : (grid3.coords t 1).val = t.val / 1 % 8 := Pipeline.Grid.coords_val t 1 (by decide) rfl
  simp only [condF, k3_cond2, e0, e1]
  word_cmp

def step (i : grid3.Coords) (x0 : Vec F S256x1024 .bf16) (x2 x3 : Vec F S8x1024x1024 .bf16) (x4 : Vec F S1x256x1 .f32)
    (acc : Vec F S256x1024 .f32) : Vec F S256x1024 .f32 :=
  k3_pay2 x0 (View.ld x2 (Rect.unit (s := S8x1024x1024) (k3_off1 i) S1x1024x1024.size (k3_off1_inb i)))
    (View.ld x3 (Rect.unit (s := S8x1024x1024) (k3_off1 i) S1x1024x1024.size (k3_off1_inb i))) acc x4

set_option maxHeartbeats 1000000 in

theorem run_first (c : Dev nD) (i : grid3.Coords) (arg2 : Memref sig .tc .vmem S256x1024 .bf16) (harg2 : arg2.IsWhole) (arg3 : Memref sig .tc .vmem S256x1024 .f32) (harg3 : arg3.IsWhole) (arg4 : Memref sig .tc .vmem S8x1024x1024 .bf16) (harg4 : arg4.IsWhole) (arg5 : Memref sig .tc .vmem S8x1024x1024 .bf16) (harg5 : arg5.IsWhole) (arg6 : Memref sig .tc .vmem S1x256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x1024 .f32) (harg9 : arg9.IsWhole) (arg10 : Memref sig .tc .vmem S1x128 .f32) (harg10 : arg10.IsWhole) (hc0 : condE i) (hc1 : condF i)
    (x0 : Vec F S256x1024 .bf16) (x1 : Vec F S256x1024 .f32) (x2 : Vec F S8x1024x1024 .bf16) (x3 : Vec F S8x1024x1024 .bf16) (x4 : Vec F S1x256x1 .f32) (x5 : Vec F S1x128 .f32) (x6 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (step i x0 x2 x3 x4 (k3_pay1 x1)) ∗ owns (c : Thread nD τ) arg10 fullShare (k3_pay3 x5 x6)) -∗ K ⟨⟩))
      ⊢ wp frame (wpE (defs₀ (F := F)) Variants.none c none) E (cc3__moe_body i arg2 harg2 arg3 harg3 arg4 harg4 arg5 harg5 arg6 harg6 arg7 harg7 arg8 harg8 arg9 harg9 arg10 harg10) K := by
  simp only [cc3__moe_body_eq_skeleton]; unfold cc3__moe_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_words
    rw [read_writes_whole (S := S256x1024) hz2]
    unfold step
    simp only [View.readCov_unit_zero (S := S256x1024) _ hz2, View.readAt_eq_ld, harg2.read_unread, harg3.read_unread, harg4.read_unread, harg5.read_unread, harg6.read_unread, harg9.read_unread, View.ld_unit_zero (S := S256x1024) hz2, View.ld_unit_zero (S := S1x256x1) hz3]
    rfl
  iexists _; isplitr; swap; · iexact H8
  ipureintro
  rw [read_writes_whole (S := S1x128) hz2]
  simp only [View.readAt_eq_ld, harg7.read_unread, harg8.read_unread, View.ld_unit_zero (S := S1x128) hz2]

set_option maxHeartbeats 1000000 in

theorem run_reset (c : Dev nD) (i : grid3.Coords) (arg2 : Memref sig .tc .vmem S256x1024 .bf16) (harg2 : arg2.IsWhole) (arg3 : Memref sig .tc .vmem S256x1024 .f32) (harg3 : arg3.IsWhole) (arg4 : Memref sig .tc .vmem S8x1024x1024 .bf16) (harg4 : arg4.IsWhole) (arg5 : Memref sig .tc .vmem S8x1024x1024 .bf16) (harg5 : arg5.IsWhole) (arg6 : Memref sig .tc .vmem S1x256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x1024 .f32) (harg9 : arg9.IsWhole) (arg10 : Memref sig .tc .vmem S1x128 .f32) (harg10 : arg10.IsWhole) (hc0 : condE i) (hc1 : ¬ condF i)
    (x0 : Vec F S256x1024 .bf16) (x1 : Vec F S256x1024 .f32) (x2 : Vec F S8x1024x1024 .bf16) (x3 : Vec F S8x1024x1024 .bf16) (x4 : Vec F S1x256x1 .f32) (x5 : Vec F S1x128 .f32) (x6 : Vec F S1x128 .f32) (y8 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (step i x0 x2 x3 x4 (k3_pay1 x1)) ∗ owns (c : Thread nD τ) arg10 fullShare y8) -∗ K ⟨⟩))
      ⊢ wp frame (wpE (defs₀ (F := F)) Variants.none c none) E (cc3__moe_body i arg2 harg2 arg3 harg3 arg4 harg4 arg5 harg5 arg6 harg6 arg7 harg7 arg8 harg8 arg9 harg9 arg10 harg10) K := by
  simp only [cc3__moe_body_eq_skeleton]; unfold cc3__moe_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_words
    rw [read_writes_whole (S := S256x1024) hz2]
    unfold step
    simp only [View.readCov_unit_zero (S := S256x1024) _ hz2, View.readAt_eq_ld, harg2.read_unread, harg3.read_unread, harg4.read_unread, harg5.read_unread, harg6.read_unread, harg9.read_unread, View.ld_unit_zero (S := S256x1024) hz2, View.ld_unit_zero (S := S1x256x1) hz3]
    rfl
  iexists _; isplitr; swap; · iexact H8
  ipureintro; exact harg10.read_unread _

set_option maxHeartbeats 1000000 in

theorem run_step (c : Dev nD) (i : grid3.Coords) (arg2 : Memref sig .tc .vmem S256x1024 .bf16) (harg2 : arg2.IsWhole) (arg3 : Memref sig .tc .vmem S256x1024 .f32) (harg3 : arg3.IsWhole) (arg4 : Memref sig .tc .vmem S8x1024x1024 .bf16) (harg4 : arg4.IsWhole) (arg5 : Memref sig .tc .vmem S8x1024x1024 .bf16) (harg5 : arg5.IsWhole) (arg6 : Memref sig .tc .vmem S1x256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x1024 .f32) (harg9 : arg9.IsWhole) (arg10 : Memref sig .tc .vmem S1x128 .f32) (harg10 : arg10.IsWhole) (hc0 : ¬ condE i) (hc1 : ¬ condF i)
    (x0 : Vec F S256x1024 .bf16) (x1 : Vec F S256x1024 .f32) (x2 : Vec F S8x1024x1024 .bf16) (x3 : Vec F S8x1024x1024 .bf16) (x4 : Vec F S1x256x1 .f32) (x5 : Vec F S1x128 .f32) (x6 : Vec F S1x128 .f32) (y7 : Vec F S256x1024 .f32) (y8 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (step i x0 x2 x3 x4 y7) ∗ owns (c : Thread nD τ) arg10 fullShare y8) -∗ K ⟨⟩))
      ⊢ wp frame (wpE (defs₀ (F := F)) Variants.none c none) E (cc3__moe_body i arg2 harg2 arg3 harg3 arg4 harg4 arg5 harg5 arg6 harg6 arg7 harg7 arg8 harg8 arg9 harg9 arg10 harg10) K := by
  simp only [cc3__moe_body_eq_skeleton]; unfold cc3__moe_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_words
    rw [read_writes_whole (S := S256x1024) hz2]
    unfold step
    simp only [View.readCov_unit_zero (S := S256x1024) _ hz2, View.readAt_eq_ld, harg2.read_unread, harg3.read_unread, harg4.read_unread, harg5.read_unread, harg6.read_unread, harg9.read_unread, View.ld_unit_zero (S := S256x1024) hz2, View.ld_unit_zero (S := S1x256x1) hz3]
    rfl
  iexists _; isplitr; swap; · iexact H8
  ipureintro; exact harg10.read_unread _

end Cert.KernelIdeal.M

end
-- ==== Proof.KMRun.lean ====
/-
  The expert region of the whole kernel.
-/
module

public import proofs.«01_k».proof.Proof.KMBody

@[expose] public section

set_option maxRecDepth 16384

noncomputable section

namespace Cert.KernelIdeal.M

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cells launchToks Dat Cfg Window BodyObligation cellOf)

variable {F : FTy → Type} [FloatOps F] [Named F]

local notation "𝕄" => MT nD τ sig Unit (Elt F) ℕ (UR sig nD τ) ℕ

-- what the TensorCore buffers hold when the region is entered
variable (V : (c : Dev nD) → (b : Ref sig .tc) → Buf (Elt F) ((c : Thread nD τ).loc b))

def blkV (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def run7 (c : Dev nD) : (n : ℕ) → n < cfg3.N → Vec F S256x1024 .f32
  | 0, h => step (grid3.coords ⟨0, h⟩) (blkV V c 0 ⟨0, h⟩) (blkV V c 2 ⟨0, h⟩) (blkV V c 3 ⟨0, h⟩) (blkV V c 4 ⟨0, h⟩) (k3_pay1 (blkV V c 1 ⟨0, h⟩))
  | n + 1, h => step (grid3.coords ⟨n + 1, h⟩) (blkV V c 0 ⟨n + 1, h⟩) (blkV V c 2 ⟨n + 1, h⟩) (blkV V c 3 ⟨n + 1, h⟩) (blkV V c 4 ⟨n + 1, h⟩)
      (if (n + 1) % 8 = 0 then k3_pay1 (blkV V c 1 ⟨n + 1, h⟩) else run7 c n (Nat.lt_of_succ_lt h))

theorem pos0 : 0 < cfg3.N := by rw [show cfg3.N = 64 from N_3]; decide

def aux8 (c : Dev nD) : Vec F S1x128 .f32 := k3_pay3 (blkV V c 5 ⟨0, pos0⟩) (blkV V c 6 ⟨0, pos0⟩)

theorem run7_reset (c : Dev nD) (t : Fin cfg3.N) (h0 : t.val % 8 = 0) :
    run7 V c t.val t.isLt = step (grid3.coords t) (blkV V c 0 t) (blkV V c 2 t) (blkV V c 3 t) (blkV V c 4 t) (k3_pay1 (blkV V c 1 t)) := by
  obtain ⟨n, hn⟩ := t
  cases n with
  | zero => rfl
  | succ n =>
    show step _ _ _ _ _ (if (n + 1) % 8 = 0 then _ else _) = _
    rw [if_pos h0]

theorem run7_step (c : Dev nD) (t : Fin cfg3.N) (h0 : ¬ t.val % 8 = 0) :
    run7 V c t.val t.isLt = step (grid3.coords t) (blkV V c 0 t) (blkV V c 2 t) (blkV V c 3 t) (blkV V c 4 t)
      (run7 V c (t.val - 1) (Nat.lt_of_le_of_lt (Nat.sub_le _ _) t.isLt)) := by
  obtain ⟨n, hn⟩ := t
  cases n with
  | zero => exact absurd rfl h0
  | succ n =>
    show step _ _ _ _ _ (if (n + 1) % 8 = 0 then _ else _) = _
    rw [if_neg h0]; rfl

def dat (c : Dev nD) : Dat τ (Elt F) Unit ℕ (UR sig nD τ) ℕ cfg3 c where
  A w := V c (Pipeline.arrRef spec3 w)
  after w t := match w with
    | ⟨0, _⟩ => blkV V c 0 t
    | ⟨1, _⟩ => blkV V c 1 t
    | ⟨2, _⟩ => blkV V c 2 t
    | ⟨3, _⟩ => blkV V c 3 t
    | ⟨4, _⟩ => blkV V c 4 t
    | ⟨5, _⟩ => blkV V c 5 t
    | ⟨6, _⟩ => blkV V c 6 t
    | ⟨7, _⟩ => run7 V c t.val t.isLt
    | ⟨8, _⟩ => aux8 V c
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = blkV V c 0 t := by dsimp only [dat]
theorem after_1 (c : Dev nD) (t : Fin cfg3.N) : (dat V c).after 1 t = blkV V c 1 t := by dsimp only [dat]
theorem after_2 (c : Dev nD) (t : Fin cfg3.N) : (dat V c).after 2 t = blkV V c 2 t := by dsimp only [dat]
theorem after_3 (c : Dev nD) (t : Fin cfg3.N) : (dat V c).after 3 t = blkV V c 3 t := by dsimp only [dat]
theorem after_4 (c : Dev nD) (t : Fin cfg3.N) : (dat V c).after 4 t = blkV V c 4 t := by dsimp only [dat]
theorem after_5 (c : Dev nD) (t : Fin cfg3.N) : (dat V c).after 5 t = blkV V c 5 t := by dsimp only [dat]
theorem after_6 (c : Dev nD) (t : Fin cfg3.N) : (dat V c).after 6 t = blkV V c 6 t := by dsimp only [dat]
theorem after_7 (c : Dev nD) (t : Fin cfg3.N) : (dat V c).after 7 t = run7 V c t.val t.isLt := by dsimp only [dat]
theorem after_8 (c : Dev nD) (t : Fin cfg3.N) : (dat V c).after 8 t = aux8 V c := by dsimp only [dat]

theorem before_0 (c : Dev nD) (t : Fin cfg3.N) (d) : (dat V c).before 0 t d = blkV V c 0 t :=
  ((dat V c).before_in_eq_fetched 0 rfl (fun _ => rfl) (fun _ _ _ => rfl) (fun t => by rw [after_0]; unfold Dat.blockOf blkV; rw [A_eq]; try rfl) t d).trans
    (by unfold Dat.fetched Dat.blockOf blkV; rw [A_eq]; try rfl)
theorem before_1 (c : Dev nD) (t : Fin cfg3.N) (d) : (dat V c).before 1 t d = blkV V c 1 t :=
  ((dat V c).before_in_eq_fetched 1 rfl (fun _ => rfl) (fun _ _ _ => rfl) (fun t => by rw [after_1]; unfold Dat.blockOf blkV; rw [A_eq]; try rfl) t d).trans
    (by unfold Dat.fetched Dat.blockOf blkV; rw [A_eq]; try rfl)
theorem before_2 (c : Dev nD) (t : Fin cfg3.N) (d) : (dat V c).before 2 t d = blkV V c 2 t :=
  ((dat V c).before_in_eq_fetched 2 rfl (fun _ => rfl) (fun _ _ _ => rfl) (fun t => by rw [after_2]; unfold Dat.blockOf blkV; rw [A_eq]; try rfl) t d).trans
    (by unfold Dat.fetched Dat.blockOf blkV; rw [A_eq]; try rfl)
theorem before_3 (c : Dev nD) (t : Fin cfg3.N) (d) : (dat V c).before 3 t d = blkV V c 3 t :=
  ((dat V c).before_in_eq_fetched 3 rfl (fun _ => rfl) (fun _ _ _ => rfl) (fun t => by rw [after_3]; unfold Dat.blockOf blkV; rw [A_eq]; try rfl) t d).trans
    (by unfold Dat.fetched Dat.blockOf blkV; rw [A_eq]; try rfl)
theorem before_4 (c : Dev nD) (t : Fin cfg3.N) (d) : (dat V c).before 4 t d = blkV V c 4 t :=
  ((dat V c).before_in_eq_fetched 4 rfl (fun _ => rfl) (fun _ _ _ => rfl) (fun t => by rw [after_4]; unfold Dat.blockOf blkV; rw [A_eq]; try rfl) t d).trans
    (by unfold Dat.fetched Dat.blockOf blkV; rw [A_eq]; try rfl)
theorem before_5 (c : Dev nD) (t : Fin cfg3.N) (d) : (dat V c).before 5 t d = blkV V c 5 t :=
  ((dat V c).before_in_eq_fetched 5 rfl (fun _ => rfl) (fun _ _ _ => rfl) (fun t => by rw [after_5]; unfold Dat.blockOf blkV; rw [A_eq]; try rfl) t d).trans
    (by unfold Dat.fetched Dat.blockOf blkV; rw [A_eq]; try rfl)
theorem before_6 (c : Dev nD) (t : Fin cfg3.N) (d) : (dat V c).before 6 t d = blkV V c 6 t :=
  ((dat V c).before_in_eq_fetched 6 rfl (fun _ => rfl) (fun _ _ _ => rfl) (fun t => by rw [after_6]; unfold Dat.blockOf blkV; rw [A_eq]; try rfl) t d).trans
    (by unfold Dat.fetched Dat.blockOf blkV; rw [A_eq]; try rfl)

theorem before_7 (c : Dev nD) (t : Fin cfg3.N) (h0 : ¬ t.val % 8 = 0) (d) :
    (dat V c).before 7 t d = run7 V c (t.val - 1) (Nat.lt_of_le_of_lt (Nat.sub_le _ _) t.isLt) := by
  have ht : t.val ≠ 0 := fun h => h0 (by rw [h])
  refine ((dat V c).before_out_kept 7 rfl t ht ?_ (fun _ => rfl) (fun _ _ => rfl) d).trans (after_7 V c _)
  exact Bool.eq_false_iff.mpr fun h => by
    have := (flush3_7 _).mp h
    dsimp only at this
    omega

theorem idle8 (t : Fin cfg3.N) (h : ¬ t.val % 64 = 0) : cfg3.idle 8 (grid3.coords t) = true := by
  have h' : ¬ (k3_cond2 (grid3.coords t) = 1#1) := fun hh => h ((hcondF t).mp hh)
  show (!(k3_cond2 (grid3.coords t) == 1#1)) = true
  rw [Bool.not_eq_true', beq_eq_false_iff_ne]; exact h'

theorem live8 (t : Fin cfg3.N) (h : t.val % 64 = 0) : cfg3.idle 8 (grid3.coords t) = false := by
  have h' : k3_cond2 (grid3.coords t) = 1#1 := (hcondF t).mpr h
  show (!(k3_cond2 (grid3.coords t) == 1#1)) = false
  rw [Bool.not_eq_false', beq_iff_eq]; exact h'

theorem before_8 (c : Dev nD) : ∀ (n : ℕ) (hn : n < cfg3.N) (_ : n ≠ 0) (d), (dat V c).before 8 ⟨n, hn⟩ d = aux8 V c
  | 0, _, h0, _ => absurd rfl h0
  | n + 1, hn, _, d => by
    have hN : n + 1 < 64 := lt_of_lt_of_eq hn (show cfg3.N = 64 from N_3)
    rw [(dat V c).before_of_pos 8 ⟨n + 1, hn⟩ (Nat.succ_ne_zero n) ((cfg3.win 8).fetch_out rfl _)]
    have hfl : (cfg3.win 8).flush ⟨n, Nat.lt_of_succ_lt hn⟩ = false := Bool.eq_false_iff.mpr fun h => by
      have := (flush3_8 _).mp h
      dsimp only at this
      omega
    show (if (cfg3.win 8).flush ⟨n, Nat.lt_of_succ_lt hn⟩ = true then d else (dat V c).left 8 ⟨n, Nat.lt_of_succ_lt hn⟩ d) = _
    rw [hfl, if_neg Bool.false_ne_true]
    unfold Dat.left
    by_cases hz : n = 0
    · rw [live8 ⟨n, Nat.lt_of_succ_lt hn⟩ (by dsimp only; omega)]
      show (dat V c).kept 8 _ d = _
      unfold Dat.kept
      rw [Pipeline.fill_of_clip_none 8 _ (fun _ => rfl) d ((dat V c).after 8 _), Window.fill_cut, after_8]
    · rw [idle8 ⟨n, Nat.lt_of_succ_lt hn⟩ (by dsimp only; omega)]
      exact before_8 c n (Nat.lt_of_succ_lt hn) hz d

abbrev st0 (t : Fin cfg3.N) : Memref sig .tc .vmem S256x1024 .bf16 := win3_0.stage (cfg3.slots t 0)
abbrev st1 (t : Fin cfg3.N) : Memref sig .tc .vmem S256x1024 .f32 := win3_1.stage (cfg3.slots t 1)
abbrev st2 (t : Fin cfg3.N) : Memref sig .tc .vmem S8x1024x1024 .bf16 := win3_2.stage (cfg3.slots t 2)
abbrev st3 (t : Fin cfg3.N) : Memref sig .tc .vmem S8x1024x1024 .bf16 := win3_3.stage (cfg3.slots t 3)
abbrev st4 (t : Fin cfg3.N) : Memref sig .tc .vmem S1x256x1 .f32 := win3_4.stage (cfg3.slots t 4)
abbrev st5 (t : Fin cfg3.N) : Memref sig .tc .vmem S1x128 .f32 := win3_5.stage (cfg3.slots t 5)
abbrev st6 (t : Fin cfg3.N) : Memref sig .tc .vmem S1x128 .f32 := win3_6.stage (cfg3.slots t 6)
abbrev st7 (t : Fin cfg3.N) : Memref sig .tc .vmem S256x1024 .f32 := win3_7.stage (cfg3.slots t 7)
abbrev st8 (t : Fin cfg3.N) : Memref sig .tc .vmem S1x128 .f32 := win3_8.stage (cfg3.slots t 8)

def bodyPre (c : Dev nD) (t : Fin cfg3.N) : sProp 𝕄 :=
  iprop((dat V c).Φ t.castSucc ∗ (dat V c).owesAt () t.castSucc
    ∗ (∃ d, owns (c : Thread nD τ) (st0 t) fullShare ((dat V c).before 0 t d))
    ∗ (∃ d, owns (c : Thread nD τ) (st1 t) fullShare ((dat V c).before 1 t d))
    ∗ (∃ d, owns (c : Thread nD τ) (st2 t) fullShare ((dat V c).before 2 t d))
    ∗ (∃ d, owns (c : Thread nD τ) (st3 t) fullShare ((dat V c).before 3 t d))
    ∗ (∃ d, owns (c : Thread nD τ) (st4 t) fullShare ((dat V c).before 4 t d))
    ∗ (∃ d, owns (c : Thread nD τ) (st5 t) fullShare ((dat V c).before 5 t d))
    ∗ (∃ d, owns (c : Thread nD τ) (st6 t) fullShare ((dat V c).before 6 t d))
    ∗ (∃ d, owns (c : Thread nD τ) (st7 t) fullShare ((dat V c).before 7 t d))
    ∗ (∃ d, owns (c : Thread nD τ) (st8 t) fullShare ((dat V c).before 8 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

theorem leaves_0 (c : Dev nD) (t : Fin cfg3.N) : (dat V c).leavesExact 0 t = owns (c : Thread nD τ) (st0 t) fullShare (blkV V c 0 t) := by
  rw [← after_0]
theorem leaves_1 (c : Dev nD) (t : Fin cfg3.N) : (dat V c).leavesExact 1 t = owns (c : Thread nD τ) (st1 t) fullShare (blkV V c 1 t) := by
  rw [← after_1]
theorem leaves_2 (c : Dev nD) (t : Fin cfg3.N) : (dat V c).leavesExact 2 t = owns (c : Thread nD τ) (st2 t) fullShare (blkV V c 2 t) := by
  rw [← after_2]
theorem leaves_3 (c : Dev nD) (t : Fin cfg3.N) : (dat V c).leavesExact 3 t = owns (c : Thread nD τ) (st3 t) fullShare (blkV V c 3 t) := by
  rw [← after_3]
theorem leaves_4 (c : Dev nD) (t : Fin cfg3.N) : (dat V c).leavesExact 4 t = owns (c : Thread nD τ) (st4 t) fullShare (blkV V c 4 t) := by
  rw [← after_4]
theorem leaves_5 (c : Dev nD) (t : Fin cfg3.N) : (dat V c).leavesExact 5 t = owns (c : Thread nD τ) (st5 t) fullShare (blkV V c 5 t) := by
  rw [← after_5]
theorem leaves_6 (c : Dev nD) (t : Fin cfg3.N) : (dat V c).leavesExact 6 t = owns (c : Thread nD τ) (st6 t) fullShare (blkV V c 6 t) := by
  rw [← after_6]
theorem leaves_7 (c : Dev nD) (t : Fin cfg3.N) : (dat V c).leavesExact 7 t = owns (c : Thread nD τ) (st7 t) fullShare (run7 V c t.val t.isLt) := by
  rw [← after_7]
theorem leaves_8 (c : Dev nD) (t : Fin cfg3.N) (h : t.val % 64 = 0) : (dat V c).leavesExact 8 t = owns (c : Thread nD τ) (st8 t) fullShare (aux8 V c) := by
  unfold Dat.leavesExact; rw [live8 t h, ← after_8 V c t]

theorem leaves_8' (c : Dev nD) (t : Fin cfg3.N) (h : ¬ t.val % 64 = 0) : owns (c : Thread nD τ) (st8 t) fullShare (aux8 V c) ⊢ (dat V c).leavesExact 8 t := by
  unfold Dat.leavesExact; rw [idle8 t h]
  dsimp only
  cases (cfg3.win 8).flush t
  · dsimp only
    iintro H
    iexists (aux8 V c)
    rw [before_8 V c t.val t.isLt (fun h0 => h (by rw [h0]))]
    iexact H
  · dsimp only
    rw [after_8]

set_option maxHeartbeats 2400000 in

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6, leaves_0, leaves_1, leaves_2, leaves_3, leaves_4, leaves_5, leaves_6, leaves_7]
  rw [show (dat V c).Φ t.succ = (dat V c).Φ t.castSucc from rfl,
    show (dat V c).owesAt () t.succ = (dat V c).owesAt () t.castSucc from rfl]
  have hN : t.val < 64 := lt_of_lt_of_eq t.isLt (show cfg3.N = 64 from N_3)
  by_cases h1 : t.val % 64 = 0
  · have h0 : t.val % 8 = 0 := by omega
    obtain rfl : t = ⟨0, pos0⟩ := Fin.ext (by dsimp only; omega)
    rw [leaves_8 V c _ h1, run7_reset V c _ h0]
    unfold aux8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid3.coords ⟨0, pos0⟩) _ _ _ _ _ _ _ _ _ _ _ _ _ _ _ _ _ _ ((hcondE _).mpr h0) ((hcondF _).mpr h1) (blkV V c 0 ⟨0, pos0⟩) (blkV V c 1 ⟨0, pos0⟩) (blkV V c 2 ⟨0, pos0⟩) (blkV V c 3 ⟨0, pos0⟩) (blkV V c 4 ⟨0, pos0⟩) (blkV V c 5 ⟨0, pos0⟩) (blkV V c 6 ⟨0, pos0⟩)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := fun h => h1 (by rw [h])
    simp only [before_8 V c t.val t.isLt hz]
    by_cases h0 : t.val % 8 = 0
    · rw [run7_reset V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_reset c (grid3.coords t) _ _ _ _ _ _ _ _ _ _ _ _ _ _ _ _ _ _ ((hcondE t).mpr h0) (fun h => h1 ((hcondF t).mp h)) (blkV V c 0 t) (blkV V c 1 t) (blkV V c 2 t) (blkV V c 3 t) (blkV V c 4 t) (blkV V c 5 t) (blkV V c 6 t) (aux8 V c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply (leaves_8' V c t h1)
      iexact H8
    · rw [run7_step V c t h0]
      simp only [before_7 V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_step c (grid3.coords t) _ _ _ _ _ _ _ _ _ _ _ _ _ _ _ _ _ _ (fun h => h0 ((hcondE t).mp h)) (fun h => h1 ((hcondF t).mp h)) (blkV V c 0 t) (blkV V c 1 t) (blkV V c 2 t) (blkV V c 3 t) (blkV V c 4 t) (blkV V c 5 t) (blkV V c 6 t) _ (aux8 V c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply (leaves_8' V c t h1)
      iexact H8

theorem defs₀_row (t : Fin cfg3.N) :
    defs₀ (F := F) .tc cfg3.body (cfg3.bodyArgs t (cfg3.slots t)) = bodyAt3 t := by
  unfold defs₀; rw [Defs.onTc_tc]

theorem body_obligation (c : Dev nD) : BodyObligation (dat (F := F) V c) (defs₀ (F := F)) Variants.none () Set.univ := fun t => by
  rw [bigSep_W3, bigSep_W3, defs₀_row]
  exact triple_restated (sound_body V c t) rfl .rfl fun _ => .rfl

end Cert.KernelIdeal.M

end
-- ==== Proof.KLaunch.lean ====
/-
  The whole kernel from a launch: the host stretches and the four regions in order, what each leaves in the buffers, and
  what every final state holds.
-/
module

public import proofs.«01_k».proof.Proof.KQ
public import proofs.«01_k».proof.Proof.KARun
public import proofs.«01_k».proof.Proof.KR
public import proofs.«01_k».proof.Proof.KMRun
public import proofs.«01_k».proof.Proof.Gen.KernelIdeal.Regions

@[expose] public section

set_option maxRecDepth 16384

noncomputable section

namespace Cert.KernelIdeal.L

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cells launchToks Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents of every TensorCore buffer as a region finds them. -/
abbrev rd (W : Dev nD → Valuation τ sig (Elt F)) (c : Dev nD) (b : Ref sig .tc) : Buf (Elt F) ((c : Thread nD τ).loc b) := W c (Proc.devRef .tc b)

/-- The schedules the regions are pinned to: only the attention region has one. -/
def adm : (p : Fin 4) → (pcfgs (F := F) p).Adm
  | ⟨0, _⟩ => ⟨fun k => k.elim0, trivial⟩
  | ⟨1, _⟩ => A.adm1
  | ⟨2, _⟩ => ⟨fun k => k.elim0, trivial⟩
  | ⟨3, _⟩ => ⟨fun k => k.elim0, trivial⟩
  | ⟨n + 4, h⟩ => absurd h (by omega)

/-! The buffers after each item of the program. -/
def W0 (c : Dev nD) : Valuation τ sig (Elt F) := StableHlo.launchContents m c
def W1 (c : Dev nD) : Valuation τ sig (Elt F) := StableHlo.after hostOps0 (W0 m c)
def W2 (c : Dev nD) : Valuation τ sig (Elt F) := Pipeline.afterRegion (Q.dats (rd (W1 m)) 0 c) (W1 m c)
def W3 (c : Dev nD) : Valuation τ sig (Elt F) := StableHlo.after hostOps1 (W2 m c)
def W4 (c : Dev nD) : Valuation τ sig (Elt F) := Pipeline.afterRegion (A.dat (rd (W3 m)) c) (W3 m c)
def W5 (c : Dev nD) : Valuation τ sig (Elt F) := StableHlo.after hostOps2 (W4 m c)
def W6 (c : Dev nD) : Valuation τ sig (Elt F) := StableHlo.after hostOps2_1 (W5 m c)
def W7 (c : Dev nD) : Valuation τ sig (Elt F) := StableHlo.after hostOps2_2 (W6 m c)
def W8 (c : Dev nD) : Valuation τ sig (Elt F) := Pipeline.afterRegion (R.dats (rd (W7 m)) 0 c) (W7 m c)
def W9 (c : Dev nD) : Valuation τ sig (Elt F) := StableHlo.after hostOps3 (W8 m c)
def W10 (c : Dev nD) : Valuation τ sig (Elt F) := Pipeline.afterRegion (M.dat (rd (W9 m)) c) (W9 m c)
def W11 (c : Dev nD) : Valuation τ sig (Elt F) := StableHlo.after hostOps4 (W10 m c)

/-- The four pipelines' proof data. -/
def pdats : (p : Fin 4) → (c : Dev nD) → Dat τ (Elt F) Unit ℕ (UR sig nD τ) ℕ (Pipeline.pin (pcfgs (F := F)) adm p) c
  | ⟨0, _⟩ => fun c => Q.dats (rd (W1 m)) 0 c
  | ⟨1, _⟩ => fun c => A.dat (rd (W3 m)) c
  | ⟨2, _⟩ => fun c => R.dats (rd (W7 m)) 0 c
  | ⟨3, _⟩ => fun c => M.dat (rd (W9 m)) c
  | ⟨n + 4, h⟩ => absurd h (by omega)

abbrev Lv : GSem nD τ sig → Finset Unit := fun g => if g.1.2 = .tc then {()} else ∅
abbrev lv : GSem nD τ sig → Unit → ℕ := fun _ _ => 0

/-- What rides beside the buffers between two items: nothing owed, the random-number register. -/
abbrev E (c : Dev nD) : sProp 𝕄 :=
  iprop((∃ Wd, owes (c : Thread nD τ) (0 : CellTallies nD τ sig Unit) Wd) ∗ (∃ r, prngReg c r) ∗ emp)

theorem cut (p : Fin 4) : Pipeline.LevelCut (pcfgs (F := F)) adm () Lv lv p (fun _ => (0 : CellTallies nD τ sig Unit)) (fun _ => 0) where
  hι c w s := Finset.mem_singleton.mpr rfl
  hιb c w s := le_rfl
  hD c g i h := absurd h (lt_irrefl 0)

theorem bigSep_2 (Φ : Fin 2 → sProp 𝕄) : bigSep Finset.univ Φ = iprop(Φ (0 : Fin 2) ∗ Φ (1 : Fin 2)) :=
  bigSep_univ_eq_bigSepL [(0 : Fin 2), (1 : Fin 2)] (by decide) (by decide) Φ

theorem owns_of (c : Dev nD) (f : Buf (Elt F) ((c : Thread nD τ).loc cc1_scratch0)) :
    (((c : Thread nD τ).loc cc1_scratch0 ↦{fullShare} f) : sProp 𝕄) ⊢ owns (c : Thread nD τ) (Memref.whole cc1_scratch0 : Memref sig .tc .vmem S1024x128 .f32) fullShare f := by
  rw [owns_whole_eq]
  iintro H
  iexists f
  isplitr; · ipureintro; rfl
  iexact H

theorem of_owns (c : Dev nD) (d : Vec F S1024x128 .f32) :
    (owns (c : Thread nD τ) (Memref.whole cc1_scratch0 : Memref sig .tc .vmem S1024x128 .f32) fullShare d : sProp 𝕄) ⊢ iprop(∃ f, ((c : Thread nD τ).loc cc1_scratch0 ↦{fullShare} f)) := by
  rw [owns_whole_eq]
  iintro ⟨%f, -, H⟩
  iexists f
  iexact H

theorem hinA (V : (c : Dev nD) → (b : Ref sig .tc) → Buf (Elt F) ((c : Thread nD τ).loc b)) (c : Dev nD) :
    iprop(iprop(Pipeline.scopedRest (Ix := Unit) (Name := ℕ) (U := UR sig nD τ) (Lvl := ℕ) (Val := Elt F) spec1 c ∗ ∃ r, prngReg c r) ∗ Pipeline.prefHeld pre1 c (fun _ => fullShare) (A.tabs (F := F)))
    ⊢ iprop(A.Phi V c 0 (Nat.succ_pos _) ∗ A.rest1 c) := by
  rw [scopedRest1_split]
  unfold Pipeline.prefHeld
  rw [bigSep_2]
  unfold A.Phi
  iintro ⟨⟨⟨Hs, Hb⟩, Hp⟩, H0, H1⟩
  isplitl [H0 H1 Hs]
  · isplitl [H0]; · iexact H0
    isplitl [H1]; · iexact H1
    icases Hs with ⟨%f, Hs⟩
    iexists f
    iapply (owns_of c f)
    iexact Hs
  isplitl [Hb]; · iexact Hb
  iexact Hp

theorem houtA (V : (c : Dev nD) → (b : Ref sig .tc) → Buf (Elt F) ((c : Thread nD τ).loc b)) (c : Dev nD) (n : ℕ) (h : n < (A.cfgT (F := F)).N + 1) : iprop(A.Phi V c n h ∗ A.rest1 c)
    ⊢ iprop(iprop(Pipeline.scopedRest (Ix := Unit) (Name := ℕ) (U := UR sig nD τ) (Lvl := ℕ) (Val := Elt F) spec1 c ∗ ∃ r, prngReg c r) ∗ Pipeline.prefHeld pre1 c (fun _ => fullShare) (A.tabs (F := F))) := by
  refine (sep_mono (A.Phi_any V c n h) .rfl).trans ?_
  rw [scopedRest1_split]
  unfold Pipeline.prefHeld
  rw [bigSep_2]
  iintro ⟨⟨H0, H1, Hs⟩, Hb, Hp⟩
  icases Hs with ⟨%d, Hs⟩
  isplitl [Hs Hb Hp]
  · isplitl [Hs Hb]
    · isplitl [Hs]
      · iapply (of_owns c d); iexact Hs
      · iexact Hb
    · iexact Hp
  isplitl [H0]; · iexact H0
  iexact H1

theorem tab_host (c : Dev nD) (k : Fin 2) : (A.tabs (F := F) k) = W1 m c (Proc.devRef .tc (pre1.ref k)) := by
  match k with
  | 0 => simp only [W1, hostOps0, StableHlo.after_cons, StableHlo.after_nil]; after_results_simp; rfl
  | 1 => simp only [W1, hostOps0, StableHlo.after_cons, StableHlo.after_nil]; after_results_simp; rfl

theorem W2_of (c : Dev nD) (b : Ref sig .tc) (h : ∀ w, Pipeline.arrRef spec0 w ≠ b) : W2 m c (Proc.devRef .tc b) = W1 m c (Proc.devRef .tc b) :=
  Pipeline.afterRegion_of_not_arr (cfg := cfg0) (Q.dats (rd (W1 m)) 0 c) (W1 m c) (fun w => (h w).symm)
theorem W3_of (c : Dev nD) (b : Ref sig .tc) (h : b ∉ hostOps1_W) : W3 m c (Proc.devRef .tc b) = W2 m c (Proc.devRef .tc b) :=
  StableHlo.after_of_writes_sub hostOps1 _ hostOps1_writes h

theorem W3_tab (c : Dev nD) (k : Fin 2) : (A.tabs (F := F) k) = W3 m c (Proc.devRef .tc (pre1.ref k)) := by
  rw [tab_host m c k]
  match k with
  | 0 => rw [W3_of m c (pre1.ref 0) (by decide), W2_of m c (pre1.ref 0) (by decide)]
  | 1 => rw [W3_of m c (pre1.ref 1) (by decide), W2_of m c (pre1.ref 1) (by decide)]

/-! The regions as segments. -/
def reg0 : Pipeline.RegionSeg (pcfgs (F := F)) adm (pdats m) () defs₀ Variants.none Lv lv 0 :=
  Pipeline.RegionSeg.ofHeldIn (pcfgs (F := F)) adm (pdats m) () defs₀ Variants.none Lv lv 0 (fun _ => 0) (Pipeline.ucRefs τ sig)
    (fun c => iprop(∃ r, prngReg c r)) (fun c => iprop(∃ r, prngReg c r)) launch0 rfl (fun c => (Q.body_obligation (rd (W1 m)) c).loose) (fun _ _ => rfl) (fun _ => rfl)
    (fun c => (Q.dats (rd (W1 m)) 0 c).share_full fun _ => rfl) (fun c => .rfl) (fun c => .rfl) (fun _ => 0) (cut 0) (fun _ => iprop(emp)) (W1 m) (fun c w => rfl)
def reg1 : Pipeline.RegionSeg (pcfgs (F := F)) adm (pdats m) () defs₀ Variants.none Lv lv 1 :=
  Pipeline.RegionSeg.ofHeldInT (pcfgs (F := F)) adm (pdats m) () defs₀ Variants.none Lv lv 1 (fun _ => 0) (Pipeline.ucRefs τ sig)
    (fun c => iprop(∃ r, prngReg c r)) (fun c => iprop(∃ r, prngReg c r)) launch1 (fun c => (A.body_obligation (rd (W3 m)) c).loose) (fun _ _ => rfl) (fun _ => rfl)
    (fun c => (A.dat (rd (W3 m)) c).share_full fun _ => rfl) (fun c => hinA (rd (W3 m)) c) (fun c => houtA (rd (W3 m)) c (Fin.last (A.cfgT (F := F)).N).val (Fin.last (A.cfgT (F := F)).N).isLt)
    (fun _ => 0) (cut 1) (fun _ => iprop(emp)) (W3 m) (fun c w => rfl) (fun c k => W3_tab m c k)
def reg2 : Pipeline.RegionSeg (pcfgs (F := F)) adm (pdats m) () defs₀ Variants.none Lv lv 2 :=
  Pipeline.RegionSeg.ofHeldIn (pcfgs (F := F)) adm (pdats m) () defs₀ Variants.none Lv lv 2 (fun _ => 0) (Pipeline.ucRefs τ sig)
    (fun c => iprop(∃ r, prngReg c r)) (fun c => iprop(∃ r, prngReg c r)) launch2 rfl (fun c => (R.body_obligation (rd (W7 m)) c).loose) (fun _ _ => rfl) (fun _ => rfl)
    (fun c => (R.dats (rd (W7 m)) 0 c).share_full fun _ => rfl) (fun c => .rfl) (fun c => .rfl) (fun _ => 0) (cut 2) (fun _ => iprop(emp)) (W7 m) (fun c w => rfl)
def reg3 : Pipeline.RegionSeg (pcfgs (F := F)) adm (pdats m) () defs₀ Variants.none Lv lv 3 :=
  Pipeline.RegionSeg.ofHeldIn (pcfgs (F := F)) adm (pdats m) () defs₀ Variants.none Lv lv 3 (fun _ => 0) (Pipeline.ucRefs τ sig)
    (fun c => iprop(∃ r, prngReg c r)) (fun c => iprop(∃ r, prngReg c r)) launch3 rfl (fun c => (M.body_obligation (rd (W9 m)) c).loose) (fun _ _ => rfl) (fun _ => rfl)
    (fun c => (M.dat (rd (W9 m)) c).share_full fun _ => rfl) (fun c => .rfl) (fun c => .rfl) (fun _ => 0) (cut 3) (fun _ => iprop(emp)) (W9 m) (fun c w => rfl)

def seg0 : Pipeline.HostSeg (Ix := Unit) (Name := ℕ) (U := UR sig nD τ) (Lvl := ℕ) (pcfgs (F := F)) defs₀ Variants.none Lv lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) E

def seg1 : Pipeline.HostSeg (Ix := Unit) (Name := ℕ) (U := UR sig nD τ) (Lvl := ℕ) (pcfgs (F := F)) defs₀ Variants.none Lv lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) E

def seg2 : Pipeline.HostSeg (Ix := Unit) (Name := ℕ) (U := UR sig nD τ) (Lvl := ℕ) (pcfgs (F := F)) defs₀ Variants.none Lv lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) E

def seg2_1 : Pipeline.HostSeg (Ix := Unit) (Name := ℕ) (U := UR sig nD τ) (Lvl := ℕ) (pcfgs (F := F)) defs₀ Variants.none Lv lv :=
  Pipeline.HostSeg.ofOps _ _ _ _ _ (Pipeline.ucRefs τ sig) hostOps2_1
    (fun op h => Pipeline.sub_ucRefs op ((List.forall_iff_forall_mem.mp hostOps2_1_sub) op h))
    (fun op h => (List.forall_iff_forall_mem.mp hostOps2_1_fresh) op h) (W5 m) E

def seg2_2 : Pipeline.HostSeg (Ix := Unit) (Name := ℕ) (U := UR sig nD τ) (Lvl := ℕ) (pcfgs (F := F)) defs₀ Variants.none Lv lv :=
  Pipeline.HostSeg.ofOps _ _ _ _ _ (Pipeline.ucRefs τ sig) hostOps2_2
    (fun op h => Pipeline.sub_ucRefs op ((List.forall_iff_forall_mem.mp hostOps2_2_sub) op h))
    (fun op h => (List.forall_iff_forall_mem.mp hostOps2_2_fresh) op h) (W6 m) E

def seg3 : Pipeline.HostSeg (Ix := Unit) (Name := ℕ) (U := UR sig nD τ) (Lvl := ℕ) (pcfgs (F := F)) defs₀ Variants.none Lv lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W8 m) E

def seg4 : Pipeline.HostSeg (Ix := Unit) (Name := ℕ) (U := UR sig nD τ) (Lvl := ℕ) (pcfgs (F := F)) defs₀ Variants.none Lv lv :=
  Pipeline.HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W10 m) E

/-- The program as its items. -/
abbrev segs : List (Pipeline.Seg (pcfgs (F := F)) adm (pdats m) () defs₀ Variants.none Lv lv) :=
  [.host (seg0 m), .region (reg0 m), .host (seg1 m), .region (reg1 m), .host (seg2 m), .host (seg2_1 m), .host (seg2_2 m), .region (reg2 m), .host (seg3 m), .region (reg3 m), .host (seg4 m)]

/-- What is held between two items. -/
abbrev T (W : Dev nD → Valuation τ sig (Elt F)) (c : Dev nD) : sProp 𝕄 :=
  iprop(StableHlo.held (c : Thread nD τ) (Pipeline.ucRefs τ sig) (W c) ∗ E c)
abbrev Tn (c : Dev nD) : sProp 𝕄 := StableHlo.held (c : Thread nD τ) (Pipeline.ucRefs τ sig) (W11 m c)

theorem in0 (c : Dev nD) : T (W1 m) c ⊢ (reg0 m).pre c := by
  unfold reg0
  refine BIBase.Entails.trans ?_ (Pipeline.RegionSeg.ofHeldIn_pre (pcs := pcfgs (F := F)) (a := adm) (pdats := pdats m) (p := 0) (S := Pipeline.ucRefs τ sig) (X := fun c => iprop(∃ r, prngReg c r)) (Y := fun c => iprop(∃ r, prngReg c r)) (R := fun _ => iprop(emp)) (W := W1 m) (Pipeline.arrRefs_sub_ucRefs spec0 winFacts0.arr_unscoped) c)
  exact .rfl
theorem out0 (c : Dev nD) : (reg0 m).post c ⊢ T (W2 m) c := by
  unfold reg0
  refine (Pipeline.RegionSeg.ofHeldIn_post (pcs := pcfgs (F := F)) (a := adm) (pdats := pdats m) (p := 0) (S := Pipeline.ucRefs τ sig) (X := fun c => iprop(∃ r, prngReg c r)) (Y := fun c => iprop(∃ r, prngReg c r)) (R := fun _ => iprop(emp)) (W := W1 m) (Pipeline.arrRefs_sub_ucRefs spec0 winFacts0.arr_unscoped) c).trans ?_
  exact .rfl

theorem in1 (c : Dev nD) : T (W3 m) c ⊢ (reg1 m).pre c := by
  unfold reg1
  refine BIBase.Entails.trans ?_ (Pipeline.RegionSeg.ofHeldInT_pre (pcs := pcfgs (F := F)) (a := adm) (pdats := pdats m) (p := 1) (S := Pipeline.ucRefs τ sig) (X := fun c => iprop(∃ r, prngReg c r)) (Y := fun c => iprop(∃ r, prngReg c r)) (R := fun _ => iprop(emp)) (W := W3 m) (Pipeline.arrRefs_sub_ucRefs spec1 winFacts1.arr_unscoped) (Pipeline.tblRefs_sub_ucRefs pre1 preFacts1.unscoped) c)
  exact .rfl
theorem out1 (c : Dev nD) : (reg1 m).post c ⊢ T (W4 m) c := by
  unfold reg1
  refine (Pipeline.RegionSeg.ofHeldInT_post (pcs := pcfgs (F := F)) (a := adm) (pdats := pdats m) (p := 1) (S := Pipeline.ucRefs τ sig) (X := fun c => iprop(∃ r, prngReg c r)) (Y := fun c => iprop(∃ r, prngReg c r)) (R := fun _ => iprop(emp)) (W := W3 m) (Pipeline.arrRefs_sub_ucRefs spec1 winFacts1.arr_unscoped) (Pipeline.tblRefs_sub_ucRefs pre1 preFacts1.unscoped) c).trans ?_
  exact .rfl

theorem in2 (c : Dev nD) : T (W7 m) c ⊢ (reg2 m).pre c := by
  unfold reg2
  refine BIBase.Entails.trans ?_ (Pipeline.RegionSeg.ofHeldIn_pre (pcs := pcfgs (F := F)) (a := adm) (pdats := pdats m) (p := 2) (S := Pipeline.ucRefs τ sig) (X := fun c => iprop(∃ r, prngReg c r)) (Y := fun c => iprop(∃ r, prngReg c r)) (R := fun _ => iprop(emp)) (W := W7 m) (Pipeline.arrRefs_sub_ucRefs spec2 winFacts2.arr_unscoped) c)
  exact .rfl
theorem out2 (c : Dev nD) : (reg2 m).post c ⊢ T (W8 m) c := by
  unfold reg2
  refine (Pipeline.RegionSeg.ofHeldIn_post (pcs := pcfgs (F := F)) (a := adm) (pdats := pdats m) (p := 2) (S := Pipeline.ucRefs τ sig) (X := fun c => iprop(∃ r, prngReg c r)) (Y := fun c => iprop(∃ r, prngReg c r)) (R := fun _ => iprop(emp)) (W := W7 m) (Pipeline.arrRefs_sub_ucRefs spec2 winFacts2.arr_unscoped) c).trans ?_
  exact .rfl

theorem in3 (c : Dev nD) : T (W9 m) c ⊢ (reg3 m).pre c := by
  unfold reg3
  refine BIBase.Entails.trans ?_ (Pipeline.RegionSeg.ofHeldIn_pre (pcs := pcfgs (F := F)) (a := adm) (pdats := pdats m) (p := 3) (S := Pipeline.ucRefs τ sig) (X := fun c => iprop(∃ r, prngReg c r)) (Y := fun c => iprop(∃ r, prngReg c r)) (R := fun _ => iprop(emp)) (W := W9 m) (Pipeline.arrRefs_sub_ucRefs spec3 winFacts3.arr_unscoped) c)
  exact .rfl
theorem out3 (c : Dev nD) : (reg3 m).post c ⊢ T (W10 m) c := by
  unfold reg3
  refine (Pipeline.RegionSeg.ofHeldIn_post (pcs := pcfgs (F := F)) (a := adm) (pdats := pdats m) (p := 3) (S := Pipeline.ucRefs τ sig) (X := fun c => iprop(∃ r, prngReg c r)) (Y := fun c => iprop(∃ r, prngReg c r)) (R := fun _ => iprop(emp)) (W := W9 m) (Pipeline.arrRefs_sub_ucRefs spec3 winFacts3.arr_unscoped) c).trans ?_
  exact .rfl

theorem init0 : iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp)) ∗ levAts Lv lv)
      ⊢ |={Set.univ}=> bigSep Finset.univ (T (W0 m)) := by
  refine Pipeline.initEach Lv lv fun c => ?_
  rw [show unscopedBufs c (fun b => m ((c : Thread nD τ).loc b)) = StableHlo.held (c : Thread nD τ) (Pipeline.ucRefs τ sig) (W0 m c)
      from Pipeline.unscopedBufs_held (Ix := Unit) (Name := ℕ) (U := UR sig nD τ) (Lvl := ℕ) c (W0 m c)]
  iintro ⟨⟨Hh, -, HO, -, Hp, -⟩, -⟩
  imodintro
  isplitl [Hh]; · iexact Hh
  isplitl [HO]; · iexists ∅; iexact HO
  isplitl [Hp]; · iexists _; iexact Hp
  iempintro

theorem fin0 (c : Dev nD) (s' : Phys nD τ sig (Elt F)) : iprop(Tn m c ∗ SI s') ⊢ (|={Set.univ}=> iprop(⌜∀ b ∈ Pipeline.ucRefs τ sig, s'.mem.mem ((c.tc : Thread nD τ).1, b) = W11 m c b⌝ ∗ SI s') : sProp 𝕄) := by
  unfold Tn StableHlo.held
  iintro ⟨Hh, HSI⟩
  ihave Hr := (pointsTo_read_all (Pipeline.ucRefs τ sig) (fun b => ((c.tc : Thread nD τ).1, b)) (W11 m c) s') $$ [Hh HSI]
  · isplitl [Hh] <;> iassumption
  imodintro; iexact Hr

theorem hu0 : (ownU (initOf (cells (Pipeline.pin (pcfgs (F := F)) adm) (cellOf_inj adm)) (launchToks (Pipeline.pin (pcfgs (F := F)) adm) (cellOf_inj adm))) : sProp 𝕄)
    ⊢ |={Set.univ}=> iprop(BI.own (emb₁ (initOf (cells (Pipeline.pin (pcfgs (F := F)) adm) (cellOf_inj adm)) (launchToks (Pipeline.pin (pcfgs (F := F)) adm) (cellOf_inj adm)))) ∗ bigSep Finset.univ (fun _ : Dev nD => (BI.emp : sProp 𝕄))) := by
  iintro Hu; imodintro
  isplitl [Hu]
  · iapply (show (ownU _ : sProp 𝕄) ⊢ BI.own (emb₁ (initOf (cells (Pipeline.pin pcfgs adm) (cellOf_inj adm)) (launchToks (Pipeline.pin pcfgs adm) (cellOf_inj adm)))) from .rfl)
    iexact Hu
  iapply (show (BI.emp : sProp 𝕄) ⊢ bigSep Finset.univ (fun _ : Dev nD => (BI.emp : sProp 𝕄)) from by rw [BI.bigSep_emp_const])
  iempintro

theorem last (c : Dev nD) : (seg4 m).post c ⊢ iprop(Tn m c ∗ ∃ W, owes (c.tc : Thread nD τ) (0 : CellTallies nD τ sig Unit) W) :=
  sep_mono .rfl (by iintro ⟨H, -⟩; iexact H)

set_option backward.isDefEq.respectTransparency.types false in
/-- Every final state holds in every unscoped buffer what the chain of items leaves there. -/
theorem run_main : θ_run defs (onTc (τ := τ) (main (F := F))) ⟨m, fun _ => 0, ρ⟩ (fun r =>
      (∀ c : Dev nD, ∀ b ∈ Pipeline.ucRefs τ sig, r.2.mem ((c.tc : Thread nD τ).1, b) = W11 m c b) ∧ r.2.sem = fun _ => 0) :=
  Pipeline.θ_run_regions_kit_dev_sems (pcfgs (F := F)) adm (pdats m) () (cellOf_inj adm) emb₁ defs₀ Variants.none Lv lv m ρ main (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [segs, Pipeline.Seg.pipes_host, Pipeline.Seg.pipes_region, Pipeline.Seg.pipes_nil]; decide) 0
    (fun g h => if_neg h) (fun _ => iprop(emp))
    (initOf (cells (Pipeline.pin (pcfgs (F := F)) adm) (cellOf_inj adm)) (launchToks (Pipeline.pin (pcfgs (F := F)) adm) (cellOf_inj adm)))
    hu0 (T (W0 m)) (Tn m)
    (fun c => ⟨.rfl, in0 m c, out0 m c, in1 m c, out1 m c, .rfl, .rfl, in2 m c, out2 m c, in3 m c, out3 m c, last m c⟩)
    (init0 m ρ)
    (fun c s => ∀ b ∈ Pipeline.ucRefs τ sig, s.mem ((c.tc : Thread nD τ).1, b) = W11 m c b)
    (fin0 m) (fun s h hz => ⟨h, funext fun g => hz g (.inr (regions_no_unscoped g.2))⟩)

end Cert.KernelIdeal.L

end
-- ==== Proof.KPost.lean ====
/-
  The buffers between the items of the whole program: what each item leaves alone, each region's result arrays, and the
  arguments at the end.
-/
module

public import proofs.«01_k».proof.Proof.KLaunch

@[expose] public section

set_option maxRecDepth 16384

noncomputable section

namespace Cert.KernelIdeal.L

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg) (c : Dev nD)

theorem W1_of (b : Ref sig .tc) (h : b ∉ hostOps0_W) : W1 m c (Proc.devRef .tc b) = W0 m c (Proc.devRef .tc b) :=
  StableHlo.after_of_writes_sub hostOps0 _ hostOps0_writes h
theorem W5_of (b : Ref sig .tc) (h : b ∉ hostOps2_W) : W5 m c (Proc.devRef .tc b) = W4 m c (Proc.devRef .tc b) :=
  StableHlo.after_of_writes_sub hostOps2 _ hostOps2_writes h
theorem W6_of (b : Ref sig .tc) (h : b ∉ hostOps2_1_W) : W6 m c (Proc.devRef .tc b) = W5 m c (Proc.devRef .tc b) :=
  StableHlo.after_of_writes_sub hostOps2_1 _ hostOps2_1_writes h
theorem W7_of (b : Ref sig .tc) (h : b ∉ hostOps2_2_W) : W7 m c (Proc.devRef .tc b) = W6 m c (Proc.devRef .tc b) :=
  StableHlo.after_of_writes_sub hostOps2_2 _ hostOps2_2_writes h
theorem W9_of (b : Ref sig .tc) (h : b ∉ hostOps3_W) : W9 m c (Proc.devRef .tc b) = W8 m c (Proc.devRef .tc b) :=
  StableHlo.after_of_writes_sub hostOps3 _ hostOps3_writes h
theorem W11_of (b : Ref sig .tc) (h : b ∉ hostOps4_W) : W11 m c (Proc.devRef .tc b) = W10 m c (Proc.devRef .tc b) :=
  StableHlo.after_of_writes_sub hostOps4 _ hostOps4_writes h
theorem W4_of (b : Ref sig .tc) (h : ∀ w, Pipeline.arrRef spec1 w ≠ b) : W4 m c (Proc.devRef .tc b) = W3 m c (Proc.devRef .tc b) :=
  Pipeline.afterRegion_of_not_arr (cfg := A.cfgT (F := F)) (A.dat (rd (W3 m)) c) (W3 m c) (fun w => (h w).symm)
theorem W8_of (b : Ref sig .tc) (h : ∀ w, Pipeline.arrRef spec2 w ≠ b) : W8 m c (Proc.devRef .tc b) = W7 m c (Proc.devRef .tc b) :=
  Pipeline.afterRegion_of_not_arr (cfg := cfg2) (R.dats (rd (W7 m)) 0 c) (W7 m c) (fun w => (h w).symm)
theorem W10_of (b : Ref sig .tc) (h : ∀ w, Pipeline.arrRef spec3 w ≠ b) : W10 m c (Proc.devRef .tc b) = W9 m c (Proc.devRef .tc b) :=
  Pipeline.afterRegion_of_not_arr (cfg := cfg3) (M.dat (rd (W9 m)) c) (W9 m c) (fun w => (h w).symm)
theorem W2_arr (w : Fin 8) : W2 m c (Proc.devRef .tc (Pipeline.arrRef spec0 w)) = (Q.dats (rd (W1 m)) 0 c).arrAt w (cfg0).N :=
  Pipeline.afterRegion_arr (cfg := cfg0) (Q.dats (rd (W1 m)) 0 c) (W1 m c) winFacts0.arr_inj w
theorem W4_arr (w : Fin 4) : W4 m c (Proc.devRef .tc (Pipeline.arrRef spec1 w)) = (A.dat (rd (W3 m)) c).arrAt w (A.cfgT (F := F)).N :=
  Pipeline.afterRegion_arr (cfg := A.cfgT (F := F)) (A.dat (rd (W3 m)) c) (W3 m c) winFacts1.arr_inj w
theorem W8_arr (w : Fin 10) : W8 m c (Proc.devRef .tc (Pipeline.arrRef spec2 w)) = (R.dats (rd (W7 m)) 0 c).arrAt w (cfg2).N :=
  Pipeline.afterRegion_arr (cfg := cfg2) (R.dats (rd (W7 m)) 0 c) (W7 m c) winFacts2.arr_inj w
theorem W10_arr (w : Fin 9) : W10 m c (Proc.devRef .tc (Pipeline.arrRef spec3 w)) = (M.dat (rd (W9 m)) c).arrAt w (cfg3).N :=
  Pipeline.afterRegion_arr (cfg := cfg3) (M.dat (rd (W9 m)) c) (W9 m c) winFacts3.arr_inj w

/-- A buffer no item after the first region writes. -/
theorem keep (b : Ref sig .tc) (h3 : b ∉ hostOps1_W) (h4 : ∀ w, Pipeline.arrRef spec1 w ≠ b) (h5 : b ∉ hostOps2_W) (h6 : b ∉ hostOps2_1_W) (h7 : b ∉ hostOps2_2_W)
    (h8 : ∀ w, Pipeline.arrRef spec2 w ≠ b) (h9 : b ∉ hostOps3_W) (h10 : ∀ w, Pipeline.arrRef spec3 w ≠ b) (h11 : b ∉ hostOps4_W) :
    W11 m c (Proc.devRef .tc b) = W2 m c (Proc.devRef .tc b) := by
  rw [W11_of m c b h11, W10_of m c b h10, W9_of m c b h9, W8_of m c b h8, W7_of m c b h7, W6_of m c b h6, W5_of m c b h5, W4_of m c b h4, W3_of m c b h3]

/-- An argument at the end, one no item writes and no region stages. -/
theorem arg_of (b : Ref sig .tc) (h1 : b ∉ hostOps0_W) (h2 : ∀ w, Pipeline.arrRef spec0 w ≠ b) (h3 : b ∉ hostOps1_W) (h4 : ∀ w, Pipeline.arrRef spec1 w ≠ b) (h5 : b ∉ hostOps2_W) (h6 : b ∉ hostOps2_1_W) (h7 : b ∉ hostOps2_2_W)
    (h8 : ∀ w, Pipeline.arrRef spec2 w ≠ b) (h9 : b ∉ hostOps3_W) (h10 : ∀ w, Pipeline.arrRef spec3 w ≠ b) (h11 : b ∉ hostOps4_W) :
    W11 m c (Proc.devRef .tc b) = m ((c : Thread nD τ).loc b) := by
  rw [keep m c b h3 h4 h5 h6 h7 h8 h9 h10 h11, W2_of m c b h2, W1_of m c b h1]
  rfl

theorem W11_arg0 : W11 m c (Proc.devRef .tc main_arg0) = m ((c : Thread nD τ).loc main_arg0) := arg_of m c main_arg0 (by decide) (by decide) (by decide) (by decide) (by decide) (by decide) (by decide) (by decide) (by decide) (by decide) (by decide)
theorem W11_arg1 : W11 m c (Proc.devRef .tc main_arg1) = m ((c : Thread nD τ).loc main_arg1) := arg_of m c main_arg1 (by decide) (by decide) (by decide) (by decide) (by decide) (by decide) (by decide) (by decide) (by decide) (by decide) (by decide)
theorem W11_arg2 : W11 m c (Proc.devRef .tc main_arg2) = m ((c : Thread nD τ).loc main_arg2) :=
  (keep m c main_arg2 (by decide) (by decide) (by decide) (by decide) (by decide) (by decide) (by decide) (by decide) (by decide)).trans ((W2_arr m c 2).trans (((Q.dats (rd (W1 m)) 0 c).arrAt_in 2 rfl _).trans (W1_of m c main_arg2 (by decide))))
theorem W11_arg3 : W11 m c (Proc.devRef .tc main_arg3) = m ((c : Thread nD τ).loc main_arg3) :=
  (keep m c main_arg3 (by decide) (by decide) (by decide) (by decide) (by decide) (by decide) (by decide) (by decide) (by decide)).trans ((W2_arr m c 3).trans (((Q.dats (rd (W1 m)) 0 c).arrAt_in 3 rfl _).trans (W1_of m c main_arg3 (by decide))))
theorem W11_arg4 : W11 m c (Proc.devRef .tc main_arg4) = m ((c : Thread nD τ).loc main_arg4) := arg_of m c main_arg4 (by decide) (by decide) (by decide) (by decide) (by decide) (by decide) (by decide) (by decide) (by decide) (by decide) (by decide)
theorem W11_arg5 : W11 m c (Proc.devRef .tc main_arg5) = m ((c : Thread nD τ).loc main_arg5) := arg_of m c main_arg5 (by decide) (by decide) (by decide) (by decide) (by decide) (by decide) (by decide) (by decide) (by decide) (by decide) (by decide)
theorem W11_arg6 : W11 m c (Proc.devRef .tc main_arg6) = m ((c : Thread nD τ).loc main_arg6) := arg_of m c main_arg6 (by decide) (by decide) (by decide) (by decide) (by decide) (by decide) (by decide) (by decide) (by decide) (by decide) (by decide)
theorem W11_arg7 : W11 m c (Proc.devRef .tc main_arg7) = m ((c : Thread nD τ).loc main_arg7) := arg_of m c main_arg7 (by decide) (by decide) (by decide) (by decide) (by decide) (by decide) (by decide) (by decide) (by decide) (by decide) (by decide)
theorem W11_arg8 : W11 m c (Proc.devRef .tc main_arg8) = m ((c : Thread nD τ).loc main_arg8) := arg_of m c main_arg8 (by decide) (by decide) (by decide) (by decide) (by decide) (by decide) (by decide) (by decide) (by decide) (by decide) (by decide)
theorem W11_arg9 : W11 m c (Proc.devRef .tc main_arg9) = m ((c : Thread nD τ).loc main_arg9) := arg_of m c main_arg9 (by decide) (by decide) (by decide) (by decide) (by decide) (by decide) (by decide) (by decide) (by decide) (by decide) (by decide)

/-- Every run ends with the two result buffers as the last stretch leaves them and the arguments unchanged. -/
theorem run_result : θ_run defs (onTc (τ := τ) (main (F := F))) ⟨m, fun _ => 0, ρ⟩ (fun r => (∀ c : Dev nD,
      r.2.mem ((c.tc : Thread nD τ).loc main_v23) = W11 m c (Proc.devRef .tc main_v23)
      ∧ r.2.mem ((c.tc : Thread nD τ).loc main_v25) = W11 m c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨h.1 c (Proc.devRef .tc main_v23) (by decide), h.1 c (Proc.devRef .tc main_v25) (by decide),
    (h.1 c (Proc.devRef .tc main_arg0) (by decide)).trans (W11_arg0 m c),
    (h.1 c (Proc.devRef .tc main_arg1) (by decide)).trans (W11_arg1 m c),
    (h.1 c (Proc.devRef .tc main_arg2) (by decide)).trans (W11_arg2 m c),
    (h.1 c (Proc.devRef .tc main_arg3) (by decide)).trans (W11_arg3 m c),
    (h.1 c (Proc.devRef .tc main_arg4) (by decide)).trans (W11_arg4 m c),
    (h.1 c (Proc.devRef .tc main_arg5) (by decide)).trans (W11_arg5 m c),
    (h.1 c (Proc.devRef .tc main_arg6) (by decide)).trans (W11_arg6 m c),
    (h.1 c (Proc.devRef .tc main_arg7) (by decide)).trans (W11_arg7 m c),
    (h.1 c (Proc.devRef .tc main_arg8) (by decide)).trans (W11_arg8 m c),
    (h.1 c (Proc.devRef .tc main_arg9) (by decide)).trans (W11_arg9 m c)⟩, h.2⟩) (run_main m ρ)

end Cert.KernelIdeal.L

end
-- ==== Proof.KQVal.lean ====
/-
  The projection region's three result arrays, as sums over the extended reals.
-/
module

public import proofs.«01_k».proof.Proof.KQ

@[expose] public section

set_option maxRecDepth 16384

noncomputable section

namespace Cert.KernelIdeal.Q

open Cert.KernelIdeal Cert.KernelIdeal.Gen
open Idealize.ShloMosaic Idealize.ShloMosaic.TcCoe Idealize.SL.Sem
open Idealize.ShloMosaic.Pipeline (Dat)

/-- The normalised entry of a token at a column. -/
def xn (X : FVec Ideal S2048x1024 .f32) (w : FVec Ideal S1x1024 .f32) (t : Fin 2048) (k : Fin 1024) : EReal :=
  X (ix2 t k) * Ideal.rsqrt (Ideal.div (∑ j : Fin 1024, X (ix2 t j) * X (ix2 t j)) (Ideal.ofBits .f32 0x44800000#32) + Ideal.ofBits .f32 0x3727C5AC#32) * w (ix2 0 k)

/-- A projection of the normalised tokens. -/
def proj (X : FVec Ideal S2048x1024 .f32) (w : FVec Ideal S1x1024 .f32) (W : FVec Ideal S1024x1024 .f32) (t : Fin 2048) (d : Fin 1024) : EReal :=
  ∑ k : Fin 1024, xn X w t k * W (ix2 k d)

theorem scale : Named.named (F := Ideal) Cert.KernelIdeal.κ "scale" (φ := .f32) 0x3E38AA3B#32 = (((Real.log 2)⁻¹ * (Real.sqrt 64)⁻¹ : ℝ) : EReal) :=
  IdealRules.named_const.ideal_named_scalar _ _ _ _ rfl

variable (V : (c : Dev nD) → (b : Ref sig .tc) → Buf (Elt Ideal) ((c : Thread nD τ).loc b))

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- The token a tile row is. -/
def tok (t : Fin cfg0.N) (r : Fin 256) : Fin 2048 :=
  ⟨256 * t.val + r.val, by have := t.isLt; have h : cfg0.N = 8 := N_0; omega⟩

theorem final5 (c : Dev nD) : (dats V 0 c).arrAt 5 cfg0.N
    = (fun y => proj (V c main_v0) (V c main_v1) (V c main_arg2) (y 0) (y 1) * (((Real.log 2)⁻¹ * (Real.sqrt 64)⁻¹ : ℝ) : EReal) : FVec Ideal S2048x1024 .f32) := by
  refine (dats V 0 c).arrAt_eq_of_covers 5 _ (by decide +kernel) fun t hf y => ?_
  blk_simp
  rw [after0_5]
  frame_out
  obtain ⟨r, d, rfl⟩ : ∃ (r : Fin 256) (d : Fin 1024), y = ix2 r d := ⟨y 0, y 1, eq_ix2 y⟩
  pointwise [k0_pay2, k0_pay1, proj, xn]
  rw [scale]
  blk_point [iblk, idx t]

theorem final6 (c : Dev nD) : (dats V 0 c).arrAt 6 cfg0.N
    = (fun y => proj (V c main_v0) (V c main_v1) (V c main_arg3) (y 0) (y 1) : FVec Ideal S2048x1024 .f32) := by
  refine (dats V 0 c).arrAt_eq_of_covers 6 _ (by decide +kernel) fun t hf y => ?_
  blk_simp
  rw [after0_6]
  frame_out
  obtain ⟨r, d, rfl⟩ : ∃ (r : Fin 256) (d : Fin 1024), y = ix2 r d := ⟨y 0, y 1, eq_ix2 y⟩
  pointwise [k0_pay3, k0_pay1, proj, xn]
  blk_point [iblk, idx t]

theorem final7 (c : Dev nD) : (dats V 0 c).arrAt 7 cfg0.N
    = (fun y => proj (V c main_v0) (V c main_v1) (fun i => (V c main_v2 : FVec Ideal S1024x1024 .bf16) i) (y 0) (y 1) : FVec Ideal S2048x1024 .bf16) := by
  refine (dats V 0 c).arrAt_eq_of_covers 7 _ (by decide +kernel) fun t hf y => ?_
  blk_simp
  rw [after0_7]
  frame_out
  obtain ⟨r, d, rfl⟩ : ∃ (r : Fin 256) (d : Fin 1024), y = ix2 r d := ⟨y 0, y 1, eq_ix2 y⟩
  pointwise [k0_pay4, k0_pay1, proj, xn]
  blk_point [iblk, idx t]

end Cert.KernelIdeal.Q
-- ==== Proof.KRVal.lean ====
/-
  The output projection and router region's five result arrays, over the extended reals.
-/
module

public import proofs.«01_k».proof.Proof.KR
public import proofs.«01_k».proof.Proof.RouterMath

@[expose] public section

set_option maxRecDepth 16384

noncomputable section

namespace Cert.KernelIdeal.R

open Cert.KernelIdeal Cert.KernelIdeal.Gen
open Idealize.ShloMosaic Idealize.ShloMosaic.TcCoe Idealize.SL.Sem
open Idealize.ShloMosaic.Pipeline (Dat)

/-- The hidden state after the output projection and the residual. -/
def h2 (A R : FVec Ideal S2048x1024 .f32) (W : FVec Ideal S1024x1024 .bf16) (t : Fin 2048) (d : Fin 1024) : EReal :=
  (∑ k : Fin 1024, A (ix2 t k) * W (ix2 k d)) + R (ix2 t d)

/-- A row's normalised entry. -/
def nrm (h : Fin 1024 → EReal) (w : FVec Ideal S1x1024 .f32) (k : Fin 1024) : EReal :=
  h k * Ideal.rsqrt (Ideal.div (∑ j : Fin 1024, h j * h j) (Ideal.ofBits .f32 0x44800000#32) + Ideal.ofBits .f32 0x3727C5AC#32) * w (ix2 0 k)

theorem mask : Named.named (F := Ideal) Cert.KernelIdeal.κ "mask" (φ := .f32) 0xF149F2CA#32 = (⊥ : EReal) :=
  IdealRules.named_const.ideal_named_scalar _ _ _ _ rfl

variable (V : (c : Dev nD) → (b : Ref sig .tc) → Buf (Elt Ideal) ((c : Thread nD τ).loc b))

theorem idx : ∀ t : Fin cfg2.N, win2_0.index t = ![t.val, 0] ∧ win2_1.index t = ![t.val, 0] ∧ win2_2.index t = ![0, 0] ∧ win2_3.index t = ![0, 0]
    ∧ win2_4.index t = ![0, 0] ∧ win2_5.index t = ![t.val, 0] ∧ win2_6.index t = ![t.val, 0] ∧ win2_7.index t = ![t.val, 0]
    ∧ win2_8.index t = ![0, 0] ∧ win2_9.index t = ![0, 0] :=
  (by decide +kernel : ∀ t : Fin grid2.N, _)

/-- The token a tile row is. -/
def tok (t : Fin cfg2.N) (r : Fin 256) : Fin 2048 :=
  ⟨t.val * 256 + r.val, by have := t.isLt; have h : cfg2.N = 8 := N_2; omega⟩

theorem pay2_apply (v0 : Vec Ideal S256x1024 .f32) (v2 : Vec Ideal S1024x1024 .bf16) (v5 : Vec Ideal S256x1024 .f32) (r : Fin 256) (d : Fin 1024) :
    k2_pay2 (F := Ideal) v0 v2 v5 (ix2 r d) = (∑ k : Fin 1024, v0 (ix2 r k) * v2 (ix2 k d)) + v5 (ix2 r d) := by
  pointwise [k2_pay2]

theorem pay3_apply (v0 : Vec Ideal S256x1024 .f32) (v2 : Vec Ideal S1024x1024 .bf16) (v5 : Vec Ideal S256x1024 .f32) (v18 : Vec Ideal S1x1024 .f32) (r : Fin 256) (d : Fin 1024) :
    k2_pay3 (F := Ideal) v0 v2 v5 v18 (ix2 r d) = nrm (fun d => k2_pay2 (F := Ideal) v0 v2 v5 (ix2 r d)) v18 d := by
  pointwise [k2_pay3, nrm]

/-- The logits of a row against the first eight columns. -/
def lg (x : Fin 1024 → EReal) (W : FVec Ideal S1024x128 .f32) (e : Fin 8) : EReal := ∑ k : Fin 1024, x k * W (ix2 k (e.castLE (by decide)))

theorem pay6_apply (v0 : Vec Ideal S256x1024 .f32) (v2 : Vec Ideal S1024x1024 .bf16) (v5 : Vec Ideal S256x1024 .f32) (v18 : Vec Ideal S1x1024 .f32) (v24 : Vec Ideal S1024x128 .f32) (r : Fin 256) (e : Fin 128) :
    k2_pay6 (F := Ideal) v0 v2 v5 v18 v24 (ix2 r e) = RouterMath.lanes (lg (fun k => k2_pay3 (F := Ideal) v0 v2 v5 v18 (ix2 r k)) v24) ⊥ e := by
  pointwise [k2_pay6, k2_pay5]
  rw [mask]
  word_cmp
  unfold RouterMath.lanes
  by_cases h : e.val < 8
  · rw [if_pos (by omega), dif_pos h]; rfl
  · rw [if_neg (by omega), dif_neg h]

theorem pay7_apply (v0 : Vec Ideal S256x1024 .f32) (v2 : Vec Ideal S1024x1024 .bf16) (v5 : Vec Ideal S256x1024 .f32) (v18 : Vec Ideal S1x1024 .f32) (v24 : Vec Ideal S1024x128 .f32) (r : Fin 256) :
    k2_pay7 (F := Ideal) v0 v2 v5 v18 v24 (Idealize.ShloMosaic.ix1 r) = Finset.univ.sup (RouterMath.lanes (lg (fun k => k2_pay3 (F := Ideal) v0 v2 v5 v18 (ix2 r k)) v24) ⊥) := by
  pointwise [k2_pay7]
  rw [RouterMath.fold_max_bot]
  exact congrArg _ (funext fun x => pay6_apply v0 v2 v5 v18 v24 r x)

section
variable (v31 : FVec Ideal S256x128 .f32) (v34 : FVec Ideal S256 .f32) (r : Fin 256) (l : Fin 8 → EReal)
    (h31 : ∀ e : Fin 128, v31 (ix2 r e) = RouterMath.lanes l ⊥ e) (h34 : v34 (Idealize.ShloMosaic.ix1 r) = Finset.univ.sup (RouterMath.lanes l ⊥))
include h31 h34

theorem pay8_apply (e : Fin 128) : k2_pay8 (F := Ideal) v31 v34 (ix2 r e) = RouterMath.softL (RouterMath.lanes l ⊥) e := by
  pointwise [k2_pay8]
  simp only [h31, h34]
  rfl

theorem pay9_apply (e : Fin 128) : k2_pay9 (F := Ideal) k2_pay5 v31 v34 (ix2 r e) = RouterMath.lanes (RouterMath.soft l) (Ideal.ofBits .f32 0xBF800000#32) e := by
  pointwise [k2_pay9, k2_pay5]
  rw [pay8_apply v31 v34 r l h31 h34]
  word_cmp
  unfold RouterMath.lanes
  by_cases h : e.val < 8
  · rw [if_pos (by omega), dif_pos h]
    exact RouterMath.softL_cast l ⟨e.val, h⟩
  · rw [if_neg (by omega), dif_neg h]

variable (i j : Fin 8) (hT : RouterMath.Top (RouterMath.soft l) i j)
include hT

theorem pay10_apply : k2_pay10 (F := Ideal) k2_pay5 v31 v34 (ix2 r 0) = RouterMath.soft l i := by
  pointwise [k2_pay10]
  rw [RouterMath.fold_max_bot]
  refine Eq.trans ?_ (RouterMath.sup1 _ i j hT (RouterMath.soft_nonneg l i j hT) _ RouterMath.neg_one)
  exact congrArg _ (funext fun x => pay9_apply v31 v34 r l h31 h34 x)

theorem pay11_apply (e : Fin 128) : k2_pay11 (F := Ideal) k2_pay5 v31 v34 (ix2 r e) = BitVec.ofBool (decide (e.val = i.val)) := by
  pointwise [k2_pay11]
  rw [pay9_apply v31 v34 r l h31 h34, pay10_apply v31 v34 r l h31 h34 i j hT]
  exact congrArg _ (decide_eq_decide.mpr (RouterMath.is1 _ i j hT (RouterMath.soft_nonneg l i j hT) _ RouterMath.neg_one e))

theorem pay12_apply (e : Fin 128) : k2_pay12 (F := Ideal) k2_pay5 v31 v34 (ix2 r e) = RouterMath.struck (RouterMath.soft l) i (Ideal.ofBits .f32 0xBF800000#32) e := by
  pointwise [k2_pay12]
  rw [pay11_apply v31 v34 r l h31 h34 i j hT, pay9_apply v31 v34 r l h31 h34]
  unfold RouterMath.struck
  have hk := RouterMath.is1 _ i j hT (RouterMath.soft_nonneg l i j hT) _ RouterMath.neg_one e
  by_cases he : e.val = i.val
  · rw [if_pos (hk.mpr he), decide_eq_true he]; rfl
  · rw [if_neg fun hh => he (hk.mp hh), decide_eq_false he]; rfl

theorem pay13_apply : k2_pay13 (F := Ideal) k2_pay5 v31 v34 (ix2 r 0) = RouterMath.soft l j := by
  pointwise [k2_pay13]
  rw [RouterMath.fold_max_bot]
  refine Eq.trans ?_ (RouterMath.sup2 _ i j hT (RouterMath.soft_nonneg l i j hT) _ RouterMath.neg_one)
  exact congrArg _ (funext fun x => pay12_apply v31 v34 r l h31 h34 i j hT x)

theorem pay14_apply (e : Fin 128) : k2_pay14 (F := Ideal) k2_pay5 v31 v34 (ix2 r e) = BitVec.ofBool (decide (e.val = j.val)) := by
  pointwise [k2_pay14]
  rw [pay12_apply v31 v34 r l h31 h34 i j hT, pay13_apply v31 v34 r l h31 h34 i j hT]
  exact congrArg _ (decide_eq_decide.mpr (RouterMath.is2 _ i j hT (RouterMath.soft_nonneg l i j hT) _ RouterMath.neg_one e))

theorem pay15_apply (e : Fin 128) : k2_pay15 (F := Ideal) k2_pay5 v31 v34 (ix2 r e) = RouterMath.comb (RouterMath.soft l) i j e.val := by
  pointwise [k2_pay15]
  rw [pay11_apply v31 v34 r l h31 h34 i j hT, pay14_apply v31 v34 r l h31 h34 i j hT, pay10_apply v31 v34 r l h31 h34 i j hT, pay13_apply v31 v34 r l h31 h34 i j hT,
    RouterMath.bit_ind, RouterMath.bit_ind]
  simp only [decide_eq_true_eq]
  rfl

end

theorem pay18_apply (v31 : FVec Ideal S256x128 .f32) (v34 : FVec Ideal S256 .f32) (v74 : FVec Ideal S1x128 .f32) (l : Fin 256 → Fin 8 → EReal)
    (h31 : ∀ r, ∀ e : Fin 128, v31 (ix2 r e) = RouterMath.lanes (l r) ⊥ e) (h34 : ∀ r, v34 (Idealize.ShloMosaic.ix1 r) = Finset.univ.sup (RouterMath.lanes (l r) ⊥))
    (i j : Fin 256 → Fin 8) (hT : ∀ r, RouterMath.Top (RouterMath.soft (l r)) (i r) (j r)) (e : Fin 128) :
    k2_pay18 (F := Ideal) k2_pay5 v31 v34 v74 (ix2 0 e) = v74 (ix2 0 e) + ∑ r : Fin 256, (RouterMath.ind e.val (i r).val + RouterMath.ind e.val (j r).val) := by
  pointwise [k2_pay18]
  refine congrArg (_ + ·) (Finset.sum_congr rfl fun r _ => ?_)
  rw [pay11_apply v31 v34 r _ (h31 r) (h34 r) _ _ (hT r), pay14_apply v31 v34 r _ (h31 r) (h34 r) _ _ (hT r), RouterMath.bit_ind, RouterMath.bit_ind]
  simp only [decide_eq_true_eq]
  rfl

theorem pay1_apply (v40 : FVec Ideal S256x128 .f32) (v80 : FVec Ideal S1x128 .f32) (e : Fin 128) :
    k2_pay1 (F := Ideal) v40 v80 (ix2 0 e) = v80 (ix2 0 e) + ∑ r : Fin 256, v40 (ix2 r e) := by
  pointwise [k2_pay1]

/-- A token's logits. -/
def logit (A R : FVec Ideal S2048x1024 .f32) (W : FVec Ideal S1024x1024 .bf16) (w : FVec Ideal S1x1024 .f32) (WR : FVec Ideal S1024x128 .f32) (t : Fin 2048) : Fin 8 → EReal :=
  lg (fun k => nrm (fun d => h2 A R W t d) w k) WR

section
variable (c : Dev nD) (t : Fin cfg2.N) (r : Fin 256)

theorem row2 (d : Fin 1024) : k2_pay2 (F := Ideal) (iblk V c 0 t) (iblk V c 2 t) (iblk V c 1 t) (ix2 r d)
    = h2 (V c main_v12) (V c main_v0) (V c main_v14) (tok t r) d := by
  rw [pay2_apply]
  unfold h2
  blk_point [iblk, idx t]
  all_goals rfl

theorem row3 (k : Fin 1024) : k2_pay3 (F := Ideal) (iblk V c 0 t) (iblk V c 2 t) (iblk V c 1 t) (iblk V c 3 t) (ix2 r k)
    = nrm (fun d => h2 (V c main_v12) (V c main_v0) (V c main_v14) (tok t r) d) (V c main_v15) k := by
  rw [pay3_apply, show (fun d => k2_pay2 (F := Ideal) (iblk V c 0 t) (iblk V c 2 t) (iblk V c 1 t) (ix2 r d)) = fun d => h2 (V c main_v12) (V c main_v0) (V c main_v14) (tok t r) d from funext fun d => row2 V c t r d]
  unfold nrm
  refine Ideal.mul_congr rfl ?_
  blk_point [iblk, idx t]

theorem rowl : lg (fun k => k2_pay3 (F := Ideal) (iblk V c 0 t) (iblk V c 2 t) (iblk V c 1 t) (iblk V c 3 t) (ix2 r k)) (iblk V c 4 t)
    = logit (V c main_v12) (V c main_v0) (V c main_v14) (V c main_v15) (V c main_v13) (tok t r) := by
  rw [show (fun k => k2_pay3 (F := Ideal) (iblk V c 0 t) (iblk V c 2 t) (iblk V c 1 t) (iblk V c 3 t) (ix2 r k)) = fun k => nrm (fun d => h2 (V c main_v12) (V c main_v0) (V c main_v14) (tok t r) d) (V c main_v15) k from funext fun k => row3 V c t r k]
  funext e
  unfold logit lg
  refine Finset.sum_congr rfl fun k _ => Ideal.mul_congr rfl ?_
  blk_point [iblk, idx t]

/-- The masked logits of a block and their greatest, as the later stages read them. -/
abbrev b31 := k2_pay6 (F := Ideal) (iblk V c 0 t) (iblk V c 2 t) (iblk V c 1 t) (iblk V c 3 t) (iblk V c 4 t)
abbrev b34 := k2_pay7 (F := Ideal) (iblk V c 0 t) (iblk V c 2 t) (iblk V c 1 t) (iblk V c 3 t) (iblk V c 4 t)
/-- A token's logits at the region's entry. -/
abbrev tl (t : Fin 2048) := logit (V c main_v12) (V c main_v0) (V c main_v14) (V c main_v15) (V c main_v13) t

theorem b31_apply (e : Fin 128) : b31 V c t (ix2 r e) = RouterMath.lanes (tl V c (tok t r)) ⊥ e := by
  rw [b31, pay6_apply, rowl]
theorem b34_apply : b34 V c t (Idealize.ShloMosaic.ix1 r) = Finset.univ.sup (RouterMath.lanes (tl V c (tok t r)) ⊥) := by
  rw [b34, pay7_apply, rowl]

end

theorem final5 (c : Dev nD) : (dats V 0 c).arrAt 5 cfg2.N
    = (fun y => h2 (V c main_v12) (V c main_v0) (V c main_v14) (y 0) (y 1) : FVec Ideal S2048x1024 .f32) := by
  refine (dats V 0 c).arrAt_eq_of_covers 5 _ (by decide +kernel) fun t hf y => ?_
  blk_simp
  rw [after0_5]
  by_cases h0 : t.val % 8 = 0
  · rw [outsAt0_A V c t h0]
    unfold tupA
    frame_out
    obtain ⟨r, d, rfl⟩ : ∃ (r : Fin 256) (d : Fin 1024), y = ix2 r d := ⟨y 0, y 1, eq_ix2 y⟩
    pointwise [k2_pay2, h2]
    blk_point [iblk, idx t]
  · rw [outsAt0_B V c t h0]
    unfold tupB
    frame_out
    obtain ⟨r, d, rfl⟩ : ∃ (r : Fin 256) (d : Fin 1024), y = ix2 r d := ⟨y 0, y 1, eq_ix2 y⟩
    pointwise [k2_pay2, h2]
    blk_point [iblk, idx t]

theorem sum_tok (f : Fin 2048 → EReal) : ∑ p : Fin cfg2.N, ∑ r : Fin 256, f (tok p r) = ∑ t : Fin 2048, f t :=
  Fin.sum_mul_add_congr (fun _ _ _ => rfl) (by rw [show cfg2.N = 8 from N_2])

theorem at6 (t : Fin cfg2.N) (r : Fin 256) (d : Fin 1024) (G : FVec Ideal S2048x1024 .bf16) :
    G (ix2 (tok t r) d) = G ((win2_6.blk t).view.emb (ix2 r d)) := by
  blk_ext [idx t]
  all_goals rfl

theorem at7 (t : Fin cfg2.N) (r : Fin 256) (d : Fin 128) (G : FVec Ideal S2048x128 .f32) :
    G (ix2 (tok t r) d) = G ((win2_7.blk t).view.emb (ix2 r d)) := by
  blk_ext [idx t]
  all_goals rfl

theorem final6 (c : Dev nD) : (dats V 0 c).arrAt 6 cfg2.N
    = (fun y => nrm (fun d => h2 (V c main_v12) (V c main_v0) (V c main_v14) (y 0) d) (V c main_v15) (y 1) : FVec Ideal S2048x1024 .bf16) := by
  refine (dats V 0 c).arrAt_eq_of_covers 6 _ (by decide +kernel) fun t hf y => ?_
  blk_simp
  rw [after0_6]
  obtain ⟨r, d, rfl⟩ : ∃ (r : Fin 256) (d : Fin 1024), y = ix2 r d := ⟨y 0, y 1, eq_ix2 y⟩
  by_cases h0 : t.val % 8 = 0
  · rw [outsAt0_A V c t h0]
    unfold tupA
    frame_out
    exact (row3 V c t r d).trans (at6 t r d fun y => nrm (fun d => h2 (V c main_v12) (V c main_v0) (V c main_v14) (y 0) d) (V c main_v15) (y 1))
  · rw [outsAt0_B V c t h0]
    unfold tupB
    frame_out
    exact (row3 V c t r d).trans (at6 t r d fun y => nrm (fun d => h2 (V c main_v12) (V c main_v0) (V c main_v14) (y 0) d) (V c main_v15) (y 1))

/-- The combining weights on the lanes. -/
def comb7 (c : Dev nD) (i j : Fin 2048 → Fin 8) : FVec Ideal S2048x128 .f32 :=
  fun y => RouterMath.comb (RouterMath.soft (tl V c (y 0))) (i (y 0)) (j (y 0)) (y 1).val

section
variable (c : Dev nD) (i j : Fin 2048 → Fin 8) (hT : ∀ t, RouterMath.Top (RouterMath.soft (tl V c t)) (i t) (j t))
include hT

theorem final7 : (dats V 0 c).arrAt 7 cfg2.N = comb7 V c i j := by
  refine (dats V 0 c).arrAt_eq_of_covers 7 _ (by decide +kernel) fun t hf y => ?_
  blk_simp
  rw [after0_7]
  obtain ⟨r, d, rfl⟩ : ∃ (r : Fin 256) (d : Fin 128), y = ix2 r d := ⟨y 0, y 1, eq_ix2 y⟩
  have key := (pay15_apply (b31 V c t) (b34 V c t) r _ (b31_apply V c t r) (b34_apply V c t r) _ _ (hT (tok t r)) d).trans
    (at7 t r d (comb7 V c i j))
  by_cases h0 : t.val % 8 = 0
  · rw [outsAt0_A V c t h0]
    unfold tupA
    frame_out
    exact key
  · rw [outsAt0_B V c t h0]
    unfold tupB
    frame_out
    exact key

theorem final8 : (dats V 0 c).arrAt 8 cfg2.N
    = (fun y => ∑ t : Fin 2048, (RouterMath.ind (y 1).val (i t).val + RouterMath.ind (y 1).val (j t).val) : FVec Ideal S1x128 .f32) := by
  have key : ∀ (t : Fin cfg2.N) (v : FVec Ideal S1x128 .f32) (y : S1x128.Idx), k2_pay18 (F := Ideal) k2_pay5 (b31 V c t) (b34 V c t) v y
      = v y + ∑ r : Fin 256, (RouterMath.ind (y 1).val (i (tok t r)).val + RouterMath.ind (y 1).val (j (tok t r)).val) := fun t v y => by
    obtain ⟨e, rfl⟩ : ∃ (e : Fin 128), y = ix2 0 e := ⟨y 1, by rw [eq_ix2 y]; congr 1; exact Subsingleton.elim _ _⟩
    exact pay18_apply (b31 V c t) (b34 V c t) v _ (b31_apply V c t) (b34_apply V c t) _ _ (fun r => hT (tok t r)) e
  refine (dats V 0 c).arrAt_eq_of_after_last 8 t2_7 (by decide +kernel) _ fun y => ?_
  blk_simp
  obtain ⟨e, rfl⟩ : ∃ (e : Fin 128), y = ix2 0 e := ⟨y 1, by rw [eq_ix2 y]; congr 1; exact Subsingleton.elim _ _⟩
  rw [after0_8, Pipeline.eq_sum_fin_of_reset_step_apply_last (fun n h => (outsAt0 V c n h).2.2.2.1) 8 (fun _ => 0)
    (fun t y => ∑ r : Fin 256, (RouterMath.ind (y 1).val (i (tok t r)).val + RouterMath.ind (y 1).val (j (tok t r)).val))
    (fun t h y => ?_) (fun t h y => ?_) (le_of_eq N_2) t2_7 rfl (ix2 0 e), zero_add]
  · exact sum_tok (fun t => RouterMath.ind e.val (i t).val + RouterMath.ind e.val (j t).val)
  · rw [outsAt0_A V c t h]
    unfold tupA
    frame_out
    refine (key t _ y).trans ?_
    exact congrArg (· + _) (by pointwise [k2_pay16])
  · rw [outsAt0_B V c t h]
    unfold tupB
    frame_out
    exact key t _ y

end

theorem final9 (c : Dev nD) : (dats V 0 c).arrAt 9 cfg2.N
    = (fun y => ∑ t : Fin 2048, RouterMath.softL (RouterMath.lanes (tl V c t) ⊥) (y 1) : FVec Ideal S1x128 .f32) := by
  have key : ∀ (t : Fin cfg2.N) (v : FVec Ideal S1x128 .f32) (y : S1x128.Idx), k2_pay1 (F := Ideal) (k2_pay8 (b31 V c t) (b34 V c t)) v y
      = v y + ∑ r : Fin 256, RouterMath.softL (RouterMath.lanes (tl V c (tok t r)) ⊥) (y 1) := fun t v y => by
    obtain ⟨e, rfl⟩ : ∃ (e : Fin 128), y = ix2 0 e := ⟨y 1, by rw [eq_ix2 y]; congr 1; exact Subsingleton.elim _ _⟩
    rw [pay1_apply]
    exact congrArg (_ + ·) (Finset.sum_congr rfl fun r _ => pay8_apply (b31 V c t) (b34 V c t) r _ (b31_apply V c t r) (b34_apply V c t r) e)
  refine (dats V 0 c).arrAt_eq_of_after_last 9 t2_7 (by decide +kernel) _ fun y => ?_
  blk_simp
  obtain ⟨e, rfl⟩ : ∃ (e : Fin 128), y = ix2 0 e := ⟨y 1, by rw [eq_ix2 y]; congr 1; exact Subsingleton.elim _ _⟩
  rw [after0_9, Pipeline.eq_sum_fin_of_reset_step_apply_last (fun n h => (outsAt0 V c n h).2.2.2.2) 8 (fun _ => 0)
    (fun t y => ∑ r : Fin 256, RouterMath.softL (RouterMath.lanes (tl V c (tok t r)) ⊥) (y 1))
    (fun t h y => ?_) (fun t h y => ?_) (le_of_eq N_2) t2_7 rfl (ix2 0 e), zero_add]
  · exact sum_tok (fun t => RouterMath.softL (RouterMath.lanes (tl V c t) ⊥) e)
  · rw [outsAt0_A V c t h]
    unfold tupA
    frame_out
    refine (key t _ y).trans ?_
    exact congrArg (· + _) (by pointwise [k2_pay17])
  · rw [outsAt0_B V c t h]
    unfold tupB
    frame_out
    exact key t _ y

end Cert.KernelIdeal.R
-- ==== Proof.AttnMath.lean ====
/-
  Stick-breaking attention over the reals: the weights in the base-two form, block sums of the log terms, and the two
  spellings of the log terms and of the weights.
-/
module

public import Idealize.ShloMosaic.PureOps.Ideal.Laws

@[expose] public section

noncomputable section

namespace Cert.AttnMath

open Idealize.ShloMosaic

/-- The base-two logarithm of one minus the stick fraction, at a real score. -/
def lor (z : ℝ) : ℝ := -(Real.log (1 + Real.rpow 2 z) * (Real.log 2)⁻¹)

theorem log2_pos : 0 < Real.log 2 := Real.log_pos one_lt_two

theorem rpow_pos (x : ℝ) : 0 < Real.rpow 2 x := Real.rpow_pos_of_pos two_pos x

theorem log_of_pos (r : ℝ) (h : 0 < r) : Ideal.log (r : EReal) = (Real.log r : EReal) := by
  show (if r ≤ 0 then (⊥ : EReal) else (Real.log r : EReal)) = _
  rw [if_neg (not_le.mpr h)]

/-- The softplus form: the sign split avoids a large power. -/
theorem lo_split (z : ℝ) : lor z = min (0 - z) 0 - Real.log (1 + Real.rpow 2 (0 - max z (-z))) * (Real.log 2)⁻¹ := by
  have h2 := log2_pos
  unfold lor
  rcases le_total 0 z with h | h
  · rw [min_eq_left (by linarith), max_eq_left (by linarith)]
    have e : 1 + Real.rpow 2 z = Real.rpow 2 z * (1 + Real.rpow 2 (0 - z)) := by
      have : Real.rpow 2 z * Real.rpow 2 (0 - z) = 1 := by
        show (2:ℝ) ^ z * (2:ℝ) ^ (0 - z) = 1
        rw [← Real.rpow_add two_pos]; norm_num
      rw [mul_add, this]; ring
    rw [e, Real.log_mul (rpow_pos _).ne' (by have := rpow_pos (0 - z); linarith)]
    have e2 : Real.log (Real.rpow 2 z) = z * Real.log 2 := Real.log_rpow two_pos z
    rw [e2]
    field_simp
    ring
  · rw [min_eq_right (by linarith), max_eq_right (by linarith)]
    simp

theorem max_coe (x y : ℝ) : max (x : EReal) (y : EReal) = ((max x y : ℝ) : EReal) := (EReal.coe_strictMono.monotone.map_max (a := x) (b := y)).symm
theorem min_coe (x y : ℝ) : min (x : EReal) (y : EReal) = ((min x y : ℝ) : EReal) := (EReal.coe_strictMono.monotone.map_min (a := x) (b := y)).symm
theorem one_coe : (1 : EReal) = ((1 : ℝ) : EReal) := rfl
theorem zero_coe : (0 : EReal) = ((0 : ℝ) : EReal) := rfl

/-- The base-two logarithm of one minus the stick fraction. -/
def lo (z : EReal) : EReal := min (0 - z) 0 - Ideal.log (1 + Ideal.exp2 (0 - max z (-z))) * (((Real.log 2)⁻¹ : ℝ) : EReal)

theorem lo_coe (z : ℝ) : lo (z : EReal) = (lor z : EReal) := by
  unfold lo
  rw [lo_split]
  rw [← EReal.coe_neg, max_coe, zero_coe, one_coe, ← EReal.coe_sub, ← EReal.coe_sub, Ideal.exp2_coe, ← EReal.coe_add,
    log_of_pos _ (by have := rpow_pos (0 - max z (-z)); linarith), min_coe, ← EReal.coe_mul, ← EReal.coe_sub]

theorem exp2_bot : Ideal.exp2 ⊥ = 0 := rfl
theorem exp_bot : Ideal.exp ⊥ = 0 := rfl
theorem exp_top : Ideal.exp ⊤ = ⊤ := rfl
theorem log_top : Ideal.log ⊤ = ⊤ := rfl
theorem log_one : Ideal.log 1 = 0 := by rw [one_coe, log_of_pos _ one_pos, Real.log_one]; rfl

theorem lo_top : lo ⊤ = ⊥ := by
  unfold lo
  rw [max_eq_left le_top, show (0 : EReal) - ⊤ = ⊥ from rfl, exp2_bot, add_zero, log_one, zero_mul, min_eq_left bot_le]
  rfl
theorem lo_bot : lo ⊥ = 0 := by
  unfold lo
  rw [max_eq_right bot_le, show -(⊥ : EReal) = ⊤ from rfl, show (0 : EReal) - ⊤ = ⊥ from rfl, exp2_bot, add_zero, log_one, zero_mul, show (0 : EReal) - ⊥ = ⊤ from rfl, min_eq_right le_top]
  rw [zero_coe, ← EReal.coe_sub, sub_zero]

theorem lo_ne_top (z : EReal) : lo z ≠ ⊤ := by
  induction z with
  | bot => rw [lo_bot]; exact EReal.zero_ne_top
  | top => rw [lo_top]; exact bot_ne_top
  | coe z => rw [lo_coe]; exact EReal.coe_ne_top _

/-- The masked log term of query `i` at key `j`. -/
def M (z : ℕ → ℕ → EReal) (i j : ℕ) : EReal := if j < i then lo (z i j) else 0
/-- Their sum from key `J` on. -/
def T (z : ℕ → ℕ → EReal) (i J : ℕ) : EReal := ∑ j ∈ Finset.Ico J 2048, M z i j
/-- The attention weight. -/
def A (z : ℕ → ℕ → EReal) (i j : ℕ) : EReal := if j < i then Ideal.exp2 (z i j + T z i j) else 0
/-- The weighted sum of the values from key `J` on. -/
def U (z : ℕ → ℕ → EReal) (v : ℕ → EReal) (i J : ℕ) : EReal := ∑ j ∈ Finset.Ico J 2048, A z i j * v j

theorem M_ne_top (z : ℕ → ℕ → EReal) (i j : ℕ) : M z i j ≠ ⊤ := by
  unfold M
  split
  · exact lo_ne_top _
  · exact EReal.zero_ne_top

theorem T_ne_top (z : ℕ → ℕ → EReal) (i J : ℕ) : T z i J ≠ ⊤ := by
  unfold T
  generalize Finset.Ico J 2048 = s
  classical
  induction s using Finset.induction_on with
  | empty => exact EReal.zero_ne_top
  | insert a s ha ih => rw [Finset.sum_insert ha]; exact EReal.add_ne_top (M_ne_top _ _ _) ih

theorem sum_block {α : Type} [AddCommMonoid α] (f : ℕ → α) (B : ℕ) : ∑ x : Fin 256, f (256 * B + x.val) = ∑ k ∈ Finset.Ico (256 * B) (256 * (B + 1)), f k := by
  rw [Fin.sum_univ_eq_sum_range (fun x => f (256 * B + x)) 256, Finset.sum_Ico_eq_sum_range]
  congr 2
  omega

theorem sum_suffix (f : ℕ → EReal) (B : ℕ) (j : ℕ) (hj : j < 256) : ∑ x : Fin 256, (if j ≤ x.val then f (256 * B + x.val) else 0)
    = ∑ k ∈ Finset.Ico (256 * B + j) (256 * (B + 1)), f k := by
  have h : ∀ x : Fin 256, (if j ≤ x.val then f (256 * B + x.val) else 0) = (fun k => if 256 * B + j ≤ k then f k else 0) (256 * B + x.val) := fun x => by
    dsimp only
    by_cases h : j ≤ x.val
    · rw [if_pos h, if_pos (by omega)]
    · rw [if_neg h, if_neg (by omega)]
  rw [Finset.sum_congr rfl fun x _ => h x, sum_block (fun k => if 256 * B + j ≤ k then f k else 0) B, ← Finset.sum_filter]
  refine Finset.sum_congr (Finset.ext fun k => ?_) fun _ _ => rfl
  simp only [Finset.mem_filter, Finset.mem_Ico]
  omega

theorem T_step (z : ℕ → ℕ → EReal) (i B j : ℕ) (hB : B < 8) (hj : j < 256) :
    T z i (256 * B + j) = (∑ x : Fin 256, if j ≤ x.val then M z i (256 * B + x.val) else 0) + T z i (256 * (B + 1)) := by
  rw [sum_suffix (M z i) B j hj]
  unfold T
  rw [Finset.sum_Ico_consecutive _ (by omega) (by omega)]

theorem T_zero (z : ℕ → ℕ → EReal) (i J : ℕ) (h : i ≤ J) : T z i J = 0 :=
  Finset.sum_eq_zero fun j hj => if_neg (by have := (Finset.mem_Ico.mp hj).1; omega)

theorem U_zero (z : ℕ → ℕ → EReal) (v : ℕ → EReal) (i J : ℕ) (h : i ≤ J) : U z v i J = 0 :=
  Finset.sum_eq_zero fun j hj => by
    rw [show A z i j = 0 from if_neg (by have := (Finset.mem_Ico.mp hj).1; omega), zero_mul]

theorem U_step (z : ℕ → ℕ → EReal) (v : ℕ → EReal) (i B : ℕ) (hB : B < 8) :
    U z v i (256 * B) = U z v i (256 * (B + 1)) + ∑ x : Fin 256, A z i (256 * B + x.val) * v (256 * B + x.val) := by
  rw [sum_block (fun k => A z i k * v k) B, add_comm]
  unfold U
  rw [Finset.sum_Ico_consecutive _ (by omega) (by omega)]

theorem rpow_exp (x : ℝ) : Real.rpow 2 x = Real.exp (x * Real.log 2) := by
  show (2:ℝ) ^ x = _
  rw [Real.rpow_def_of_pos two_pos, mul_comm]

/-- The natural logarithm of two. -/
def c2 : EReal := (Real.log 2 : EReal)

theorem top_c2 : (⊤ : EReal) * c2 = ⊤ := EReal.top_mul_coe_of_pos log2_pos
theorem bot_c2 : (⊥ : EReal) * c2 = ⊥ := EReal.bot_mul_coe_of_pos log2_pos

/-- The reference's log term. -/
theorem lo_ref (z : EReal) : -Ideal.log1p (Ideal.exp (z * c2)) = lo z * c2 := by
  induction z with
  | bot => rw [bot_c2, lo_bot, zero_mul, exp_bot]; unfold Ideal.log1p; rw [add_zero, log_one, neg_zero]
  | top => rw [top_c2, lo_top, bot_c2, exp_top]; rfl
  | coe z =>
    have h2 := log2_pos
    have hp := Real.exp_pos (z * Real.log 2)
    unfold c2
    rw [lo_coe, ← EReal.coe_mul, ← EReal.coe_mul, Ideal.exp_coe]
    unfold Ideal.log1p
    rw [one_coe, ← EReal.coe_add, log_of_pos _ (by linarith), ← EReal.coe_neg]
    congr 1
    unfold lor
    rw [rpow_exp]
    field_simp

/-- The other log term. -/
theorem lb_ref (z : ℝ) : -Ideal.log1p (Ideal.exp (-((z : EReal) * c2))) = (((z + lor z) * Real.log 2 : ℝ) : EReal) := by
  have h2 := log2_pos
  have hp := Real.exp_pos (z * Real.log 2)
  have hn := Real.exp_pos (-(z * Real.log 2))
  unfold c2
  rw [← EReal.coe_mul, ← EReal.coe_neg, Ideal.exp_coe]
  unfold Ideal.log1p
  rw [one_coe, ← EReal.coe_add, log_of_pos _ (by linarith), ← EReal.coe_neg]
  congr 1
  unfold lor
  rw [rpow_exp]
  have e : 1 + Real.exp (z * Real.log 2) = Real.exp (z * Real.log 2) * (1 + Real.exp (-(z * Real.log 2))) := by
    rw [mul_add, ← Real.exp_add]; simp; ring
  rw [e, Real.log_mul hp.ne' (by linarith), Real.log_exp]
  field_simp
  ring

/-- The reference's weight at a key before the query. -/
theorem weight_ref (z t : EReal) (ht : t ≠ ⊤) (hz : z = ⊤ → t = ⊥) :
    Ideal.exp (-Ideal.log1p (Ideal.exp (-(z * c2))) + (t * c2 - lo z * c2)) = Ideal.exp2 (z + t) := by
  induction z with
  | bot =>
    rw [bot_c2, show -(⊥ : EReal) = ⊤ from rfl, exp_top, EReal.bot_add, exp2_bot, show -Ideal.log1p ⊤ = ⊥ from rfl, EReal.bot_add]
    rfl
  | top =>
    rw [hz rfl, bot_c2, EReal.bot_sub, EReal.add_bot, EReal.add_bot]
    rfl
  | coe z =>
    induction t with
    | top => exact absurd rfl ht
    | bot =>
      rw [bot_c2, EReal.bot_sub, EReal.add_bot, EReal.add_bot]
      rfl
    | coe t =>
      rw [lb_ref, lo_coe]
      unfold c2
      rw [← EReal.coe_mul, ← EReal.coe_mul, ← EReal.coe_sub, ← EReal.coe_add, ← EReal.coe_add, Ideal.exp_coe, Ideal.exp2_coe, rpow_exp]
      congr 2
      ring

theorem sum_c2 {ι : Type} (s : Finset ι) (f : ι → EReal) : ∑ x ∈ s, f x * c2 = (∑ x ∈ s, f x) * c2 := by
  classical
  induction s using Finset.induction_on with
  | empty => simp
  | insert a s ha ih =>
    rw [Finset.sum_insert ha, Finset.sum_insert ha, ih, mul_comm _ c2, mul_comm _ c2, mul_comm _ c2]
    exact (EReal.left_distrib_of_nonneg_of_ne_top (EReal.coe_nonneg.mpr log2_pos.le) (EReal.coe_ne_top _) _ _).symm

theorem T_head (z : ℕ → ℕ → EReal) (i j : ℕ) (hj : j < 2048) : T z i j = M z i j + T z i (j + 1) := by
  unfold T
  exact (Finset.sum_eq_sum_Ico_succ_bot hj _)

/-- The reference's weight. -/
theorem A_ref (z : ℕ → ℕ → EReal) (i j : ℕ) (hj : j < 2048) :
    Ideal.exp (-Ideal.log1p (Ideal.exp (-(z i j * c2))) + (T z i j * c2 - M z i j * c2)) * (if j < i then 1 else 0 : EReal) = A z i j := by
  unfold A
  by_cases h : j < i
  · rw [if_pos h, if_pos h, mul_one, show M z i j = lo (z i j) from if_pos h]
    refine weight_ref _ _ (T_ne_top _ _ _) fun hz => ?_
    rw [T_head z i j hj, show M z i j = lo (z i j) from if_pos h, hz, lo_top, EReal.bot_add]
  · rw [if_neg h, if_neg h, mul_zero]

/-- The two sums of a masked log term with what its rounding leaves: nothing. -/
theorem resid (m : EReal) (hm : m ≠ ⊤) (p : Prop) [Decidable p] : m * (if p then 1 else 0 : EReal) + (m - m) * (if p then 1 else 0 : EReal) = if p then m else 0 := by
  by_cases h : p
  · rw [if_pos h, if_pos h, mul_one, mul_one]
    induction m with
    | top => exact absurd rfl hm
    | bot => rfl
    | coe m => rw [← EReal.coe_sub, sub_self, EReal.coe_zero, add_zero]
  · rw [if_neg h, if_neg h, mul_zero, mul_zero, add_zero]

end Cert.AttnMath

end
-- ==== Proof.KABlk.lean ====
/-
  What one step of the attention call does to a query row, over the extended reals: the running sum of log terms and
  the running weighted sum pass from the end of a key block to its start.
-/
module

public import proofs.«01_k».proof.Proof.KARun
public import proofs.«01_k».proof.Proof.AttnMath

@[expose] public section

set_option maxRecDepth 16384

noncomputable section

namespace Cert.KernelIdeal.A

open Cert.KernelIdeal Cert.KernelIdeal.Gen Cert.AttnMath
open Idealize.ShloMosaic Idealize.ShloMosaic.TcCoe Idealize.SL.Sem
open Idealize.ShloMosaic.Pipeline (Dat)

theorem inv_ln2 : Named.named (F := Ideal) Cert.KernelIdeal.κ "inv_ln2" (φ := .f32) 0x3FB8AA3B#32 = (((Real.log 2)⁻¹ : ℝ) : EReal) :=
  IdealRules.named_const.ideal_named_scalar _ _ _ _ rfl

/-- The triangle of ones. -/
theorem tri (x j : Fin 256) : (FloatOps.sitofp (F := Ideal) FTy.f32 (BitVec.setWidth 32 (IntOp.cmpi .sge (BitVec.ofNat 32 x.val) (BitVec.ofNat 32 j.val))) : EReal)
    = (if j.val ≤ x.val then 1 else 0 : EReal) := by
  have h1 := x.isLt
  have h2 := j.isLt
  have e : IntOp.cmpi .sge (BitVec.ofNat 32 x.val) (BitVec.ofNat 32 j.val) = BitVec.ofBool (decide (j.val ≤ x.val)) := by
    simp (disch := omega) only [hlo_ix]
  rw [e]
  by_cases h : j.val ≤ x.val <;> simp [h, FloatOps.sitofp]

theorem mask (q a : ℕ) (hq : q < 2) (ha : a < 8) (r : Fin 1024) (x : Fin 256) :
    k1_pay4 (F := Ideal) (BitVec.ofNat 32 q) (BitVec.ofNat 32 a) (ix2 r x) = BitVec.ofBool (decide (256 * a + x.val < 1024 * q + r.val)) := by
  have h1 := x.isLt
  have h2 := r.isLt
  pointwise [k1_pay4]
  have e1 : IntOp.addi (Scalar.muli (BitVec.ofNat 32 a) 256#32) (BitVec.ofNat 32 x.val) = BitVec.ofNat 32 (256 * a + x.val) := by
    show BitVec.ofNat 32 a * BitVec.ofNat 32 256 + _ = _
    rw [← BitVec.ofNat_mul, ← BitVec.ofNat_add, mul_comm]
  have e2 : IntOp.addi (Scalar.muli (BitVec.ofNat 32 q) 1024#32) (BitVec.ofNat 32 r.val) = BitVec.ofNat 32 (1024 * q + r.val) := by
    show BitVec.ofNat 32 q * BitVec.ofNat 32 1024 + _ = _
    rw [← BitVec.ofNat_mul, ← BitVec.ofNat_add, mul_comm]
  rw [e1, e2]
  word_cmp

theorem p9 (xq : Vec Ideal S1x1024x64 .f32) (xk : Vec Ideal S1x256x64 .f32) (r : Fin 1024) (j : Fin 256) :
    k1_pay9 (F := Ideal) xq xk (ix2 r j) = ∑ d : Fin 64, (show EReal from xq (ix3 0 r d)) * (show EReal from xk (ix3 0 j d)) := by
  pointwise [k1_pay9]

theorem p8 (v : Vec Ideal S1x256x64 .bf16) (r : Fin 256) (j : Fin 64) : k1_pay8 (F := Ideal) v (ix2 r j) = v (ix3 0 r j) := by
  pointwise [k1_pay8]

theorem p10 (xq : Vec Ideal S1x1024x64 .f32) (xk : Vec Ideal S1x256x64 .f32) (r : Fin 1024) (j : Fin 256) (s : EReal)
    (h : k1_pay9 (F := Ideal) xq xk (ix2 r j) = s) : k1_pay10 (F := Ideal) xq xk (ix2 r j) = lo s := by
  pointwise [k1_pay10]
  rw [h, inv_ln2]
  rfl

theorem p1 (v : FVec Ideal S1024x256 .f32) (r : Fin 1024) (f : Fin 256 → EReal) (hv : ∀ x, v (ix2 r x) = f x) (j : Fin 256) :
    k1_pay1 (F := Ideal) v (ix2 r j) = ∑ x : Fin 256, if j.val ≤ x.val then f x else 0 := by
  pointwise [k1_pay1]
  refine Finset.sum_congr rfl fun x _ => ?_
  rw [tri, hv, mul_ite, mul_one, mul_zero]

theorem p5 (q a : ℕ) (hq : q < 2) (ha : a < 8) (v : FVec Ideal S1024x256 .f32) (r : Fin 1024) (f : Fin 256 → EReal) (hf : ∀ x, f x ≠ ⊤) (hv : ∀ x, v (ix2 r x) = f x) (j : Fin 256) :
    k1_pay5 (F := Ideal) (BitVec.ofNat 32 q) (BitVec.ofNat 32 a) v (ix2 r j)
      = ∑ x : Fin 256, if j.val ≤ x.val then (if 256 * a + x.val < 1024 * q + r.val then f x else 0) else 0 := by
  pointwise [k1_pay5]
  simp only [mask q a hq ha, hv, tri]
  rw [← Finset.sum_add_distrib]
  refine Finset.sum_congr rfl fun x _ => ?_
  by_cases h : 256 * a + x.val < 1024 * q + r.val
  · simp only [h, decide_true, if_true]
    exact resid _ (hf x) _
  · simp only [h, decide_false, if_false]
    refine Eq.trans ?_ (resid 0 EReal.zero_ne_top (j.val ≤ x.val))
    rw [zero_mul]
    rfl

/-- The scores of a query row against a key block, as reals. -/
def IsScore (z : ℕ → ℕ → EReal) (q a : ℕ) (r : Fin 1024) (xq : Vec Ideal S1x1024x64 .f32) (xk : Vec Ideal S1x256x64 .f32) : Prop :=
  ∀ x : Fin 256, k1_pay9 (F := Ideal) xq xk (ix2 r x) = z (1024 * q + r.val) (256 * a + x.val)

variable {z : ℕ → ℕ → EReal} {q a : ℕ} {r : Fin 1024} {xq : Vec Ideal S1x1024x64 .f32} {xk : Vec Ideal S1x256x64 .f32}
  {xv : Vec Ideal S1x256x64 .bf16} {v : ℕ → EReal} {y7 : Vec Ideal S1x1024x64 .f32} {y8 : Vec Ideal S1024x128 .f32}

theorem l0 (v : Vec Ideal S1024x128 .f32) (r : Fin 1024) : lane0 (F := Ideal) v (ix2 r 0) = v (ix2 r 0) := by
  pointwise [lane0]

theorem diag_carry (hq : q < 2) (ha : a < 8) (hs : IsScore z q a r xq xk)
    (h8 : ∀ l, y8 (ix2 r l) = T z (1024 * q + r.val) (256 * (a + 1))) (l : Fin 128) :
    diagC (F := Ideal) (BitVec.ofNat 32 q) (BitVec.ofNat 32 a) xq xk y8 (ix2 r l) = T z (1024 * q + r.val) (256 * a) := by
  have e : diagC (F := Ideal) (BitVec.ofNat 32 q) (BitVec.ofNat 32 a) xq xk y8 (ix2 r l)
      = (show EReal from y8 (ix2 r l)) + (show EReal from k1_pay5 (F := Ideal) (BitVec.ofNat 32 q) (BitVec.ofNat 32 a) (k1_pay10 (F := Ideal) xq xk) (ix2 r 0)) := by
    pointwise [diagC, k1_pay13, k1_pay7]
  rw [e, h8, p5 q a hq ha _ r _ (fun x => lo_ne_top _) (fun x => p10 xq xk r x _ (hs x))]
  have t : T z (1024 * q + r.val) (256 * a) = _ := T_step z (1024 * q + r.val) a 0 ha (by omega)
  rw [t]
  refine (add_comm (G := EReal) _ _).trans (congrArg₂ (fun x y : EReal => x + y) ?_ rfl)
  rfl

theorem off_carry (ha : a < 8) (hb : 256 * (a + 1) ≤ 1024 * q + r.val) (hs : IsScore z q a r xq xk)
    (h8 : ∀ l, y8 (ix2 r l) = T z (1024 * q + r.val) (256 * (a + 1))) (l : Fin 128) :
    offC (F := Ideal) xq xk y8 (ix2 r l) = T z (1024 * q + r.val) (256 * a) := by
  have e : offC (F := Ideal) xq xk y8 (ix2 r l)
      = (show EReal from y8 (ix2 r l)) + (show EReal from k1_pay1 (F := Ideal) (k1_pay10 (F := Ideal) xq xk) (ix2 r 0)) := by
    pointwise [offC, k1_pay3]
  rw [e, h8, p1 _ r _ (fun x => p10 xq xk r x _ (hs x))]
  have t : T z (1024 * q + r.val) (256 * a) = _ := T_step z (1024 * q + r.val) a 0 ha (by omega)
  rw [t]
  refine (add_comm (G := EReal) _ _).trans (congrArg₂ (fun x y : EReal => x + y) ?_ rfl)
  refine Finset.sum_congr rfl fun x _ => ?_
  have : M z (1024 * q + r.val) (256 * a + x.val) = lo (z (1024 * q + r.val) (256 * a + x.val)) := if_pos (by have := x.isLt; omega)
  rw [this]
  rfl

theorem diag_out (hq : q < 2) (ha : a < 8) (hs : IsScore z q a r xq xk)
    (h8 : ∀ l, y8 (ix2 r l) = T z (1024 * q + r.val) (256 * (a + 1))) (d : Fin 64)
    (h7 : y7 (ix3 0 r d) = U z v (1024 * q + r.val) (256 * (a + 1))) (hv : ∀ x : Fin 256, xv (ix3 0 x d) = v (256 * a + x.val)) :
    diagO (F := Ideal) (BitVec.ofNat 32 q) (BitVec.ofNat 32 a) xq xk xv y7 y8 (ix3 0 r d) = U z v (1024 * q + r.val) (256 * a) := by
  have e : diagO (F := Ideal) (BitVec.ofNat 32 q) (BitVec.ofNat 32 a) xq xk xv y7 y8 (ix3 0 r d)
      = (show EReal from y7 (ix3 0 r d)) + ∑ x : Fin 256, Scalar.select (k1_pay4 (F := Ideal) (BitVec.ofNat 32 q) (BitVec.ofNat 32 a) (ix2 r x))
        (FloatOps.exp2 (F := Ideal) (φ := .f32) ((show EReal from k1_pay9 (F := Ideal) xq xk (ix2 r x)) + (show EReal from k1_pay5 (F := Ideal) (BitVec.ofNat 32 q) (BitVec.ofNat 32 a) (k1_pay10 (F := Ideal) xq xk) (ix2 r x))
          + (show EReal from lane0 (F := Ideal) y8 (ix2 r 0))) * (show EReal from k1_pay8 (F := Ideal) xv (ix2 x d))) (0 : EReal) := by
    pointwise [diagO, k1_pay6]
  rw [e, h7, U_step z v _ a ha]
  congr 1
  refine Finset.sum_congr rfl fun x _ => ?_
  rw [mask q a hq ha, hs x, p5 q a hq ha _ r _ (fun x => lo_ne_top _) (fun x => p10 xq xk r x _ (hs x)), l0, h8, p8, hv]
  have t := T_step z (1024 * q + r.val) a x.val ha x.isLt
  by_cases h : 256 * a + x.val < 1024 * q + r.val
  · rw [show (A z (1024 * q + r.val) (256 * a + x.val)) = _ from if_pos h, t]
    rw [decide_eq_true h, ← add_assoc]
    rfl
  · rw [show (A z (1024 * q + r.val) (256 * a + x.val)) = _ from if_neg h, decide_eq_false h, zero_mul]
    rfl

theorem off_out (ha : a < 8) (hb : 256 * (a + 1) ≤ 1024 * q + r.val) (hs : IsScore z q a r xq xk)
    (h8 : ∀ l, y8 (ix2 r l) = T z (1024 * q + r.val) (256 * (a + 1))) (d : Fin 64)
    (h7 : y7 (ix3 0 r d) = U z v (1024 * q + r.val) (256 * (a + 1))) (hv : ∀ x : Fin 256, xv (ix3 0 x d) = v (256 * a + x.val)) :
    offO (F := Ideal) xq xk xv y7 y8 (ix3 0 r d) = U z v (1024 * q + r.val) (256 * a) := by
  have e : offO (F := Ideal) xq xk xv y7 y8 (ix3 0 r d)
      = (show EReal from y7 (ix3 0 r d)) + ∑ x : Fin 256,
        (FloatOps.exp2 (F := Ideal) (φ := .f32) ((show EReal from k1_pay9 (F := Ideal) xq xk (ix2 r x)) + (show EReal from k1_pay1 (F := Ideal) (k1_pay10 (F := Ideal) xq xk) (ix2 r x))
          + (show EReal from lane0 (F := Ideal) y8 (ix2 r 0))) * (show EReal from k1_pay8 (F := Ideal) xv (ix2 x d))) := by
    pointwise [offO, k1_pay2]
  rw [e, h7, U_step z v _ a ha]
  congr 1
  refine Finset.sum_congr rfl fun x _ => ?_
  have hm : ∀ x : Fin 256, 256 * a + x.val < 1024 * q + r.val := fun x => by have := x.isLt; omega
  rw [hs x, p1 _ r _ (fun x => p10 xq xk r x _ (hs x)), l0, h8, p8, hv]
  have t := T_step z (1024 * q + r.val) a x.val ha x.isLt
  rw [show (A z (1024 * q + r.val) (256 * a + x.val)) = _ from if_pos (hm x), t]
  simp only [show ∀ x : Fin 256, M z (1024 * q + r.val) (256 * a + x.val) = lo (z (1024 * q + r.val) (256 * a + x.val)) from fun x => if_pos (hm x)]
  rw [← add_assoc]
  rfl

end Cert.KernelIdeal.A

end
-- ==== Proof.KAVal.lean ====
/-
  The attention call's result array over the extended reals: the stick-breaking weights applied to the values.
-/
module

public import proofs.«01_k».proof.Proof.KABlk

@[expose] public section

set_option maxRecDepth 16384

noncomputable section

namespace Cert.KernelIdeal.A

open Cert.KernelIdeal Cert.KernelIdeal.Gen Cert.AttnMath
open Idealize.ShloMosaic Idealize.ShloMosaic.TcCoe Idealize.SL.Sem
open Idealize.ShloMosaic.Pipeline (Dat)

/-- The query tile and the key block of a point. -/
def qn (n : ℕ) : ℕ := if n % 12 < 4 then 0 else 1
def an (n : ℕ) : ℕ := if n % 12 < 4 then 3 - n % 12 else 11 - n % 12

theorem wq_eq : ∀ t : Fin grid1.N, wq t = BitVec.ofNat 32 (qn t.val) ∧ (wq t).toNat = qn t.val := by decide +kernel
theorem wa_eq : ∀ t : Fin grid1.N, wa t = BitVec.ofNat 32 (an t.val) ∧ (wa t).toNat = an t.val := by decide +kernel

theorem qn_lt (n : ℕ) : qn n < 2 := by unfold qn; split <;> omega
theorem an_lt (n : ℕ) : an n < 8 := by unfold an; split <;> omega

theorem ind_0 (t : Fin (cfgT (F := Ideal)).N) : ((cfgT (F := Ideal)).win 0).index t = ![t.val / 12, qn t.val, 0] := by
  have e : ((cfgT (F := Ideal)).win 0).index t = ![(grid1.coords t 0).val, (wq t).toNat, 0] := ix_0 _
  rw [e, co0, (wq_eq t).2]
theorem ind_1 (t : Fin (cfgT (F := Ideal)).N) : ((cfgT (F := Ideal)).win 1).index t = ![t.val / 12, an t.val, 0] := by
  have e : ((cfgT (F := Ideal)).win 1).index t = ![(grid1.coords t 0).val, (wa t).toNat, 0] := ix_1 _
  rw [e, co0, (wa_eq t).2]
theorem ind_2 (t : Fin (cfgT (F := Ideal)).N) : ((cfgT (F := Ideal)).win 2).index t = ![t.val / 12, an t.val, 0] := by
  have e : ((cfgT (F := Ideal)).win 2).index t = ![(grid1.coords t 0).val, (wa t).toNat, 0] := ix_2 _
  rw [e, co0, (wa_eq t).2]
theorem ind_3 (t : Fin (cfgT (F := Ideal)).N) : ((cfgT (F := Ideal)).win 3).index t = ![t.val / 12, qn t.val, 0] := by
  rw [index_3, co0, (wq_eq t).2]

variable (V : (c : Dev nD) → (b : Ref sig .tc) → Buf (Elt Ideal) ((c : Thread nD τ).loc b))

theorem t_lt (t : Fin (cfgT (F := Ideal)).N) : t.val < 192 := lt_of_lt_of_eq t.isLt N_T

/-- The head of a point, the row of a tile row, the key of a block row. -/
def hd (t : Fin (cfgT (F := Ideal)).N) : Fin 16 := ⟨t.val / 12, by have := t_lt t; omega⟩
def row (t : Fin (cfgT (F := Ideal)).N) (r : Fin 1024) : Fin 2048 := ⟨1024 * qn t.val + r.val, by have := qn_lt t.val; omega⟩
def key (t : Fin (cfgT (F := Ideal)).N) (x : Fin 256) : Fin 2048 := ⟨256 * an t.val + x.val, by have := an_lt t.val; omega⟩

theorem bq_at (c : Dev nD) (t : Fin (cfgT (F := Ideal)).N) (r : Fin 1024) (d : Fin 64) : bq V c t (ix3 0 r d) = (V c main_v5 : FVec Ideal S16x2048x64 .f32) (ix3 (hd t) (row t r) d) := by
  unfold bq
  blk_point [blkV, ind_0 t]
  · rfl
  · show _ = 1024 * qn t.val + r.val
    omega
theorem bk_at (c : Dev nD) (t : Fin (cfgT (F := Ideal)).N) (r : Fin 256) (d : Fin 64) : bk V c t (ix3 0 r d) = (V c main_v7 : FVec Ideal S16x2048x64 .f32) (ix3 (hd t) (key t r) d) := by
  unfold bk
  blk_point [blkV, ind_1 t]
  · rfl
  · show _ = 256 * an t.val + r.val
    omega
theorem bv_at (c : Dev nD) (t : Fin (cfgT (F := Ideal)).N) (r : Fin 256) (d : Fin 64) : bv V c t (ix3 0 r d) = (V c main_v9 : FVec Ideal S16x2048x64 .bf16) (ix3 (hd t) (key t r) d) := by
  unfold bv
  blk_point [blkV, ind_2 t]
  · rfl
  · show _ = 256 * an t.val + r.val
    omega

/-- The score of query `i` at key `j`. -/
def zz (Q K : FVec Ideal S16x2048x64 .f32) (h : Fin 16) (i j : ℕ) : EReal :=
  (∑ d : Fin 64, (show EReal from Q (ix3 h ⟨i % 2048, Nat.mod_lt _ (by decide)⟩ d)) * (show EReal from K (ix3 h ⟨j % 2048, Nat.mod_lt _ (by decide)⟩ d)))
/-- A value column. -/
def vv (X : FVec Ideal S16x2048x64 .bf16) (h : Fin 16) (d : Fin 64) (j : ℕ) : EReal := X (ix3 h ⟨j % 2048, Nat.mod_lt _ (by decide)⟩ d)

theorem zz_at (Q K : FVec Ideal S16x2048x64 .f32) (h : Fin 16) (i j : Fin 2048) :
    ∑ d : Fin 64, (show EReal from Q (ix3 h i d)) * (show EReal from K (ix3 h j d)) = zz Q K h i.val j.val := by
  have ei : (⟨i.val % 2048, Nat.mod_lt _ (by decide)⟩ : Fin 2048) = i := Fin.ext (Nat.mod_eq_of_lt i.isLt)
  have ej : (⟨j.val % 2048, Nat.mod_lt _ (by decide)⟩ : Fin 2048) = j := Fin.ext (Nat.mod_eq_of_lt j.isLt)
  unfold zz
  rw [ei, ej]

theorem vv_at (X : FVec Ideal S16x2048x64 .bf16) (h : Fin 16) (d : Fin 64) (j : Fin 2048) : vv X h d j.val = X (ix3 h j d) := by
  have ej : (⟨j.val % 2048, Nat.mod_lt _ (by decide)⟩ : Fin 2048) = j := Fin.ext (Nat.mod_eq_of_lt j.isLt)
  unfold vv
  rw [ej]

/-- The attention's result. -/
def attn (Q K : FVec Ideal S16x2048x64 .f32) (X : FVec Ideal S16x2048x64 .bf16) (h : Fin 16) (i : Fin 2048) (d : Fin 64) : EReal :=
  U (zz Q K h) (vv X h d) i.val 0

theorem score (c : Dev nD)
    (t : Fin (cfgT (F := Ideal)).N) (r : Fin 1024) :
    IsScore (zz (V c main_v5) (V c main_v7) (hd t)) (qn t.val) (an t.val) r (bq V c t) (bk V c t) := fun x => by
  rw [p9]
  refine Eq.trans (Finset.sum_congr rfl fun d _ => ?_) (zz_at _ _ (hd t) (row t r) (key t x))
  rw [bq_at, bk_at]

theorem z12 (r : Fin 1024) (l : Fin 128) : k1_pay12 (F := Ideal) (ix2 r l) = (0 : EReal) := by
  pointwise [k1_pay12]
theorem z11 (r : Fin 1024) (d : Fin 64) : k1_pay11 (F := Ideal) (ix3 0 r d) = (0 : EReal) := by
  pointwise [k1_pay11]

/-- What a point leaves: both running sums taken down to the start of its key block. -/
def Inv (c : Dev nD) (t : Fin (cfgT (F := Ideal)).N) : Prop :=
  ∀ r : Fin 1024, (∀ l : Fin 128, (st V c t.val t.isLt).2 (ix2 r l) = (T (zz (V c main_v5) (V c main_v7) (hd t)) (1024 * qn t.val + r.val) (256 * an t.val)))
    ∧ ∀ d : Fin 64, (st V c t.val t.isLt).1 (ix3 0 r d) = U (zz (V c main_v5) (V c main_v7) (hd t)) (vv (V c main_v9) (hd t) d) (1024 * qn t.val + r.val) (256 * an t.val)

theorem vkey (c : Dev nD) (t : Fin (cfgT (F := Ideal)).N) (d : Fin 64) (x : Fin 256) : bv V c t (ix3 0 x d) = vv (V c main_v9) (hd t) d (256 * an t.val + x.val) := by
  rw [bv_at]
  exact (vv_at _ (hd t) d (key t x)).symm

variable (c : Dev nD)

/-- A tile's first point. -/
theorem inv_first (t : Fin (cfgT (F := Ideal)).N) (h : t.val % 12 = 0 ∨ t.val % 12 = 4) : Inv V c t := fun r => by
  have hr := r.isLt
  have hT : 1024 * qn t.val + r.val ≤ 256 * (an t.val + 1) := by
    unfold qn an
    rcases h with h | h <;> rw [h] <;> simp <;> omega
  have hs := score V c t r
  have h8 : ∀ l, k1_pay12 (F := Ideal) (ix2 r l) = (T (zz (V c main_v5) (V c main_v7) (hd t)) (1024 * qn t.val + r.val) (256 * (an t.val + 1))) := fun l => by
    rw [z12, T_zero _ _ _ hT]
  rw [st_first V c t h, (wq_eq t).1, (wa_eq t).1]
  refine ⟨fun l => diag_carry (qn_lt _) (an_lt _) hs h8 l, fun d => diag_out (qn_lt _) (an_lt _) hs h8 d ?_ (vkey V c t d)⟩
  rw [z11, U_zero _ _ _ _ hT]

/-- Any other point, from the one before it. -/
theorem inv_next (s t : Fin (cfgT (F := Ideal)).N) (e : t.val = s.val + 1) (h : ¬ (t.val % 12 = 0 ∨ t.val % 12 = 4)) (hp : Inv V c s) : Inv V c t := fun r => by
  have hr := r.isLt
  have ed : hd s = hd t := Fin.ext (show s.val / 12 = t.val / 12 by omega)
  have eq : qn s.val = qn t.val := by unfold qn; split <;> split <;> omega
  have ea : an s.val = an t.val + 1 := by unfold an; split <;> split <;> omega
  have hs := score V c t r
  obtain ⟨c8, c7⟩ := hp r
  rw [ed, eq, ea] at c8 c7
  have es : s.val = t.val - 1 := by omega
  have est : st V c s.val s.isLt = st V c (t.val - 1) (Nat.lt_of_le_of_lt (Nat.sub_le _ _) t.isLt) := by
    congr
  rw [est] at c8 c7
  by_cases h8 : t.val % 12 < 8
  · rw [st_diag V c t h h8, (wq_eq t).1, (wa_eq t).1]
    exact ⟨fun l => diag_carry (qn_lt _) (an_lt _) hs c8 l, fun d => diag_out (qn_lt _) (an_lt _) hs c8 d (c7 d) (vkey V c t d)⟩
  · rw [st_off V c t h8]
    have hb : 256 * (an t.val + 1) ≤ 1024 * qn t.val + r.val := by
      unfold qn an; rw [if_neg (by omega), if_neg (by omega)]; omega
    exact ⟨fun l => off_carry (an_lt _) hb hs c8 l, fun d => off_out (an_lt _) hb hs c8 d (c7 d) (vkey V c t d)⟩

theorem inv_all :
    ∀ (n : ℕ) (h : n < (cfgT (F := Ideal)).N), Inv V c ⟨n, h⟩ := fun n => by
  induction n with
  | zero => exact fun h => inv_first V c ⟨0, h⟩ (.inl rfl)
  | succ n ih =>
    intro h
    by_cases h0 : (n + 1) % 12 = 0 ∨ (n + 1) % 12 = 4
    · exact inv_first V c ⟨n + 1, h⟩ h0
    · have hp := ih (Nat.lt_of_succ_lt h)
      exact inv_next V c ⟨n, Nat.lt_of_succ_lt h⟩ ⟨n + 1, h⟩ rfl h0 hp

/-- The result array. -/
theorem final : (dat V c).arrAt 3 (cfgT (F := Ideal)).N
    = (fun y => attn (V c main_v5) (V c main_v7) (V c main_v9) (y 0) (y 1) (y 2) : FVec Ideal S16x2048x64 .f32) := by
  refine (dat V c).arrAt_eq_of_covers 3 _ (by decide +kernel) fun t hf y => ?_
  have hz : an t.val = 0 := by
    have := (flush_3 t).mp hf
    unfold an; split <;> omega
  blk_simp
  rw [after_3]
  obtain ⟨o, r, d, rfl⟩ : ∃ (o : Fin 1) (r : Fin 1024) (d : Fin 64), y = ix3 o r d := ⟨y 0, y 1, y 2, eq_ix3 y⟩
  obtain rfl : o = 0 := Fin.ext (by omega)
  have hi := ((inv_all V c t.val t.isLt) r).2 d
  rw [hz] at hi
  refine hi.trans ?_
  have e : ((((cfgT (F := Ideal)).win 3).blk t).view.emb (ix3 0 r d) : S16x2048x64.Idx) = ix3 (hd t) (row t r) d := by
    blk_ext [ind_3 t]
    · rfl
    · show _ = 1024 * qn t.val + r.val
      omega
  show _ = attn _ _ _ ((((cfgT (F := Ideal)).win 3).blk t).view.emb (ix3 0 r d) 0) ((((cfgT (F := Ideal)).win 3).blk t).view.emb (ix3 0 r d) 1) ((((cfgT (F := Ideal)).win 3).blk t).view.emb (ix3 0 r d) 2)
  erw [e]
  rfl

end Cert.KernelIdeal.A

end
-- ==== Proof.KRef.lean ====
/-
  The whole reference over the extended reals: its stages are the stages of the per-call references.
-/
module

public import proofs.«01_k».proof.Proof.Gen.RefIdeal.Read
public import proofs.«01_k».proof.Proof.KAVal
public import proofs.«01_k».proof.Proof.QkvClaim
public import proofs.«01_k».proof.Proof.RouterRefVal

@[expose] public section

set_option maxRecDepth 16384

noncomputable section

namespace Cert.RefIdeal.Val

open Cert.RefIdeal Cert.RefIdeal.Gen Cert.RefIdeal.Read Cert.AttnMath
open Idealize.ShloMosaic Idealize.ShloMosaic.TcCoe Idealize.SL.Sem
open Cert.KernelIdeal.A (zz vv attn zz_at vv_at)
open Cert.QkvIdeal.Val (plain)

theorem foldl_sum {ι : Type} (f : ι → EReal) : ∀ (l : List ι) (v : EReal), l.foldl (fun r n => r + f n) v = v + (l.map f).sum
  | [], v => by simp
  | a :: l, v => by rw [List.foldl_cons, foldl_sum f l, List.map_cons, List.sum_cons, add_assoc]

/-- What a window position adds. -/
def win (X : FVec Ideal S16x2048x2048 .f32) (h : Fin 16) (i j : Fin 2048) (w : (⟨3, ![1, 1, 2048]⟩ : Shape).Idx) : EReal :=
  if hin : ∀ a : Fin 3, (![0, 0, 2047] : Fin 3 → ℕ) a ≤ (ix3 h i j a).val * (![1, 1, 1] : Fin 3 → ℕ) a + (w a).val
      ∧ (ix3 h i j a).val * (![1, 1, 1] : Fin 3 → ℕ) a + (w a).val - (![0, 0, 2047] : Fin 3 → ℕ) a < S16x2048x2048.size a
    then X (fun a => ⟨(ix3 h i j a).val * (![1, 1, 1] : Fin 3 → ℕ) a + (w a).val - (![0, 0, 2047] : Fin 3 → ℕ) a, (hin a).2⟩) else 0

theorem win_at (X : FVec Ideal S16x2048x2048 .f32) (h : Fin 16) (i j k : Fin 2048) :
    win X h i j (ix3 0 0 k) = if hk : 2047 ≤ j.val + k.val then (show EReal from X (ix3 h i ⟨j.val + k.val - 2047, by omega⟩)) else 0 := by
  unfold win
  by_cases hk : 2047 ≤ j.val + k.val
  · rw [dif_pos hk, dif_pos fun a => by
      fin_cases a
      · exact ⟨Nat.zero_le _, show h.val * 1 + 0 - 0 < 16 by omega⟩
      · exact ⟨Nat.zero_le _, show i.val * 1 + 0 - 0 < 2048 by omega⟩
      · exact ⟨show 2047 ≤ j.val * 1 + k.val by omega, show j.val * 1 + k.val - 2047 < 2048 by omega⟩]
    refine congrArg X (funext fun a => Fin.ext ?_)
    fin_cases a
    · show h.val * 1 + 0 - 0 = h.val; omega
    · show i.val * 1 + 0 - 0 = i.val; omega
    · show j.val * 1 + k.val - 2047 = j.val + k.val - 2047; omega
  · rw [dif_neg hk, dif_neg fun hin => hk (by have : 2047 ≤ j.val * 1 + k.val := (hin 2).1; omega)]

/-- A running sum along the last axis, as the host's window sum reads. -/
theorem window (X : FVec Ideal S16x2048x2048 .f32) (u : FVec Ideal S_ .f32) (hu : ∀ i, u i = (0 : EReal)) (hw) (h0) (h : Fin 16) (i j : Fin 2048) :
    Host.reduceWindowAdd (F := Ideal) (s := S16x2048x2048) (t := S16x2048x2048) (u := S_) ![1, 1, 2048] ![1, 1, 1] ![0, 0, 2047] ![0, 0, 0] X u hw h0 (ix3 h i j)
      = ∑ k : Fin 2048, if hk : 2047 ≤ j.val + k.val then (show EReal from X (ix3 h i ⟨j.val + k.val - 2047, by omega⟩)) else 0 := by
  unfold Host.reduceWindowAdd
  rw [Ideal.hostReduceWindowAdd_def]
  unfold Ideal.hostReduceWindowAdd Host.reduceWindow
  rw [hu]
  refine (foldl_sum _ _ _).trans ?_
  rw [zero_add, ← Fin.sum_univ_def]
  refine (Finset.sum_congr rfl (g := fun n => win X h i j ((Shape.rowMajor ⟨3, ![1, 1, 2048]⟩).symm n)) fun n _ => ?_).trans ?_
  · unfold win
    exact dite_congr rfl (fun _ => rfl) (fun _ => rfl)
  rw [Equiv.sum_comp (Shape.rowMajor ⟨3, ![1, 1, 2048]⟩).symm (win X h i j), sum_idx3, Fin.sum_univ_one, Fin.sum_univ_one]
  exact Finset.sum_congr rfl fun k _ => win_at X h i j k

/-- The sum of the entries from a key on, out of a running sum of the reversed ones. -/
theorem reflect (f : ℕ → EReal) (j : ℕ) (hj : j < 2048) :
    (∑ k : Fin 2048, if 2047 ≤ (2047 - j) + k.val then f (2047 - ((2047 - j) + k.val - 2047)) else 0) = ∑ k ∈ Finset.Ico j 2048, f k := by
  rw [Fin.sum_univ_eq_sum_range (fun k => if 2047 ≤ (2047 - j) + k then f (2047 - ((2047 - j) + k - 2047)) else 0) 2048, ← Finset.sum_filter]
  refine Finset.sum_nbij' (fun k => 2047 + j - k) (fun k => 2047 + j - k) ?_ ?_ ?_ ?_ ?_
  · intro k hk
    simp only [Finset.mem_filter, Finset.mem_range, Finset.mem_Ico] at hk ⊢
    omega
  · intro k hk
    simp only [Finset.mem_filter, Finset.mem_range, Finset.mem_Ico] at hk ⊢
    omega
  · intro k hk
    simp only [Finset.mem_filter, Finset.mem_range] at hk
    omega
  · intro k hk
    simp only [Finset.mem_Ico] at hk
    omega
  · intro k hk
    simp only [Finset.mem_filter, Finset.mem_range] at hk
    congr 1
    omega

variable (x0 : FVec Ideal S1x2048x1024 .f32) (x1 : FVec Ideal S1024 .f32) (x2 x3 x4 : FVec Ideal S1024x1024 .f32)

/-- The factor the queries carry: over the root of the head width and the logarithm of two. -/
abbrev sc : EReal := (((Real.log 2)⁻¹ * (Real.sqrt 64)⁻¹ : ℝ) : EReal)

theorem v14_at (t : Fin 2048) (d : Fin 1024) : val_main_v14 (F := Ideal) x0 x1 x2 (ix2 t d) = plain (val_main_v0 (F := Ideal) x0) x1 x2 t d := by
  pointwise [val_main_v14, val_main_v13, val_main_v12, val_main_v11, val_main_v10, val_main_v9, val_main_v8, val_main_v7, val_main_v6, val_main_v5, val_main_v4, val_main_v3, val_main_v2, val_main_v1, val_main_cst, val_main_cst_0, val_main_cst_1, plain]

/-- The scaled queries, the keys and the values by head. -/
abbrev qs : FVec Ideal S16x2048x64 .f32 := fun y => val_main_v16 (F := Ideal) x0 x1 x2 y * sc
abbrev ks : FVec Ideal S16x2048x64 .f32 := val_main_v19 (F := Ideal) x0 x1 x3
abbrev vs : FVec Ideal S16x2048x64 .bf16 := fun y => val_main_v22 (F := Ideal) x0 x1 x4 y

/-- A real factor leaves a finite sum when it is not negative. -/
theorem sum_coe_mul {ι : Type} (s : Finset ι) (r : ℝ) (hr : 0 ≤ r) (f : ι → EReal) : (∑ i ∈ s, f i) * (r : EReal) = ∑ i ∈ s, f i * (r : EReal) := by
  classical
  induction s using Finset.induction_on with
  | empty => simp
  | insert a s ha ih => rw [Finset.sum_insert ha, Finset.sum_insert ha, EReal.right_distrib_of_nonneg_of_ne_top (by exact_mod_cast hr) (EReal.coe_ne_top r), ih]

theorem sc_c2 : sc * c2 = (((Real.sqrt 64)⁻¹ : ℝ) : EReal) := by
  unfold sc c2
  rw [← EReal.coe_mul]
  congr 1
  have : Real.log 2 ≠ 0 := (Real.log_pos (by norm_num)).ne'
  field_simp

variable (h : Fin 16) (i j : Fin 2048)

theorem logits : val_main_v26 (F := Ideal) x0 x1 x2 x3 (ix3 h i j) = zz (qs x0 x1 x2) (ks x0 x1 x3) h i.val j.val * c2 := by
  rw [val_main_v26_apply, val_main_v23_apply, val_main_v25_apply, val_main_v24_apply, val_main_cst_2_apply]
  have e : ∀ k : Fin 64, lidx_main_v23 (ix3 h i j) k = ix3 h i k := fun k => eq_ix3 _
  have e' : ∀ k : Fin 64, ridx_main_v23 (ix3 h i j) k = ix3 h j k := fun k => eq_ix3 _
  rw [← zz_at]
  have h64 : Ideal.sqrt (Ideal.ofBits .f32 0x42800000#32) = ((Real.sqrt 64 : ℝ) : EReal) := by
    rw [Cert.QkvIdeal.Val.ofBits_64, Ideal.sqrt_coe, if_neg (by norm_num)]
  show Ideal.div (∑ k : Fin 64, (_ : EReal)) (Ideal.sqrt (Ideal.ofBits .f32 0x42800000#32)) = _
  rw [h64, Ideal.div_coe (show Real.sqrt 64 ≠ 0 from (Real.sqrt_pos.mpr (by norm_num)).ne'), one_div]
  have hs : ∀ k : Fin 64, (show EReal from qs x0 x1 x2 (ix3 h i k)) * (show EReal from ks x0 x1 x3 (ix3 h j k))
      = ((show EReal from val_main_v16 (F := Ideal) x0 x1 x2 (ix3 h i k)) * (show EReal from val_main_v19 (F := Ideal) x0 x1 x3 (ix3 h j k))) * sc := fun k => by
    show (_ * sc) * _ = (_ * _) * sc
    ac_rfl
  rw [Finset.sum_congr rfl fun k _ => hs k]
  have h0 : (0 : ℝ) ≤ (Real.log 2)⁻¹ * (Real.sqrt 64)⁻¹ := mul_nonneg (inv_nonneg.mpr (Real.log_pos (by norm_num)).le) (inv_nonneg.mpr (Real.sqrt_nonneg _))
  rw [← sum_coe_mul Finset.univ _ h0, mul_assoc, sc_c2]
  refine congrArg (fun x : EReal => x * _) (Finset.sum_congr rfl fun k _ => ?_)
  rw [e, e']

theorem strict : val_main_v34 (F := Ideal) (ix2 i j) = (if j.val < i.val then 1 else 0 : EReal) := by
  rw [val_main_v34_apply, val_main_v33_apply, val_main_v31_apply, val_main_v32_apply, val_main_v30_apply, val_main_v29_apply, val_main_v28_apply, val_main_v27_apply]
  have h1 := i.isLt
  have h2 := j.isLt
  have e : IntOp.cmpi .slt (BitVec.ofNat 32 (idx_main_v30 (idx_main_v31 (ix2 i j)) 0).val) (BitVec.ofNat 32 (idx_main_v28 (idx_main_v32 (ix2 i j)) 0).val)
      = BitVec.ofBool (decide (j.val < i.val)) := by
    show IntOp.cmpi .slt (BitVec.ofNat 32 j.val) (BitVec.ofNat 32 i.val) = _
    word_cmp
  rw [e]
  by_cases h : j.val < i.val <;> simp [h, FloatOps.uitofp]

theorem own : val_main_v44 (F := Ideal) x0 x1 x2 x3 (ix3 h i j) = M (zz (qs x0 x1 x2) (ks x0 x1 x3) h) i.val j.val * c2 := by
  rw [val_main_v44_apply, val_main_v41_apply, val_main_v40_apply, val_main_v39_apply, logits, val_main_v43_apply, val_main_v42_apply]
  rw [show idx_main_v42 (idx_main_v43 (ix3 h i j)) = ix2 i j from eq_ix2 _, strict]
  show -Ideal.log1p (Ideal.exp (zz (qs x0 x1 x2) (ks x0 x1 x3) h i.val j.val * c2)) * (_ : EReal) = _
  rw [lo_ref]
  unfold AttnMath.M
  split
  · rw [mul_one]
  · rw [mul_zero, zero_mul]

theorem incl : val_main_v47 (F := Ideal) x0 x1 x2 x3 (ix3 h i j) = T (zz (qs x0 x1 x2) (ks x0 x1 x3) h) i.val j.val * c2 := by
  have r : ∀ (Y : FVec Ideal S16x2048x2048 .f32) (k : Fin 2048), Host.reverse [2] Y (ix3 h i k) = Y (ix3 h i k.rev) := fun Y k => by
    rw [Host.reverse_apply]
    refine congrArg Y ?_
    funext a
    fin_cases a <;> rfl
  unfold val_main_v47
  rw [r]
  unfold val_main_v46
  rw [window _ _ (fun i => by rw [val_main_call0_call0_v0_apply, val_main_call0_call0_cst_apply]; exact Ideal.ofBits_zero_f32)]
  unfold val_main_v45
  simp only [r]
  have e : j.rev.val = 2047 - j.val := by rw [Fin.val_rev]; omega
  unfold AttnMath.T
  rw [← sum_c2, ← reflect (fun k => M (zz (qs x0 x1 x2) (ks x0 x1 x3) h) i.val k * c2) j.val j.isLt]
  refine Finset.sum_congr rfl fun k _ => ?_
  by_cases hk : 2047 ≤ j.rev.val + k.val
  · rw [dif_pos hk, if_pos (by omega), own, Fin.val_rev]
    dsimp only
    congr 2
    omega
  · rw [dif_neg hk, if_neg (by omega)]

theorem weight : val_main_v53 (F := Ideal) x0 x1 x2 x3 (ix3 h i j) = A (zz (qs x0 x1 x2) (ks x0 x1 x3) h) i.val j.val := by
  rw [val_main_v53_apply, val_main_v50_apply, val_main_v49_apply, val_main_v48_apply, val_main_v38_apply, val_main_v37_apply, val_main_v36_apply, val_main_v35_apply,
    logits, own, incl, val_main_v52_apply, val_main_v51_apply]
  rw [show idx_main_v51 (idx_main_v52 (ix3 h i j)) = ix2 i j from eq_ix2 _, strict]
  exact A_ref (zz (qs x0 x1 x2) (ks x0 x1 x3) h) i.val j.val j.isLt

theorem final (d : Fin 64) : val_main_v54 (F := Ideal) x0 x1 x2 x3 x4 (ix3 h i d) = attn (qs x0 x1 x2) (ks x0 x1 x3) (vs x0 x1 x4) h i d := by
  rw [val_main_v54_apply]
  unfold attn U
  rw [← Finset.range_eq_Ico, ← Fin.sum_univ_eq_sum_range (fun k => A (zz (qs x0 x1 x2) (ks x0 x1 x3) h) i.val k * vv (vs x0 x1 x4) h d k) 2048]
  refine Finset.sum_congr rfl fun k _ => ?_
  rw [show lidx_main_v54 (ix3 h i d) k = ix3 h i k from eq_ix3 _, weight, vv_at, show ridx_main_v54 (ix3 h i d) k = ix3 h k d from eq_ix3 _]

/-! The rest of the reference is the router's reference from the attention's rows. -/
section
variable (x5 : FVec Ideal S1024x1024 .f32) (x6 : FVec Ideal S1024 .f32) (x7 : FVec Ideal S1024x8 .f32)

/-- The attention's rows and the residual. -/
abbrev ar : FVec Ideal S2048x1024 .f32 := val_main_v56 (F := Ideal) x0 x1 x2 x3 x4
abbrev rs : FVec Ideal S2048x1024 .f32 := val_main_v0 (F := Ideal) x0

theorem v58_eq : val_main_v58 (F := Ideal) x0 x1 x2 x3 x4 x5 = Cert.RouterRefIdeal.Read.val_main_v1 (F := Ideal) (ar x0 x1 x2 x3 x4) (rs x0) x5 := rfl

theorem v71_eq : val_main_v71 (F := Ideal) x0 x1 x2 x3 x4 x5 x6 = Cert.RouterRefIdeal.Read.val_main_v14 (F := Ideal) (ar x0 x1 x2 x3 x4) (rs x0) x5 x6 := rfl

theorem v72_eq : val_main_v72 (F := Ideal) x0 x1 x2 x3 x4 x5 x6 x7 = Cert.RouterRefIdeal.Read.val_main_v15 (F := Ideal) (ar x0 x1 x2 x3 x4) (rs x0) x5 x6 x7 := rfl

theorem v75_eq : val_main_v75 (F := Ideal) x0 x1 x2 x3 x4 x5 x6 x7 = Cert.RouterRefIdeal.Read.val_main_v18 (F := Ideal) (ar x0 x1 x2 x3 x4) (rs x0) x5 x6 x7 := rfl

theorem v83_eq : val_main_v83 (F := Ideal) x0 x1 x2 x3 x4 x5 x6 x7 = Cert.RouterRefIdeal.Read.val_main_v26 (F := Ideal) (ar x0 x1 x2 x3 x4) (rs x0) x5 x6 x7 := rfl

theorem v98_eq : val_main_v98 (F := Ideal) x0 x1 x2 x3 x4 x5 x6 x7 = Cert.RouterRefIdeal.Read.val_main_v41 (F := Ideal) (ar x0 x1 x2 x3 x4) (rs x0) x5 x6 x7 := rfl

theorem v99_eq : val_main_v99 (F := Ideal) x0 x1 x2 x3 x4 x5 x6 x7 = Cert.RouterRefIdeal.Read.val_main_v42 (F := Ideal) (ar x0 x1 x2 x3 x4) (rs x0) x5 x6 x7 := rfl

end

end Cert.RefIdeal.Val

end
-- ==== Proof.KHost.lean ====
/-
  The host stretches and the first three regions over the extended reals: each buffer in terms of the arguments.
-/
module

public import proofs.«01_k».proof.Proof.KPost
public import proofs.«01_k».proof.Proof.KQVal
public import proofs.«01_k».proof.Proof.KRVal
public import proofs.«01_k».proof.Proof.KRef

@[expose] public section

set_option maxRecDepth 16384

noncomputable section

namespace Cert.KernelIdeal.L

open Cert.KernelIdeal Cert.KernelIdeal.Gen
open Idealize.ShloMosaic Idealize.ShloMosaic.TcCoe Idealize.SL.Sem
open Cert.RefIdeal.Val (qs ks vs sc ar rs)

variable (m : (ℓ : Loc nD τ sig) → Buf (Elt Ideal) ℓ) (c : Dev nD)

abbrev a0 : FVec Ideal S1x2048x1024 .f32 := m ((c : Thread nD τ).loc main_arg0)
abbrev a1 : FVec Ideal S1024 .f32 := m ((c : Thread nD τ).loc main_arg1)
abbrev a2 : FVec Ideal S1024x1024 .f32 := m ((c : Thread nD τ).loc main_arg2)
abbrev a3 : FVec Ideal S1024x1024 .f32 := m ((c : Thread nD τ).loc main_arg3)
abbrev a4 : FVec Ideal S1024x1024 .f32 := m ((c : Thread nD τ).loc main_arg4)
abbrev a5 : FVec Ideal S1024x1024 .f32 := m ((c : Thread nD τ).loc main_arg5)
abbrev a6 : FVec Ideal S1024 .f32 := m ((c : Thread nD τ).loc main_arg6)
abbrev a7 : FVec Ideal S1024x8 .f32 := m ((c : Thread nD τ).loc main_arg7)
abbrev a8 : FVec Ideal S8x1024x1024 .f32 := m ((c : Thread nD τ).loc main_arg8)
abbrev a9 : FVec Ideal S8x1024x1024 .f32 := m ((c : Thread nD τ).loc main_arg9)

/-! The first stretch and the first region. -/

theorem W1_v0 : (W1 m c (Proc.devRef .tc main_v0) : FVec Ideal S2048x1024 .f32) = rs (a0 m c) := by
  simp only [W1, hostOps0, StableHlo.after_cons, StableHlo.after_nil]
  after_results_simp
  rfl

theorem W1_v1 (k : Fin 1024) : (W1 m c (Proc.devRef .tc main_v1) : FVec Ideal S1x1024 .f32) (ix2 0 k) = a1 m c (Idealize.ShloMosaic.ix1 k) := by
  simp only [W1, hostOps0, StableHlo.after_cons, StableHlo.after_nil]
  after_results_simp
  pointwise
  rfl

theorem W1_v2 (i : S1024x1024.Idx) : (W1 m c (Proc.devRef .tc main_v2) : FVec Ideal S1024x1024 .bf16) i = a4 m c i := by
  simp only [W1, hostOps0, StableHlo.after_cons, StableHlo.after_nil]
  after_results_simp
  rfl

theorem proj_plain (W W' : FVec Ideal S1024x1024 .f32) (h : ∀ i, W i = W' i) (t : Fin 2048) (d : Fin 1024) :
    Q.proj (rd (W1 m) c main_v0) (rd (W1 m) c main_v1) W t d = Cert.QkvIdeal.Val.plain (rs (a0 m c)) (a1 m c) W' t d := by
  rw [show rd (W1 m) c main_v0 = rs (a0 m c) from W1_v0 m c]
  unfold Q.proj Cert.QkvIdeal.Val.plain Q.xn
  exact Finset.sum_congr rfl fun k _ => Ideal.mul_congr (Ideal.mul_congr rfl (W1_v1 m c k)) (h _)

theorem W2_q : (W2 m c (Proc.devRef .tc main_v3_0) : FVec Ideal S2048x1024 .f32)
    = fun y => Cert.RefIdeal.Read.val_main_v14 (F := Ideal) (a0 m c) (a1 m c) (a2 m c) y * sc := by
  refine (W2_arr m c 5).trans ((Q.final5 (rd (W1 m)) c).trans ?_)
  funext y
  idx_vars y
  refine Ideal.mul_congr ?_ rfl
  exact (proj_plain m c _ _ (fun i => congrFun (W1_of m c main_arg2 (by decide)) i) y0 y1).trans (Cert.RefIdeal.Val.v14_at _ _ _ y0 y1).symm

theorem W2_k : (W2 m c (Proc.devRef .tc main_v3_1) : FVec Ideal S2048x1024 .f32)
    = Cert.RefIdeal.Read.val_main_v17 (F := Ideal) (a0 m c) (a1 m c) (a3 m c) := by
  refine (W2_arr m c 6).trans ((Q.final6 (rd (W1 m)) c).trans ?_)
  funext y
  idx_vars y
  exact (proj_plain m c _ _ (fun i => congrFun (W1_of m c main_arg3 (by decide)) i) y0 y1).trans (Cert.RefIdeal.Val.v14_at _ _ _ y0 y1).symm

theorem W2_v : (W2 m c (Proc.devRef .tc main_v3_2) : FVec Ideal S2048x1024 .bf16)
    = fun y => Cert.RefIdeal.Read.val_main_v20 (F := Ideal) (a0 m c) (a1 m c) (a4 m c) y := by
  refine (W2_arr m c 7).trans ((Q.final7 (rd (W1 m)) c).trans ?_)
  funext y
  idx_vars y
  exact (proj_plain m c _ _ (fun i => W1_v2 m c i) y0 y1).trans (Cert.RefIdeal.Val.v14_at _ _ _ y0 y1).symm

/-! The second stretch and the second region. -/

theorem W3_q : (W3 m c (Proc.devRef .tc main_v5) : FVec Ideal S16x2048x64 .f32) = qs (a0 m c) (a1 m c) (a2 m c) := by
  simp only [W3, hostOps1, StableHlo.after_cons, StableHlo.after_nil]
  after_results_simp
  exact congrArg (fun X : FVec Ideal S2048x1024 .f32 => transpose S16x2048x64 [1, 0, 2] (shapeCast S2048x16x64 X shapeCasts_S2048x1024_S2048x16x64) transposes_S2048x16x64_S16x2048x64_1_0_2) (W2_q m c)

theorem W3_k : (W3 m c (Proc.devRef .tc main_v7) : FVec Ideal S16x2048x64 .f32) = ks (a0 m c) (a1 m c) (a3 m c) := by
  simp only [W3, hostOps1, StableHlo.after_cons, StableHlo.after_nil]
  after_results_simp
  exact congrArg (fun X : FVec Ideal S2048x1024 .f32 => transpose S16x2048x64 [1, 0, 2] (shapeCast S2048x16x64 X shapeCasts_S2048x1024_S2048x16x64) transposes_S2048x16x64_S16x2048x64_1_0_2) (W2_k m c)

theorem W3_v : (W3 m c (Proc.devRef .tc main_v9) : FVec Ideal S16x2048x64 .bf16) = vs (a0 m c) (a1 m c) (a4 m c) := by
  simp only [W3, hostOps1, StableHlo.after_cons, StableHlo.after_nil]
  after_results_simp
  exact congrArg (fun X : FVec Ideal S2048x1024 .bf16 => transpose S16x2048x64 [1, 0, 2] (shapeCast S2048x16x64 X shapeCasts_S2048x1024_S2048x16x64) transposes_S2048x16x64_S16x2048x64_1_0_2) (W2_v m c)

theorem W4_v10 : (W4 m c (Proc.devRef .tc main_v10) : FVec Ideal S16x2048x64 .f32)
    = Cert.RefIdeal.Read.val_main_v54 (F := Ideal) (a0 m c) (a1 m c) (a2 m c) (a3 m c) (a4 m c) := by
  refine (W4_arr m c 3).trans ((A.final (rd (W3 m)) c).trans ?_)
  rw [show rd (W3 m) c main_v5 = qs (a0 m c) (a1 m c) (a2 m c) from W3_q m c, show rd (W3 m) c main_v7 = ks (a0 m c) (a1 m c) (a3 m c) from W3_k m c,
    show rd (W3 m) c main_v9 = vs (a0 m c) (a1 m c) (a4 m c) from W3_v m c]
  funext y
  rw [eq_ix3 y]
  exact (Cert.RefIdeal.Val.final _ _ _ _ _ _ _ _).symm

/-! The third stretch and the third region. -/

/-- The attention's rows as the third region reads them. -/
abbrev AR : FVec Ideal S2048x1024 .f32 := ar (a0 m c) (a1 m c) (a2 m c) (a3 m c) (a4 m c)

theorem W7_v12 : (W7 m c (Proc.devRef .tc main_v12) : FVec Ideal S2048x1024 .f32) = AR m c := by
  rw [W7_of m c main_v12 (by decide), W6_of m c main_v12 (by decide)]
  simp only [W5, hostOps2, StableHlo.after_cons, StableHlo.after_nil]
  after_results_simp
  exact congrArg (fun X : FVec Ideal S16x2048x64 .f32 => shapeCast S2048x1024 (transpose S2048x16x64 [1, 0, 2] X transposes_S16x2048x64_S2048x16x64_1_0_2) shapeCasts_S2048x16x64_S2048x1024) (W4_v10 m c)

theorem W7_v0 : (W7 m c (Proc.devRef .tc main_v0) : FVec Ideal S2048x1024 .f32) = rs (a0 m c) := by
  rw [W7_of m c main_v0 (by decide), W6_of m c main_v0 (by decide), W5_of m c main_v0 (by decide), W4_of m c main_v0 (by decide), W3_of m c main_v0 (by decide)]
  exact (W2_arr m c 0).trans (((Q.dats (rd (W1 m)) 0 c).arrAt_in 0 rfl _).trans (W1_v0 m c))

theorem W5_arg (b : Ref sig .tc) (h1 : b ∉ hostOps0_W) (h2 : ∀ w, Pipeline.arrRef spec0 w ≠ b) (h3 : b ∉ hostOps1_W) (h4 : ∀ w, Pipeline.arrRef spec1 w ≠ b) (h5 : b ∉ hostOps2_W) :
    W5 m c (Proc.devRef .tc b) = m ((c : Thread nD τ).loc b) := by
  rw [W5_of m c b h5, W4_of m c b h4, W3_of m c b h3, W2_of m c b h2, W1_of m c b h1]
  rfl

theorem W7_v13 (k : Fin 1024) (e : Fin 8) : (W7 m c (Proc.devRef .tc main_v13) : FVec Ideal S1024x128 .f32) (ix2 k (e.castLE (by decide))) = a7 m c (ix2 k e) := by
  rw [W7_of m c main_v13 (by decide)]
  simp only [W6, hostOps2_1, StableHlo.after_cons, StableHlo.after_nil]
  after_results_simp
  simp only [StableHlo.TRef.toBuf, StableHlo.TRef.ofBuf, cast_eq]
  rw [W5_arg m c main_arg7 (by decide) (by decide) (by decide) (by decide) (by decide)]
  pointwise
  rw [dif_pos (show (Fin.castLE (by decide : 8 ≤ 128) e).val < 8 from e.isLt)]
  rfl

theorem W7_v14 (i : S1024x1024.Idx) : (W7 m c (Proc.devRef .tc main_v14) : FVec Ideal S1024x1024 .bf16) i = a5 m c i := by
  simp only [W7, hostOps2_2, StableHlo.after_cons, StableHlo.after_nil]
  after_results_simp
  rw [W6_of m c main_arg5 (by decide), W5_arg m c main_arg5 (by decide) (by decide) (by decide) (by decide) (by decide)]
  rfl

theorem W7_v15 (k : Fin 1024) : (W7 m c (Proc.devRef .tc main_v15) : FVec Ideal S1x1024 .f32) (ix2 0 k) = a6 m c (Idealize.ShloMosaic.ix1 k) := by
  simp only [W7, hostOps2_2, StableHlo.after_cons, StableHlo.after_nil]
  after_results_simp
  rw [W6_of m c main_arg6 (by decide), W5_arg m c main_arg6 (by decide) (by decide) (by decide) (by decide) (by decide)]
  pointwise

theorem h2_hid (t : Fin 2048) (d : Fin 1024) : R.h2 (rd (W7 m) c main_v12) (rd (W7 m) c main_v0) (rd (W7 m) c main_v14) t d
    = Cert.RouterRefIdeal.Val.hid (AR m c) (rs (a0 m c)) (a5 m c) t d := by
  rw [show rd (W7 m) c main_v12 = AR m c from W7_v12 m c, show rd (W7 m) c main_v0 = rs (a0 m c) from W7_v0 m c]
  unfold R.h2 Cert.RouterRefIdeal.Val.hid
  exact Ideal.add_congr (Finset.sum_congr rfl fun k _ => Ideal.mul_congr rfl (W7_v14 m c _)) rfl

theorem nrm_ref (t : Fin 2048) (k : Fin 1024) : R.nrm (fun d => R.h2 (rd (W7 m) c main_v12) (rd (W7 m) c main_v0) (rd (W7 m) c main_v14) t d) (rd (W7 m) c main_v15) k
    = Cert.RouterRefIdeal.Val.nrm (AR m c) (rs (a0 m c)) (a5 m c) (a6 m c) t k := by
  rw [funext fun d => h2_hid m c t d]
  unfold R.nrm Cert.RouterRefIdeal.Val.nrm
  exact Ideal.mul_congr rfl (W7_v15 m c k)

theorem tl_ref (t : Fin 2048) : R.tl (rd (W7 m)) c t = Cert.RouterRefIdeal.Val.logit (AR m c) (rs (a0 m c)) (a5 m c) (a6 m c) (a7 m c) t := by
  funext e
  unfold R.tl R.logit R.lg Cert.RouterRefIdeal.Val.logit
  exact Finset.sum_congr rfl fun k _ => Ideal.mul_congr (nrm_ref m c t k) (W7_v13 m c k e)

end Cert.KernelIdeal.L

end
-- ==== Proof.KMVal.lean ====
/-
  The mixture-of-experts region's two result arrays, as sums over the extended reals.
-/
module

public import proofs.«01_k».proof.Proof.KMRun

@[expose] public section

set_option maxRecDepth 16384

noncomputable section

namespace Cert.KernelIdeal.M

open Cert.KernelIdeal Cert.KernelIdeal.Gen
open Idealize.ShloMosaic Idealize.ShloMosaic.TcCoe Idealize.SL.Sem
open Idealize.ShloMosaic.Pipeline (Dat)

/-- The hidden activation of token `t` in expert `e`: the first product's entry times its logistic. -/
def hid (X : FVec Ideal S2048x1024 .bf16) (W : FVec Ideal S8x1024x1024 .bf16) (e : Fin 8) (t : Fin 2048) (f : Fin 1024) : EReal :=
  (∑ k : Fin 1024, X (ix2 t k) * W (ix3 e k f)) * Ideal.logistic (∑ k : Fin 1024, X (ix2 t k) * W (ix3 e k f))

/-- Expert `e`'s weighted output for token `t` at column `d`. -/
def part (X : FVec Ideal S2048x1024 .bf16) (W W' : FVec Ideal S8x1024x1024 .bf16) (G : FVec Ideal S8x2048x1 .f32)
    (e : Fin 8) (t : Fin 2048) (d : Fin 1024) : EReal :=
  (∑ f : Fin 1024, hid X W e t f * W' (ix3 e f d)) * G (ix3 e t 0)

/-- The layer's result: the residual plus all experts' weighted outputs. -/
def moeOut (X : FVec Ideal S2048x1024 .bf16) (H : FVec Ideal S2048x1024 .f32) (W W' : FVec Ideal S8x1024x1024 .bf16) (G : FVec Ideal S8x2048x1 .f32) :
    FVec Ideal S2048x1024 .f32 :=
  fun y => H y + ∑ e : Fin 8, part X W W' G e (y 0) (y 1)

/-- The auxiliary loss row. -/
def auxOut (f p : FVec Ideal S1x128 .f32) : FVec Ideal S1x128 .f32 :=
  fun _ => Ideal.div (Ideal.ofBits FTy.f32 1090519040#32 * ∑ l : Fin 128, f (ix2 0 l) * p (ix2 0 l)) (Ideal.ofBits FTy.f32 1249902592#32)

theorem pay1_eq (v : FVec Ideal S256x1024 .f32) : k3_pay1 (F := Ideal) v = v := by
  funext y
  obtain ⟨r, d, rfl⟩ : ∃ (r : Fin 256) (d : Fin 1024), y = ix2 r d := ⟨y 0, y 1, eq_ix2 y⟩
  pointwise [k3_pay1]

theorem pay2_eq (f p : FVec Ideal S1x128 .f32) : k3_pay3 (F := Ideal) f p = auxOut f p := by
  funext y
  pointwise [k3_pay3, auxOut]
  simp only [Finset.univ_unique, Finset.sum_singleton]

/-- What one point adds to its tile's running block, from the point's blocks. -/
def addP (e : Fin 8) (x0 : FVec Ideal S256x1024 .bf16) (x2 x3 : FVec Ideal S8x1024x1024 .bf16) (x4 : FVec Ideal S1x256x1 .f32) (y : S256x1024.Idx) : EReal :=
  (∑ f : Fin 1024, ((∑ k : Fin 1024, x0 (ix2 (y 0) k) * x2 (ix3 e k f)) * Ideal.logistic (∑ k : Fin 1024, x0 (ix2 (y 0) k) * x2 (ix3 e k f))) * x3 (ix3 e f (y 1))) * x4 (ix3 0 (y 0) 0)

theorem step_at (i : grid3.Coords) (e : Fin 8) (he : (i 1).val = e.val) (x0 : FVec Ideal S256x1024 .bf16) (x2 x3 : FVec Ideal S8x1024x1024 .bf16)
    (x4 : FVec Ideal S1x256x1 .f32) (acc : FVec Ideal S256x1024 .f32) (r : Fin 256) (d : Fin 1024) :
   step (F := Ideal) i x0 x2 x3 x4 acc (ix2 r d) = acc (ix2 r d) + addP e x0 x2 x3 x4 (ix2 r d) := by
  have hv : BitVec.toNat (Scalar.indexCast (BitVec.ofNat 32 (i 1).val)) = e.val := by
    rw [he]
    exact (by decide : ∀ e : Fin 8, BitVec.toNat (Scalar.indexCast (BitVec.ofNat 32 e.val)) = e.val) e
  pointwise [step, k3_pay2, k3_off1, addP]
  simp only [hv]

theorem idx : ∀ t : Fin cfg3.N, win3_0.index t = ![t.val / 8, 0] ∧ win3_1.index t = ![t.val / 8, 0] ∧ win3_2.index t = ![0, 0, 0] ∧ win3_3.index t = ![0, 0, 0]
    ∧ win3_4.index t = ![t.val % 8, t.val / 8, 0] ∧ win3_5.index t = ![0, 0] ∧ win3_6.index t = ![0, 0] ∧ win3_7.index t = ![t.val / 8, 0] ∧ win3_8.index t = ![0, 0]
    ∧ (grid3.coords t 1).val = t.val % 8 :=
  (by decide +kernel : ∀ t : Fin grid3.N, _)

variable (V : (c : Dev nD) → (b : Ref sig .tc) → Buf (Elt Ideal) ((c : Thread nD τ).loc b))

/-- What one point adds to its tile's running block. -/
def add7 (c : Dev nD) (t : Fin cfg3.N) (y : S256x1024.Idx) : EReal :=
  addP ⟨t.val % 8, Nat.mod_lt _ (by decide)⟩ (blkV V c 0 t) (blkV V c 2 t) (blkV V c 3 t) (blkV V c 4 t) y

theorem step_add (c : Dev nD) (t : Fin cfg3.N) (acc : FVec Ideal S256x1024 .f32) (y : S256x1024.Idx) :
    step (F := Ideal) (grid3.coords t) (blkV V c 0 t) (blkV V c 2 t) (blkV V c 3 t) (blkV V c 4 t) acc y = acc y + add7 V c t y := by
  obtain ⟨r, d, rfl⟩ : ∃ (r : Fin 256) (d : Fin 1024), y = ix2 r d := ⟨y 0, y 1, eq_ix2 y⟩
  exact step_at (grid3.coords t) ⟨t.val % 8, Nat.mod_lt _ (by decide)⟩ (idx t).2.2.2.2.2.2.2.2.2 _ _ _ _ _ _ _

/-- A point's whole contribution: a tile's first point also brings in the residual block. -/
def term7 (c : Dev nD) (t : Fin cfg3.N) (y : S256x1024.Idx) : EReal :=
  if t.val % 8 = 0 then (show EReal from blkV V c 1 t y) + add7 V c t y else add7 V c t y

theorem run7_sum (c : Dev nD) (t : Fin cfg3.N) (hf : t.val % 8 = 8 - 1) (y : S256x1024.Idx) :
    (run7 V c t.val t.isLt : FVec Ideal S256x1024 .f32) y
      = (0 : EReal) + ∑ s : Fin 8, term7 V c ⟨8 * (t.val / 8) + s.val, Pipeline.run_point_lt_of_flush t hf s⟩ y := by
  refine Pipeline.eq_sum_fin_of_reset_step_apply_of_flush (M := EReal) (fun n h => run7 V c n h) 8 (fun _ => 0) (term7 V c) (fun t h y => ?_) (fun t h y => ?_) t hf y
  · show (run7 V c t.val t.isLt : FVec Ideal S256x1024 .f32) y = _
    rw [run7_reset V c t h]
    unfold term7
    rw [if_pos h, zero_add]
    rw [pay1_eq]
    exact step_add V c t _ y
  · show (run7 V c t.val t.isLt : FVec Ideal S256x1024 .f32) y = _
    rw [run7_step V c t h]
    unfold term7
    rw [if_neg h]
    exact step_add V c t _ y

/-- The token a tile row is. -/
def tok (t : Fin cfg3.N) (r : Fin 256) : Fin 2048 :=
  ⟨256 * (t.val / 8) + r.val, by have := t.isLt; have h : cfg3.N = 64 := N_3; omega⟩

theorem add7_eq (c : Dev nD) (t : Fin cfg3.N) (r : Fin 256) (d : Fin 1024) : add7 V c t (ix2 r d)
    = part (V c main_v16_1) (V c main_v20) (V c main_v21) (V c main_v19) ⟨t.val % 8, Nat.mod_lt _ (by decide)⟩ (tok t r) d := by
  simp only [add7, addP, part, hid, tok]
  blk_point [blkV, idx t]

theorem blk1_eq (c : Dev nD) (t : Fin cfg3.N) (r : Fin 256) (d : Fin 1024) :
    (blkV V c 1 t : FVec Ideal S256x1024 .f32) (ix2 r d) = (V c main_v16_0 : FVec Ideal S2048x1024 .f32) (ix2 (tok t r) d) := by
  simp only [tok]
  blk_point [blkV, idx t]

theorem blk5_eq (c : Dev nD) (t : Fin cfg3.N) : blkV V c 5 t = V c main_v16_3 := by
  blk_ext! [blkV, idx t]
theorem blk6_eq (c : Dev nD) (t : Fin cfg3.N) : blkV V c 6 t = V c main_v16_4 := by
  blk_ext! [blkV, idx t]

theorem run7_eq (c : Dev nD) (t : Fin cfg3.N) (hf : t.val % 8 = 8 - 1) (r : Fin 256) (d : Fin 1024) :
    (run7 V c t.val t.isLt : FVec Ideal S256x1024 .f32) (ix2 r d)
      = moeOut (V c main_v16_1) (V c main_v16_0) (V c main_v20) (V c main_v21) (V c main_v19) (ix2 (tok t r) d) := by
  rw [run7_sum V c t hf (ix2 r d), zero_add, Fin.sum_univ_succ]
  show _ = (show EReal from (V c main_v16_0 : FVec Ideal S2048x1024 .f32) (ix2 (tok t r) d)) + ∑ e : Fin 8, part (V c main_v16_1) (V c main_v20) (V c main_v21) (V c main_v19) e (tok t r) d
  rw [Fin.sum_univ_succ (f := fun e : Fin 8 => part (V c main_v16_1) (V c main_v20) (V c main_v21) (V c main_v19) e (tok t r) d), ← add_assoc]
  have ht : ∀ s : Fin 8, tok ⟨8 * (t.val / 8) + s.val, Pipeline.run_point_lt_of_flush t hf s⟩ r = tok t r := fun s =>
    Fin.ext (by simp only [tok]; have := s.isLt; omega)
  have he : ∀ s : Fin 8, (⟨(8 * (t.val / 8) + s.val) % 8, Nat.mod_lt _ (by decide)⟩ : Fin 8) = s := fun s =>
    Fin.ext (by have := s.isLt; dsimp only; omega)
  have hz : ∀ s : Fin 8, (8 * (t.val / 8) + s.val) % 8 = s.val := fun s => by have := s.isLt; omega
  refine congrArg₂ (fun a b : EReal => a + b) ?_ (Finset.sum_congr rfl fun s _ => ?_)
  · unfold term7
    rw [if_pos (show (8 * (t.val / 8) + (0 : Fin 8).val) % 8 = 0 from hz 0), add7_eq, blk1_eq]
    simp only [ht, he]
  · unfold term7
    rw [if_neg (by rw [hz]; exact Nat.succ_ne_zero _), add7_eq]
    simp only [ht, he]

/-- The array of the layer's result after the region. -/
theorem final7 (c : Dev nD) : (dat V c).arrAt 7 cfg3.N
    = moeOut (V c main_v16_1) (V c main_v16_0) (V c main_v20) (V c main_v21) (V c main_v19) := by
  refine (dat V c).arrAt_eq_of_covers 7 _ (by decide +kernel) fun t hf y => ?_
  blk_simp
  rw [after_7]
  have h7 := (flush3_7 t).mp hf
  obtain ⟨r, d, rfl⟩ : ∃ (r : Fin 256) (d : Fin 1024), y = ix2 r d := ⟨y 0, y 1, eq_ix2 y⟩
  refine (run7_eq V c t h7 r d).trans (congrArg (moeOut (V c main_v16_1) (V c main_v16_0) (V c main_v20) (V c main_v21) (V c main_v19)) ?_)
  unfold tok
  blk_ext [idx t]

theorem final8 (c : Dev nD) : (dat V c).arrAt 8 cfg3.N = auxOut (V c main_v16_3) (V c main_v16_4) := by
  refine (dat V c).arrAt_eq_of_covers 8 _ (by decide +kernel) fun t hf y => ?_
  blk_simp
  rw [after_8]
  unfold aux8
  rw [pay2_eq, blk5_eq, blk6_eq]
  rfl

end Cert.KernelIdeal.M
-- ==== Proof.KRefB.lean ====
/-
  The whole reference's two results over the extended reals, and the precondition's first and second experts.
-/
module

public import proofs.«01_k».proof.Proof.KRef
public import proofs.«01_k».proof.Proof.RouterPre
public import proofs.«01_k».proof.Proof.KMVal
public import proofs.«01_k».proof.Proof.Gen.Pre_untied_block

@[expose] public section

set_option maxRecDepth 16384

noncomputable section

namespace Cert.RefIdeal.Val

open Cert.RefIdeal Cert.RefIdeal.Gen Cert.RefIdeal.Read
open Idealize.ShloMosaic Idealize.ShloMosaic.TcCoe Idealize.SL.Sem

theorem ofBits_eight : Ideal.ofBits .f32 1090519040#32 = ((8 : ℝ) : EReal) := by
  simp [Ideal.ofBits, Ideal.ieee, -EReal.coe_mul]; norm_num
theorem ofBits_tokens : Ideal.ofBits .f32 1157627904#32 = ((2048 : ℝ) : EReal) := by
  simp [Ideal.ofBits, Ideal.ieee, -EReal.coe_mul]; norm_num
theorem ofBits_tokens_sq : Ideal.ofBits .f32 1249902592#32 = ((4194304 : ℝ) : EReal) := by
  simp [Ideal.ofBits, Ideal.ieee, -EReal.coe_mul]; norm_num

/-- A real factor enters a finite sum when the factor is not negative. -/
theorem coe_mul_sum {ι : Type} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih => rw [Finset.sum_insert ha, Finset.sum_insert ha, EReal.left_distrib_of_nonneg_of_ne_top (by exact_mod_cast hr) (EReal.coe_ne_top r), ih]

/-- The mean shares' product is the product of the sums over the squared token count. -/
theorem aux_eq (f p : FVec Ideal Cert.KernelIdeal.S1x128 .f32) (y : Cert.KernelIdeal.S1x128.Idx) : ((8 : ℝ) : EReal) * ∑ l : Fin 128, Ideal.div (f (ix2 0 l)) ((2048 : ℝ) : EReal) * Ideal.div (p (ix2 0 l)) ((2048 : ℝ) : EReal) = Cert.KernelIdeal.M.auxOut f p y := by
  unfold Cert.KernelIdeal.M.auxOut
  rw [ofBits_eight, ofBits_tokens_sq, Ideal.div_coe (by norm_num), mul_assoc]
  refine congrArg _ ?_
  rw [mul_comm _ ((1 / 4194304 : ℝ) : EReal)]
  refine Eq.trans ?_ (coe_mul_sum Finset.univ (1 / 4194304) (by norm_num) (fun l : Fin 128 => f (ix2 0 l) * p (ix2 0 l))).symm
  refine Finset.sum_congr rfl fun l _ => ?_
  rw [Ideal.div_coe (by norm_num), Ideal.div_coe (by norm_num),
    show ((1 / 4194304 : ℝ) : EReal) = ((1 / 2048 : ℝ) : EReal) * ((1 / 2048 : ℝ) : EReal) by rw [← EReal.coe_mul]; norm_num]
  ac_rfl

variable (x0 : FVec Ideal S1x2048x1024 .f32) (x1 : FVec Ideal S1024 .f32) (x2 x3 x4 x5 : FVec Ideal S1024x1024 .f32) (x6 : FVec Ideal S1024 .f32)
  (x7 : FVec Ideal S1024x8 .f32) (x8 x9 : FVec Ideal S8x1024x1024 .f32)

/-- A token's logits, from the arguments. -/
abbrev lgt (t : Fin 2048) : Fin 8 → EReal := Cert.RouterRefIdeal.Val.logit (ar x0 x1 x2 x3 x4) (rs x0) x5 x6 x7 t

/-- The normalised rows of the second half. -/
abbrev nm (t : Fin 2048) (k : Fin 1024) : EReal := Cert.RouterRefIdeal.Val.nrm (ar x0 x1 x2 x3 x4) (rs x0) x5 x6 t k

/-- Under the precondition every token has a first and a second expert. -/
theorem top (hpre : Cert.Pre_untied_block.fn (F := Ideal) x0 x1 x2 x3 x4 x5 x6 x7 x8 x9 = fun _ => 1#1) (t : Fin 2048) :
    ∃ i j, RouterMath.Top (RouterMath.soft (lgt x0 x1 x2 x3 x4 x5 x6 x7 t)) i j :=
  Cert.Pre_untied.Val.top (ar x0 x1 x2 x3 x4) (rs x0) x5 x6 x7 hpre t

theorem v58_at (t : Fin 2048) (d : Fin 1024) : val_main_v58 (F := Ideal) x0 x1 x2 x3 x4 x5 (ix2 t d) = Cert.RouterRefIdeal.Val.hid (ar x0 x1 x2 x3 x4) (rs x0) x5 t d := by
  rw [v58_eq]
  exact Cert.RouterRefIdeal.Val.v1_at _ _ _ t d

theorem v71_at (t : Fin 2048) (d : Fin 1024) : val_main_v71 (F := Ideal) x0 x1 x2 x3 x4 x5 x6 (ix2 t d) = nm x0 x1 x2 x3 x4 x5 x6 t d := by
  rw [v71_eq]
  exact Cert.RouterRefIdeal.Val.v14_at _ _ _ _ t d

theorem v83_at (t : Fin 2048) (e : Fin 8) : val_main_v83 (F := Ideal) x0 x1 x2 x3 x4 x5 x6 x7 (ix2 t e) = RouterMath.soft (lgt x0 x1 x2 x3 x4 x5 x6 x7 t) e := by
  rw [v83_eq]
  exact Cert.RouterRefIdeal.Val.v26_at _ _ _ _ _ t e

section
variable (i j : Fin 2048 → Fin 8) (hT : ∀ t, RouterMath.Top (RouterMath.soft (lgt x0 x1 x2 x3 x4 x5 x6 x7 t)) (i t) (j t))
include hT

theorem v98_at (t : Fin 2048) (e : Fin 8) : val_main_v98 (F := Ideal) x0 x1 x2 x3 x4 x5 x6 x7 (ix2 t e)
    = RouterMath.comb (RouterMath.soft (lgt x0 x1 x2 x3 x4 x5 x6 x7 t)) (i t) (j t) e.val := by
  rw [v98_eq]
  exact Cert.RouterRefIdeal.Val.v41_at _ _ _ _ _ t (i t) (j t) (hT t) e

theorem v99_at (t : Fin 2048) (e : Fin 8) : val_main_v99 (F := Ideal) x0 x1 x2 x3 x4 x5 x6 x7 (ix2 t e)
    = RouterMath.ind e.val (i t).val + RouterMath.ind e.val (j t).val := by
  rw [v99_eq]
  exact Cert.RouterRefIdeal.Val.v42_at _ _ _ _ _ t (i t) (j t) (hT t) e
end

/-- The layer's result at a token and a column. -/
def out (i j : Fin 2048 → Fin 8) (t : Fin 2048) (d : Fin 1024) : EReal :=
  Cert.RouterRefIdeal.Val.hid (ar x0 x1 x2 x3 x4) (rs x0) x5 t d
    + ∑ e : Fin 8, (∑ f : Fin 1024, ((∑ k : Fin 1024, nm x0 x1 x2 x3 x4 x5 x6 t k * x8 (ix3 e k f))
        * Ideal.logistic (∑ k : Fin 1024, nm x0 x1 x2 x3 x4 x5 x6 t k * x8 (ix3 e k f))) * x9 (ix3 e f d))
      * RouterMath.comb (RouterMath.soft (lgt x0 x1 x2 x3 x4 x5 x6 x7 t)) (i t) (j t) e.val

theorem v117_at (i j : Fin 2048 → Fin 8) (hT : ∀ t, RouterMath.Top (RouterMath.soft (lgt x0 x1 x2 x3 x4 x5 x6 x7 t)) (i t) (j t)) (t : Fin 2048) (d : Fin 1024) :
    val_main_v117 (F := Ideal) x0 x1 x2 x3 x4 x5 x6 x7 x8 x9 (ix2 t d) = out x0 x1 x2 x3 x4 x5 x6 x7 x8 x9 i j t d := by
  pointwise [val_main_v117, val_main_v107, val_main_v106, val_main_v105, val_main_v104, val_main_v103, val_main_v102, val_main_v101, val_main_v100, val_main_cst_12,
    val_main_call1_v0, val_main_call1_v1, val_main_call1_cst, val_main_call1_v2, val_main_call1_v3, val_main_call1_cst_0, val_main_call1_v4, val_main_call1_v5]
  unfold out
  rw [add_comm]
  refine Ideal.add_congr (v58_at x0 x1 x2 x3 x4 x5 t d) (Finset.sum_congr rfl fun e _ => Ideal.mul_congr (Finset.sum_congr rfl fun f _ => ?_) (v98_at x0 x1 x2 x3 x4 x5 x6 x7 i j hT t e))
  rw [mul_comm]
  simp only [v71_at]
  rfl

/-- The counts and the summed probabilities by lane. -/
abbrev cnt (i j : Fin 2048 → Fin 8) : FVec Ideal Cert.KernelIdeal.S1x128 .f32 := fun y => ∑ t : Fin 2048, (RouterMath.ind (y 1).val (i t).val + RouterMath.ind (y 1).val (j t).val)
abbrev prb : FVec Ideal Cert.KernelIdeal.S1x128 .f32 := fun y => ∑ t : Fin 2048, RouterMath.softL (RouterMath.lanes (lgt x0 x1 x2 x3 x4 x5 x6 x7 t) ⊥) (y 1)

theorem v116_at (i j : Fin 2048 → Fin 8) (hT : ∀ t, RouterMath.Top (RouterMath.soft (lgt x0 x1 x2 x3 x4 x5 x6 x7 t)) (i t) (j t)) (y : S_.Idx) (z : Cert.KernelIdeal.S1x128.Idx) :
    val_main_v116 (F := Ideal) x0 x1 x2 x3 x4 x5 x6 x7 y = Cert.KernelIdeal.M.auxOut (cnt i j) (prb x0 x1 x2 x3 x4 x5 x6 x7) z := by
  rw [← aux_eq]
  have hz : ∀ e : Fin 128, ¬ e.val < 8 → Ideal.div (cnt i j (ix2 0 e)) ((2048 : ℝ) : EReal) * Ideal.div (prb x0 x1 x2 x3 x4 x5 x6 x7 (ix2 0 e)) ((2048 : ℝ) : EReal) = 0 := fun e he => by
    have h0 : cnt i j (ix2 0 e) = (0 : EReal) := Finset.sum_eq_zero fun t _ => by
      show RouterMath.ind e.val (i t).val + RouterMath.ind e.val (j t).val = 0
      unfold RouterMath.ind
      rw [if_neg (by omega), if_neg (by omega), add_zero]
    rw [h0, Ideal.div_coe (by norm_num), zero_mul, zero_mul]
  rw [RouterMath.sum_lanes _ hz]
  pointwise [val_main_v116, val_main_v115, val_main_v114, val_main_v113, val_main_v112, val_main_v111, val_main_v110, val_main_v109, val_main_v108, val_main_cst_18, val_main_cst_17,
    val_main_cst_16, val_main_cst_15, val_main_cst_14, val_main_cst_13]
  rw [ofBits_eight, ofBits_tokens]
  refine Ideal.mul_congr rfl (Finset.sum_congr rfl fun e _ => Ideal.mul_congr ?_ ?_)
  · refine congrArg (fun x : EReal => Ideal.div x _) (Finset.sum_congr rfl fun t _ => ?_)
    exact v99_at x0 x1 x2 x3 x4 x5 x6 x7 i j hT t e
  · refine congrArg (fun x : EReal => Ideal.div x _) (Finset.sum_congr rfl fun t _ => ?_)
    exact (v83_at x0 x1 x2 x3 x4 x5 x6 x7 t e).trans (RouterMath.softL_cast _ e).symm

end Cert.RefIdeal.Val

end
-- ==== Proof.KClaim.lean ====
/-
  The whole kernel against its plain formula.
-/
module

public import proofs.«01_k».proof.Proof.KHost
public import proofs.«01_k».proof.Proof.KPPost
public import proofs.«01_k».proof.Proof.KRefB
public import proofs.«01_k».proof.Proof.Gen.RefIdeal.Run

@[expose] public section

set_option maxRecDepth 16384

noncomputable section

namespace Cert.KernelIdeal.L

open Cert.KernelIdeal Cert.KernelIdeal.Gen
open Idealize.ShloMosaic Idealize.ShloMosaic.TcCoe Idealize.SL.Sem
open Cert.RefIdeal.Val (ar rs lgt nm cnt prb out)

variable (m : (ℓ : Loc nD τ sig) → Buf (Elt Ideal) ℓ) (c : Dev nD)

/-- A token's logits, from the arguments as passed. -/
abbrev lg (t : Fin 2048) : Fin 8 → EReal := lgt (a0 m c) (a1 m c) (a2 m c) (a3 m c) (a4 m c) (a5 m c) (a6 m c) (a7 m c) t

/-! The third region's results, as the fourth region reads them. -/

theorem W9_h2 (t : Fin 2048) (d : Fin 1024) : (W9 m c (Proc.devRef .tc main_v16_0) : FVec Ideal S2048x1024 .f32) (ix2 t d)
    = Cert.RouterRefIdeal.Val.hid (AR m c) (rs (a0 m c)) (a5 m c) t d := by
  rw [W9_of m c main_v16_0 (by decide)]
  exact (congrFun ((W8_arr m c 5).trans (R.final5 (rd (W7 m)) c)) (ix2 t d)).trans (h2_hid m c t d)

theorem W9_nrm (t : Fin 2048) (d : Fin 1024) : (W9 m c (Proc.devRef .tc main_v16_1) : FVec Ideal S2048x1024 .bf16) (ix2 t d)
    = Cert.RouterRefIdeal.Val.nrm (AR m c) (rs (a0 m c)) (a5 m c) (a6 m c) t d := by
  rw [W9_of m c main_v16_1 (by decide)]
  exact (congrFun ((W8_arr m c 6).trans (R.final6 (rd (W7 m)) c)) (ix2 t d)).trans (nrm_ref m c t d)

theorem W9_arg (b : Ref sig .tc) (h1 : b ∉ hostOps0_W) (h2 : ∀ w, Pipeline.arrRef spec0 w ≠ b) (h3 : b ∉ hostOps1_W) (h4 : ∀ w, Pipeline.arrRef spec1 w ≠ b) (h5 : b ∉ hostOps2_W)
    (h6 : b ∉ hostOps2_1_W) (h7 : b ∉ hostOps2_2_W) (h8 : ∀ w, Pipeline.arrRef spec2 w ≠ b) : W8 m c (Proc.devRef .tc b) = m ((c : Thread nD τ).loc b) := by
  rw [W8_of m c b h8, W7_of m c b h7, W6_of m c b h6, W5_arg m c b h1 h2 h3 h4 h5]

theorem W9_v20 (i : S8x1024x1024.Idx) : (W9 m c (Proc.devRef .tc main_v20) : FVec Ideal S8x1024x1024 .bf16) i = a8 m c i := by
  simp only [W9, hostOps3, StableHlo.after_cons, StableHlo.after_nil]
  after_results_simp
  rw [W9_arg m c main_arg8 (by decide) (by decide) (by decide) (by decide) (by decide) (by decide) (by decide) (by decide)]
  rfl

theorem W9_v21 (i : S8x1024x1024.Idx) : (W9 m c (Proc.devRef .tc main_v21) : FVec Ideal S8x1024x1024 .bf16) i = a9 m c i := by
  simp only [W9, hostOps3, StableHlo.after_cons, StableHlo.after_nil]
  after_results_simp
  rw [W9_arg m c main_arg9 (by decide) (by decide) (by decide) (by decide) (by decide) (by decide) (by decide) (by decide)]
  rfl

theorem W9_v19_at (e : Fin 8) (t : Fin 2048) : (W9 m c (Proc.devRef .tc main_v19) : FVec Ideal S8x2048x1 .f32) (ix3 e t 0)
    = (W8 m c (Proc.devRef .tc main_v16_2) : FVec Ideal S2048x128 .f32) (ix2 t (e.castLE (by decide))) := by
  simp only [W9, hostOps3, StableHlo.after_cons, StableHlo.after_nil]
  after_results_simp
  pointwise
  rfl

theorem hid_of (X : FVec Ideal S2048x1024 .bf16) (W : FVec Ideal S8x1024x1024 .bf16) (n : Fin 1024 → EReal) (w : FVec Ideal S8x1024x1024 .f32) (e : Fin 8) (t : Fin 2048) (f : Fin 1024)
    (hX : ∀ k, X (ix2 t k) = n k) (hW : ∀ i, W i = w i) :
    M.hid X W e t f = (∑ k : Fin 1024, n k * w (ix3 e k f)) * Ideal.logistic (∑ k : Fin 1024, n k * w (ix3 e k f)) := by
  unfold M.hid
  simp only [hX, hW]

section
variable (i j : Fin 2048 → Fin 8) (hT : ∀ t, RouterMath.Top (RouterMath.soft (lg m c t)) (i t) (j t))
include hT

theorem hT' (t : Fin 2048) : RouterMath.Top (RouterMath.soft (R.tl (rd (W7 m)) c t)) (i t) (j t) := by
  rw [tl_ref]
  exact hT t

theorem W9_v19 (e : Fin 8) (t : Fin 2048) : (W9 m c (Proc.devRef .tc main_v19) : FVec Ideal S8x2048x1 .f32) (ix3 e t 0)
    = RouterMath.comb (RouterMath.soft (lg m c t)) (i t) (j t) e.val := by
  refine (W9_v19_at m c e t).trans ((congrFun ((W8_arr m c 7).trans (R.final7 (rd (W7 m)) c i j (hT' m c i j hT))) (ix2 t (e.castLE (by decide)))).trans ?_)
  show RouterMath.comb (RouterMath.soft (R.tl (rd (W7 m)) c t)) (i t) (j t) e.val = _
  rw [tl_ref]

theorem W9_cnt : (W9 m c (Proc.devRef .tc main_v16_3) : FVec Ideal S1x128 .f32) = cnt i j := by
  rw [W9_of m c main_v16_3 (by decide)]
  exact (W8_arr m c 8).trans (R.final8 (rd (W7 m)) c i j (hT' m c i j hT))

omit hT in
theorem W9_prb : (W9 m c (Proc.devRef .tc main_v16_4) : FVec Ideal S1x128 .f32) = prb (a0 m c) (a1 m c) (a2 m c) (a3 m c) (a4 m c) (a5 m c) (a6 m c) (a7 m c) := by
  rw [W9_of m c main_v16_4 (by decide)]
  refine (W8_arr m c 9).trans ((R.final9 (rd (W7 m)) c).trans ?_)
  funext y
  exact Finset.sum_congr rfl fun t _ => by rw [tl_ref]

/-! The last region and the last stretch. -/

theorem W10_out : (W10 m c (Proc.devRef .tc main_v22_0) : FVec Ideal S2048x1024 .f32)
    = Cert.RefIdeal.Read.val_main_v117 (F := Ideal) (a0 m c) (a1 m c) (a2 m c) (a3 m c) (a4 m c) (a5 m c) (a6 m c) (a7 m c) (a8 m c) (a9 m c) := by
  refine (W10_arr m c 7).trans ((M.final7 (rd (W9 m)) c).trans ?_)
  funext y
  idx_vars y
  refine Eq.trans ?_ (Cert.RefIdeal.Val.v117_at (a0 m c) (a1 m c) (a2 m c) (a3 m c) (a4 m c) (a5 m c) (a6 m c) (a7 m c) (a8 m c) (a9 m c) i j hT y0 y1).symm
  unfold out M.moeOut M.part
  refine Ideal.add_congr (W9_h2 m c y0 y1) (Finset.sum_congr rfl fun e _ => Ideal.mul_congr (Finset.sum_congr rfl fun f _ => Ideal.mul_congr ?_ (W9_v21 m c _)) (W9_v19 m c i j hT e y0))
  exact hid_of _ _ _ _ e y0 f (W9_nrm m c y0) (W9_v20 m c)

theorem W11_out : (W11 m c (Proc.devRef .tc main_v23) : FVec Ideal S1x2048x1024 .f32)
    = Cert.RefIdeal.Read.val_main_v118 (F := Ideal) (a0 m c) (a1 m c) (a2 m c) (a3 m c) (a4 m c) (a5 m c) (a6 m c) (a7 m c) (a8 m c) (a9 m c) := by
  simp only [W11, hostOps4, StableHlo.after_cons, StableHlo.after_nil]
  after_results_simp
  exact congrArg (fun X : FVec Ideal S2048x1024 .f32 => shapeCast S1x2048x1024 X shapeCasts_S2048x1024_S1x2048x1024) (W10_out m c i j hT)

theorem W11_aux : (W11 m c (Proc.devRef .tc main_v25) : FVec Ideal S_ .f32)
    = Cert.RefIdeal.Read.val_main_v116 (F := Ideal) (a0 m c) (a1 m c) (a2 m c) (a3 m c) (a4 m c) (a5 m c) (a6 m c) (a7 m c) := by
  simp only [W11, hostOps4, StableHlo.after_cons, StableHlo.after_nil]
  after_results_simp
  have h : (W10 m c (Proc.devRef .tc main_v22_1) : FVec Ideal S1x128 .f32) = M.auxOut (cnt i j) (prb (a0 m c) (a1 m c) (a2 m c) (a3 m c) (a4 m c) (a5 m c) (a6 m c) (a7 m c)) := by
    refine (W10_arr m c 8).trans ((M.final8 (rd (W9 m)) c).trans ?_)
    rw [show rd (W9 m) c main_v16_3 = cnt i j from W9_cnt m c i j hT, show rd (W9 m) c main_v16_4 = _ from W9_prb m c]
  refine (congrArg (fun X : FVec Ideal S1x128 .f32 => shapeCast S_ (extractStridedSlice S1x1 ![0, 0] X slices_S1x128_S1x1_0_0) shapeCasts_S1x1_S_) h).trans ?_
  funext y
  exact (Cert.RefIdeal.Val.v116_at (a0 m c) (a1 m c) (a2 m c) (a3 m c) (a4 m c) (a5 m c) (a6 m c) (a7 m c) i j hT y (ix2 0 0)).symm
end

/-- Every run ends, leaves the arguments as they were and no semaphore raised. -/
theorem frame {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h.1 c).2.2, h.2⟩) (run_result m ρ)

/-- The run with its results and arguments. -/
theorem run_vals (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v23) = W11 m c (Proc.devRef .tc main_v23)
      ∧ r.2.mem ((c.tc : Thread nD τ).loc main_v25) = W11 m c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h => h.1) (run_result m ρ)

end Cert.KernelIdeal.L

namespace Cert.Kernel.L

open Cert.Kernel Cert.Kernel.Gen
open Idealize.ShloMosaic Idealize.ShloMosaic.TcCoe Idealize.SL.Sem

/-- Every run ends, leaves the arguments as they were and no semaphore raised. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h.1 c).2.2, h.2⟩) (run_result m ρ)

end Cert.Kernel.L

namespace Cert.RefIdeal.Val

open Cert.RefIdeal
open Idealize.ShloMosaic Idealize.ShloMosaic.TcCoe Idealize.SL.Sem

/-- The reference's run with its results and arguments. -/
theorem run_vals (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v118) = Cert.RefIdeal.Read.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v116) = Cert.RefIdeal.Read.val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (Cert.RefIdeal.Read.val_main_v118_eq (F := Ideal) (StableHlo.launchContents m c)),
    (h c).2.1.trans (Cert.RefIdeal.Read.val_main_v116_eq (F := Ideal) (StableHlo.launchContents m c)), (h c).2.2⟩) (Cert.RefIdeal.Value.run (F := Ideal) m ρ)

end Cert.RefIdeal.Val

namespace Cert.Proof

open Idealize.ShloMosaic Idealize.SL.Sem

theorem quiescent_whole_ref : Cert.quiescent_RefIdeal := fun m ρ _ =>
  (θ_run Cert.RefIdeal.defs _ _).mono (fun r h => ⟨fun c => (h c).2.2, Idealize.ShloMosaic.sem_eq_zero_of_no_sems (by decide) r.2⟩)
    (Cert.RefIdeal.Value.run (F := Ideal) m ρ)

theorem quiescent_whole_ref_pre : Cert.quiescent_RefIdeal_pre_untied_block := fun m ρ _ => quiescent_whole_ref m ρ trivial

theorem quiescent_whole_rounded : Cert.quiescent_Kernel := fun m ρ _ => Cert.Kernel.L.frame m ρ

theorem quiescent_whole : Cert.quiescent_KernelIdeal := fun m ρ _ => Cert.KernelIdeal.L.frame m ρ

theorem quiescent_whole_pre : Cert.quiescent_KernelIdeal_pre_untied_block := fun m ρ _ => Cert.KernelIdeal.L.frame m ρ

theorem preserves_whole : Cert.preserves_Kernel_KernelIdeal :=
  ⟨IdealRules.named_const.statement Cert.KernelIdeal.κ "scale" .f32 0x3E38AA3B#32 (((Real.log 2)⁻¹ * (Real.sqrt 64)⁻¹ : ℝ) : EReal) rfl,
    IdealRules.named_const.statement Cert.KernelIdeal.κ "inv_ln2" .f32 0x3FB8AA3B#32 (((Real.log 2)⁻¹ : ℝ) : EReal) rfl,
    IdealRules.named_const.statement Cert.KernelIdeal.κ "mask" .f32 0xF149F2CA#32 (⊥ : EReal) rfl⟩

set_option maxHeartbeats 1600000 in
theorem algebraic_whole : Cert.algebraic_KernelIdeal_RefIdeal_pre_untied_block := by
  pair_intro
  · run_from Cert.KernelIdeal.L.run_vals m g
  · have hc : ∀ c, ∀ t, ∃ i j, RouterMath.Top (RouterMath.soft (Cert.KernelIdeal.L.lg m c t)) i j := fun c t =>
      Cert.RefIdeal.Val.top _ _ _ _ _ _ _ _ _ _ (hpre c) t
    choose i j hT using hc
    run_from Cert.RefIdeal.Val.run_vals m' g'
    · exact (Cert.KernelIdeal.L.W11_out m c (i c) (j c) (hT c)).symm
    · exact (Cert.KernelIdeal.L.W11_aux m c (i c) (j c) (hT c)).symm

end Cert.Proof

end
-- ==== Proof.MoeBody.lean ====
/-
  The mixture-of-experts body run once from known block contents: what its two result buffers hold afterwards.
-/
module

public import proofs.«01_k».proof.Proof.Gen.MoeIdeal.Skeleton
public import proofs.«01_k».proof.Proof.Gen.MoeIdeal.Frame
public import Idealize.ShloMosaic.Lib.Pipeline.Value
public import Idealize.ShloMosaic.Lib.Pipeline.ValueKit
public import Idealize.ShloMosaic.Lib.Tactic

@[expose] public section

set_option maxRecDepth 16384

noncomputable section

namespace Cert.MoeIdeal.Val

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- What a buffer reads after writes of which the last is of the whole of it: that last write's contents. -/
theorem read_writes_whole {κ : Kind} {sp : Space} {S : Shape} {e : EltTy} {off : Fin S.rank → Nat} (h : off = fun _ => 0)
    (v : View sig κ sp S e) (f : v.ty.Contents (Elt F)) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self, by
    subst h; rw [Rect.mem_set_unit]; intro a; exact ⟨Nat.zero_le _, by rw [Nat.zero_add]; exact (y a).isLt⟩⟩]
  exact View.canon_cons_unit_zero h inb w L

/-- The first conditional's test: the expert coordinate is zero. -/
abbrev condE (i : grid0.Coords) : Prop := (Scalar.cmpi .ne (Scalar.extui (Scalar.cmpi .eq (BitVec.ofNat 32 (i 1).val) 0#32)) 0#32) = 1#1

theorem hcondE (t : Fin cfg0.N) : condE (grid0.coords t) ↔ t.val % 8 = 0 := by
  have ht : t.val < 64 := Nat.lt_of_lt_of_eq t.isLt N_0
  have e1 : (grid0.coords t 1).val = t.val / 1 % 8 := Pipeline.Grid.coords_val t 1 (by decide) rfl
  simp only [condE, e1]
  word_cmp

/-- The second conditional's test: the first point of the grid. -/
abbrev condF (i : grid0.Coords) : Prop := k0_cond2 i = 1#1

theorem hcondF (t : Fin cfg0.N) : condF (grid0.coords t) ↔ t.val % 64 = 0 := by
  have ht : t.val < 64 := Nat.lt_of_lt_of_eq t.isLt N_0
  have e0 : (grid0.coords t 0).val = t.val / 8 % 8 := Pipeline.Grid.coords_val t 0 (by decide) rfl
  have e1 : (grid0.coords t 1).val = t.val / 1 % 8 := Pipeline.Grid.coords_val t 1 (by decide) rfl
  simp only [condF, k0_cond2, e0, e1]
  word_cmp

/-- One expert's addition to the running block `acc`: the selected expert's two weight slabs applied to the
    token block, scaled by the block's combine weights. -/
def step (i : grid0.Coords) (x0 : Vec F S256x1024 .bf16) (x2 x3 : Vec F S8x1024x1024 .bf16) (x4 : Vec F S1x256x1 .f32)
    (acc : Vec F S256x1024 .f32) : Vec F S256x1024 .f32 :=
  k0_pay1 x0 (View.ld x2 (Rect.unit (s := S8x1024x1024) (k0_off1 i) S1x1024x1024.size (k0_off1_inb i)))
    (View.ld x3 (Rect.unit (s := S8x1024x1024) (k0_off1 i) S1x1024x1024.size (k0_off1_inb i))) acc x4

set_option maxHeartbeats 1000000 in
/-- At the first point: the running block starts from the residual block, and the auxiliary row is stored. -/
theorem run_first (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S8x1024x1024 .bf16) (harg4 : arg4.IsWhole) (arg5 : Memref sig .tc .vmem S8x1024x1024 .bf16) (harg5 : arg5.IsWhole) (arg6 : Memref sig .tc .vmem S1x256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x1024 .f32) (harg9 : arg9.IsWhole) (arg10 : Memref sig .tc .vmem S1x128 .f32) (harg10 : arg10.IsWhole) (hc0 : condE i) (hc1 : condF i)
    (x0 : Vec F S256x1024 .bf16) (x1 : Vec F S256x1024 .f32) (x2 : Vec F S8x1024x1024 .bf16) (x3 : Vec F S8x1024x1024 .bf16) (x4 : Vec F S1x256x1 .f32) (x5 : Vec F S1x128 .f32) (x6 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (step i x0 x2 x3 x4 x1) ∗ owns (c : Thread nD τ) arg10 fullShare (k0_pay2 x5 x6)) -∗ K ⟨⟩))
      ⊢ wp frame (wpE (defs₀ (F := F)) Variants.none c none) E (cc0__moe_body i arg2 harg2 arg3 harg3 arg4 harg4 arg5 harg5 arg6 harg6 arg7 harg7 arg8 harg8 arg9 harg9 arg10 harg10) K := by
  simp only [cc0__moe_body_eq_skeleton]; unfold cc0__moe_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_words
    rw [read_writes_whole (S := S256x1024) hz2]
    unfold step
    simp only [View.readCov_unit_zero (S := S256x1024) _ hz2, View.readAt_eq_ld, harg2.read_unread, harg3.read_unread, harg4.read_unread, harg5.read_unread, harg6.read_unread, harg9.read_unread, View.ld_unit_zero (S := S256x1024) hz2, View.ld_unit_zero (S := S1x256x1) hz3]
    rfl
  iexists _; isplitr; swap; · iexact H8
  ipureintro
  rw [read_writes_whole (S := S1x128) hz2]
  simp only [View.readAt_eq_ld, harg7.read_unread, harg8.read_unread, View.ld_unit_zero (S := S1x128) hz2]

set_option maxHeartbeats 1000000 in
/-- At another point of expert zero: the running block starts from the residual block. -/
theorem run_reset (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S8x1024x1024 .bf16) (harg4 : arg4.IsWhole) (arg5 : Memref sig .tc .vmem S8x1024x1024 .bf16) (harg5 : arg5.IsWhole) (arg6 : Memref sig .tc .vmem S1x256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x1024 .f32) (harg9 : arg9.IsWhole) (arg10 : Memref sig .tc .vmem S1x128 .f32) (harg10 : arg10.IsWhole) (hc0 : condE i) (hc1 : ¬ condF i)
    (x0 : Vec F S256x1024 .bf16) (x1 : Vec F S256x1024 .f32) (x2 : Vec F S8x1024x1024 .bf16) (x3 : Vec F S8x1024x1024 .bf16) (x4 : Vec F S1x256x1 .f32) (x5 : Vec F S1x128 .f32) (x6 : Vec F S1x128 .f32) (y8 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare y8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (step i x0 x2 x3 x4 x1) ∗ owns (c : Thread nD τ) arg10 fullShare y8) -∗ K ⟨⟩))
      ⊢ wp frame (wpE (defs₀ (F := F)) Variants.none c none) E (cc0__moe_body i arg2 harg2 arg3 harg3 arg4 harg4 arg5 harg5 arg6 harg6 arg7 harg7 arg8 harg8 arg9 harg9 arg10 harg10) K := by
  simp only [cc0__moe_body_eq_skeleton]; unfold cc0__moe_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_words
    rw [read_writes_whole (S := S256x1024) hz2]
    unfold step
    simp only [View.readCov_unit_zero (S := S256x1024) _ hz2, View.readAt_eq_ld, harg2.read_unread, harg3.read_unread, harg4.read_unread, harg5.read_unread, harg6.read_unread, harg9.read_unread, View.ld_unit_zero (S := S256x1024) hz2, View.ld_unit_zero (S := S1x256x1) hz3]
    rfl
  iexists _; isplitr; swap; · iexact H8
  ipureintro; exact harg10.read_unread _

set_option maxHeartbeats 1000000 in
/-- At a point of a later expert: the running block is added to. -/
theorem run_step (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S8x1024x1024 .bf16) (harg4 : arg4.IsWhole) (arg5 : Memref sig .tc .vmem S8x1024x1024 .bf16) (harg5 : arg5.IsWhole) (arg6 : Memref sig .tc .vmem S1x256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x1024 .f32) (harg9 : arg9.IsWhole) (arg10 : Memref sig .tc .vmem S1x128 .f32) (harg10 : arg10.IsWhole) (hc0 : ¬ condE i) (hc1 : ¬ condF i)
    (x0 : Vec F S256x1024 .bf16) (x1 : Vec F S256x1024 .f32) (x2 : Vec F S8x1024x1024 .bf16) (x3 : Vec F S8x1024x1024 .bf16) (x4 : Vec F S1x256x1 .f32) (x5 : Vec F S1x128 .f32) (x6 : Vec F S1x128 .f32) (y7 : Vec F S256x1024 .f32) (y8 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y7 ∗ owns (c : Thread nD τ) arg10 fullShare y8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (step i x0 x2 x3 x4 y7) ∗ owns (c : Thread nD τ) arg10 fullShare y8) -∗ K ⟨⟩))
      ⊢ wp frame (wpE (defs₀ (F := F)) Variants.none c none) E (cc0__moe_body i arg2 harg2 arg3 harg3 arg4 harg4 arg5 harg5 arg6 harg6 arg7 harg7 arg8 harg8 arg9 harg9 arg10 harg10) K := by
  simp only [cc0__moe_body_eq_skeleton]; unfold cc0__moe_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    sl_unfold_words
    rw [read_writes_whole (S := S256x1024) hz2]
    unfold step
    simp only [View.readCov_unit_zero (S := S256x1024) _ hz2, View.readAt_eq_ld, harg2.read_unread, harg3.read_unread, harg4.read_unread, harg5.read_unread, harg6.read_unread, harg9.read_unread, View.ld_unit_zero (S := S256x1024) hz2, View.ld_unit_zero (S := S1x256x1) hz3]
    rfl
  iexists _; isplitr; swap; · iexact H8
  ipureintro; exact harg10.read_unread _

end Cert.MoeIdeal.Val

end
-- ==== Proof.MoeRun.lean ====
/-
  The mixture-of-experts pipeline's contents point by point: the running block of each token tile, the auxiliary
  row, and the body's triple at every grid point between them.
-/
module

public import proofs.«01_k».proof.Proof.MoeBody

@[expose] public section

set_option maxRecDepth 16384

noncomputable section

namespace Cert.MoeIdeal.Val

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore buffers hold when the region is entered
variable (V : (c : Dev nD) → (b : Ref sig .tc) → Buf (Elt F) ((c : Thread nD τ).loc b))

/-- Window `w`'s block at point `t` of the array the region finds. -/
def blkV (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running block after point `n`: restarted from the residual block at each tile's first point. -/
def run7 (c : Dev nD) : (n : ℕ) → n < cfg0.N → Vec F S256x1024 .f32
  | 0, h => step (grid0.coords ⟨0, h⟩) (blkV V c 0 ⟨0, h⟩) (blkV V c 2 ⟨0, h⟩) (blkV V c 3 ⟨0, h⟩) (blkV V c 4 ⟨0, h⟩) (blkV V c 1 ⟨0, h⟩)
  | n + 1, h => step (grid0.coords ⟨n + 1, h⟩) (blkV V c 0 ⟨n + 1, h⟩) (blkV V c 2 ⟨n + 1, h⟩) (blkV V c 3 ⟨n + 1, h⟩) (blkV V c 4 ⟨n + 1, h⟩)
      (if (n + 1) % 8 = 0 then blkV V c 1 ⟨n + 1, h⟩ else run7 c n (Nat.lt_of_succ_lt h))

theorem pos0 : 0 < cfg0.N := by rw [show cfg0.N = 64 from N_0]; decide

/-- The auxiliary row, as the first point stores it. -/
def aux8 (c : Dev nD) : Vec F S1x128 .f32 := k0_pay2 (blkV V c 5 ⟨0, pos0⟩) (blkV V c 6 ⟨0, pos0⟩)

theorem run7_reset (c : Dev nD) (t : Fin cfg0.N) (h0 : t.val % 8 = 0) :
    run7 V c t.val t.isLt = step (grid0.coords t) (blkV V c 0 t) (blkV V c 2 t) (blkV V c 3 t) (blkV V c 4 t) (blkV V c 1 t) := by
  obtain ⟨n, hn⟩ := t
  cases n with
  | zero => rfl
  | succ n =>
    show step _ _ _ _ _ (if (n + 1) % 8 = 0 then _ else _) = _
    rw [if_pos h0]

theorem run7_step (c : Dev nD) (t : Fin cfg0.N) (h0 : ¬ t.val % 8 = 0) :
    run7 V c t.val t.isLt = step (grid0.coords t) (blkV V c 0 t) (blkV V c 2 t) (blkV V c 3 t) (blkV V c 4 t)
      (run7 V c (t.val - 1) (Nat.lt_of_le_of_lt (Nat.sub_le _ _) t.isLt)) := by
  obtain ⟨n, hn⟩ := t
  cases n with
  | zero => exact absurd rfl h0
  | succ n =>
    show step _ _ _ _ _ (if (n + 1) % 8 = 0 then _ else _) = _
    rw [if_neg h0]; rfl

/-- The pipeline's proof data: what each window's buffer holds after each point. -/
def dat (c : Dev nD) : Dat τ (Elt F) Unit ℕ (UR sig nD τ) ℕ cfg0 c where
  A w := V c (Pipeline.arrRef spec0 w)
  after w t := match w with
    | ⟨0, _⟩ => blkV V c 0 t
    | ⟨1, _⟩ => blkV V c 1 t
    | ⟨2, _⟩ => blkV V c 2 t
    | ⟨3, _⟩ => blkV V c 3 t
    | ⟨4, _⟩ => blkV V c 4 t
    | ⟨5, _⟩ => blkV V c 5 t
    | ⟨6, _⟩ => blkV V c 6 t
    | ⟨7, _⟩ => run7 V c t.val t.isLt
    | ⟨8, _⟩ => aux8 V c
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blkV V c 0 t := by dsimp only [dat]
theorem after_1 (c : Dev nD) (t : Fin cfg0.N) : (dat V c).after 1 t = blkV V c 1 t := by dsimp only [dat]
theorem after_2 (c : Dev nD) (t : Fin cfg0.N) : (dat V c).after 2 t = blkV V c 2 t := by dsimp only [dat]
theorem after_3 (c : Dev nD) (t : Fin cfg0.N) : (dat V c).after 3 t = blkV V c 3 t := by dsimp only [dat]
theorem after_4 (c : Dev nD) (t : Fin cfg0.N) : (dat V c).after 4 t = blkV V c 4 t := by dsimp only [dat]
theorem after_5 (c : Dev nD) (t : Fin cfg0.N) : (dat V c).after 5 t = blkV V c 5 t := by dsimp only [dat]
theorem after_6 (c : Dev nD) (t : Fin cfg0.N) : (dat V c).after 6 t = blkV V c 6 t := by dsimp only [dat]
theorem after_7 (c : Dev nD) (t : Fin cfg0.N) : (dat V c).after 7 t = run7 V c t.val t.isLt := by dsimp only [dat]
theorem after_8 (c : Dev nD) (t : Fin cfg0.N) : (dat V c).after 8 t = aux8 V c := by dsimp only [dat]

theorem before_0 (c : Dev nD) (t : Fin cfg0.N) (d) : (dat V c).before 0 t d = blkV V c 0 t :=
  ((dat V c).before_in_eq_fetched 0 rfl (fun _ => rfl) (fun _ _ _ => rfl) (fun t => by rw [after_0]; unfold Dat.blockOf blkV; rw [A_eq]; try rfl) t d).trans
    (by unfold Dat.fetched Dat.blockOf blkV; rw [A_eq]; try rfl)
theorem before_1 (c : Dev nD) (t : Fin cfg0.N) (d) : (dat V c).before 1 t d = blkV V c 1 t :=
  ((dat V c).before_in_eq_fetched 1 rfl (fun _ => rfl) (fun _ _ _ => rfl) (fun t => by rw [after_1]; unfold Dat.blockOf blkV; rw [A_eq]; try rfl) t d).trans
    (by unfold Dat.fetched Dat.blockOf blkV; rw [A_eq]; try rfl)
theorem before_2 (c : Dev nD) (t : Fin cfg0.N) (d) : (dat V c).before 2 t d = blkV V c 2 t :=
  ((dat V c).before_in_eq_fetched 2 rfl (fun _ => rfl) (fun _ _ _ => rfl) (fun t => by rw [after_2]; unfold Dat.blockOf blkV; rw [A_eq]; try rfl) t d).trans
    (by unfold Dat.fetched Dat.blockOf blkV; rw [A_eq]; try rfl)
theorem before_3 (c : Dev nD) (t : Fin cfg0.N) (d) : (dat V c).before 3 t d = blkV V c 3 t :=
  ((dat V c).before_in_eq_fetched 3 rfl (fun _ => rfl) (fun _ _ _ => rfl) (fun t => by rw [after_3]; unfold Dat.blockOf blkV; rw [A_eq]; try rfl) t d).trans
    (by unfold Dat.fetched Dat.blockOf blkV; rw [A_eq]; try rfl)
theorem before_4 (c : Dev nD) (t : Fin cfg0.N) (d) : (dat V c).before 4 t d = blkV V c 4 t :=
  ((dat V c).before_in_eq_fetched 4 rfl (fun _ => rfl) (fun _ _ _ => rfl) (fun t => by rw [after_4]; unfold Dat.blockOf blkV; rw [A_eq]; try rfl) t d).trans
    (by unfold Dat.fetched Dat.blockOf blkV; rw [A_eq]; try rfl)
theorem before_5 (c : Dev nD) (t : Fin cfg0.N) (d) : (dat V c).before 5 t d = blkV V c 5 t :=
  ((dat V c).before_in_eq_fetched 5 rfl (fun _ => rfl) (fun _ _ _ => rfl) (fun t => by rw [after_5]; unfold Dat.blockOf blkV; rw [A_eq]; try rfl) t d).trans
    (by unfold Dat.fetched Dat.blockOf blkV; rw [A_eq]; try rfl)
theorem before_6 (c : Dev nD) (t : Fin cfg0.N) (d) : (dat V c).before 6 t d = blkV V c 6 t :=
  ((dat V c).before_in_eq_fetched 6 rfl (fun _ => rfl) (fun _ _ _ => rfl) (fun t => by rw [after_6]; unfold Dat.blockOf blkV; rw [A_eq]; try rfl) t d).trans
    (by unfold Dat.fetched Dat.blockOf blkV; rw [A_eq]; try rfl)

/-- Within a tile the running block's buffer holds what the point before left. -/
theorem before_7 (c : Dev nD) (t : Fin cfg0.N) (h0 : ¬ t.val % 8 = 0) (d) :
    (dat V c).before 7 t d = run7 V c (t.val - 1) (Nat.lt_of_le_of_lt (Nat.sub_le _ _) t.isLt) := by
  have ht : t.val ≠ 0 := fun h => h0 (by rw [h])
  refine ((dat V c).before_out_kept 7 rfl t ht ?_ (fun _ => rfl) (fun _ _ => rfl) d).trans (after_7 V c _)
  exact Bool.eq_false_iff.mpr fun h => by
    have := (flush0_7 _).mp h
    dsimp only at this
    omega

theorem idle8 (t : Fin cfg0.N) (h : ¬ t.val % 64 = 0) : cfg0.idle 8 (grid0.coords t) = true := by
  have h' : ¬ (k0_cond2 (grid0.coords t) = 1#1) := fun hh => h ((hcondF t).mp hh)
  show (!(k0_cond2 (grid0.coords t) == 1#1)) = true
  rw [Bool.not_eq_true', beq_eq_false_iff_ne]; exact h'

theorem live8 (t : Fin cfg0.N) (h : t.val % 64 = 0) : cfg0.idle 8 (grid0.coords t) = false := by
  have h' : k0_cond2 (grid0.coords t) = 1#1 := (hcondF t).mpr h
  show (!(k0_cond2 (grid0.coords t) == 1#1)) = false
  rw [Bool.not_eq_false', beq_iff_eq]; exact h'

/-- After the first point the auxiliary row stays in its buffer. -/
theorem before_8 (c : Dev nD) : ∀ (n : ℕ) (hn : n < cfg0.N) (_ : n ≠ 0) (d), (dat V c).before 8 ⟨n, hn⟩ d = aux8 V c
  | 0, _, h0, _ => absurd rfl h0
  | n + 1, hn, _, d => by
    have hN : n + 1 < 64 := lt_of_lt_of_eq hn (show cfg0.N = 64 from N_0)
    rw [(dat V c).before_of_pos 8 ⟨n + 1, hn⟩ (Nat.succ_ne_zero n) ((cfg0.win 8).fetch_out rfl _)]
    have hfl : (cfg0.win 8).flush ⟨n, Nat.lt_of_succ_lt hn⟩ = false := Bool.eq_false_iff.mpr fun h => by
      have := (flush0_8 _).mp h
      dsimp only at this
      omega
    show (if (cfg0.win 8).flush ⟨n, Nat.lt_of_succ_lt hn⟩ = true then d else (dat V c).left 8 ⟨n, Nat.lt_of_succ_lt hn⟩ d) = _
    rw [hfl, if_neg Bool.false_ne_true]
    unfold Dat.left
    by_cases hz : n = 0
    · rw [live8 ⟨n, Nat.lt_of_succ_lt hn⟩ (by dsimp only; omega)]
      show (dat V c).kept 8 _ d = _
      unfold Dat.kept
      rw [Pipeline.fill_of_clip_none 8 _ (fun _ => rfl) d ((dat V c).after 8 _), Window.fill_cut, after_8]
    · rw [idle8 ⟨n, Nat.lt_of_succ_lt hn⟩ (by dsimp only; omega)]
      exact before_8 c n (Nat.lt_of_succ_lt hn) hz d

abbrev st0 (t : Fin cfg0.N) : Memref sig .tc .vmem S256x1024 .bf16 := win0_0.stage (cfg0.slots t 0)
abbrev st1 (t : Fin cfg0.N) : Memref sig .tc .vmem S256x1024 .f32 := win0_1.stage (cfg0.slots t 1)
abbrev st2 (t : Fin cfg0.N) : Memref sig .tc .vmem S8x1024x1024 .bf16 := win0_2.stage (cfg0.slots t 2)
abbrev st3 (t : Fin cfg0.N) : Memref sig .tc .vmem S8x1024x1024 .bf16 := win0_3.stage (cfg0.slots t 3)
abbrev st4 (t : Fin cfg0.N) : Memref sig .tc .vmem S1x256x1 .f32 := win0_4.stage (cfg0.slots t 4)
abbrev st5 (t : Fin cfg0.N) : Memref sig .tc .vmem S1x128 .f32 := win0_5.stage (cfg0.slots t 5)
abbrev st6 (t : Fin cfg0.N) : Memref sig .tc .vmem S1x128 .f32 := win0_6.stage (cfg0.slots t 6)
abbrev st7 (t : Fin cfg0.N) : Memref sig .tc .vmem S256x1024 .f32 := win0_7.stage (cfg0.slots t 7)
abbrev st8 (t : Fin cfg0.N) : Memref sig .tc .vmem S1x128 .f32 := win0_8.stage (cfg0.slots t 8)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0 t) fullShare ((dat V c).before 0 t d))
    ∗ (∃ d, owns (c : Thread nD τ) (st1 t) fullShare ((dat V c).before 1 t d))
    ∗ (∃ d, owns (c : Thread nD τ) (st2 t) fullShare ((dat V c).before 2 t d))
    ∗ (∃ d, owns (c : Thread nD τ) (st3 t) fullShare ((dat V c).before 3 t d))
    ∗ (∃ d, owns (c : Thread nD τ) (st4 t) fullShare ((dat V c).before 4 t d))
    ∗ (∃ d, owns (c : Thread nD τ) (st5 t) fullShare ((dat V c).before 5 t d))
    ∗ (∃ d, owns (c : Thread nD τ) (st6 t) fullShare ((dat V c).before 6 t d))
    ∗ (∃ d, owns (c : Thread nD τ) (st7 t) fullShare ((dat V c).before 7 t d))
    ∗ (∃ d, owns (c : Thread nD τ) (st8 t) fullShare ((dat V c).before 8 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

theorem leaves_0 (c : Dev nD) (t : Fin cfg0.N) : (dat V c).leavesExact 0 t = owns (c : Thread nD τ) (st0 t) fullShare (blkV V c 0 t) := by
  rw [← after_0]
theorem leaves_1 (c : Dev nD) (t : Fin cfg0.N) : (dat V c).leavesExact 1 t = owns (c : Thread nD τ) (st1 t) fullShare (blkV V c 1 t) := by
  rw [← after_1]
theorem leaves_2 (c : Dev nD) (t : Fin cfg0.N) : (dat V c).leavesExact 2 t = owns (c : Thread nD τ) (st2 t) fullShare (blkV V c 2 t) := by
  rw [← after_2]
theorem leaves_3 (c : Dev nD) (t : Fin cfg0.N) : (dat V c).leavesExact 3 t = owns (c : Thread nD τ) (st3 t) fullShare (blkV V c 3 t) := by
  rw [← after_3]
theorem leaves_4 (c : Dev nD) (t : Fin cfg0.N) : (dat V c).leavesExact 4 t = owns (c : Thread nD τ) (st4 t) fullShare (blkV V c 4 t) := by
  rw [← after_4]
theorem leaves_5 (c : Dev nD) (t : Fin cfg0.N) : (dat V c).leavesExact 5 t = owns (c : Thread nD τ) (st5 t) fullShare (blkV V c 5 t) := by
  rw [← after_5]
theorem leaves_6 (c : Dev nD) (t : Fin cfg0.N) : (dat V c).leavesExact 6 t = owns (c : Thread nD τ) (st6 t) fullShare (blkV V c 6 t) := by
  rw [← after_6]
theorem leaves_7 (c : Dev nD) (t : Fin cfg0.N) : (dat V c).leavesExact 7 t = owns (c : Thread nD τ) (st7 t) fullShare (run7 V c t.val t.isLt) := by
  rw [← after_7]
theorem leaves_8 (c : Dev nD) (t : Fin cfg0.N) (h : t.val % 64 = 0) : (dat V c).leavesExact 8 t = owns (c : Thread nD τ) (st8 t) fullShare (aux8 V c) := by
  unfold Dat.leavesExact; rw [live8 t h, ← after_8 V c t]
/-- Once stored, the auxiliary row satisfies what each later point must leave, whether or not it is written back there. -/
theorem leaves_8' (c : Dev nD) (t : Fin cfg0.N) (h : ¬ t.val % 64 = 0) : owns (c : Thread nD τ) (st8 t) fullShare (aux8 V c) ⊢ (dat V c).leavesExact 8 t := by
  unfold Dat.leavesExact; rw [idle8 t h]
  dsimp only
  cases (cfg0.win 8).flush t
  · dsimp only
    iintro H
    iexists (aux8 V c)
    rw [before_8 V c t.val t.isLt (fun h0 => h (by rw [h0]))]
    iexact H
  · dsimp only
    rw [after_8]

set_option maxHeartbeats 2400000 in
/-- The body at any point, by the point's case. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, leaves_0, leaves_1, leaves_2, leaves_3, leaves_4, leaves_5, leaves_6, leaves_7]
  rw [show (dat V c).Φ t.succ = (dat V c).Φ t.castSucc from rfl,
    show (dat V c).owesAt () t.succ = (dat V c).owesAt () t.castSucc from rfl]
  have hN : t.val < 64 := lt_of_lt_of_eq t.isLt (show cfg0.N = 64 from N_0)
  by_cases h1 : t.val % 64 = 0
  · have h0 : t.val % 8 = 0 := by omega
    obtain rfl : t = ⟨0, pos0⟩ := Fin.ext (by dsimp only; omega)
    rw [leaves_8 V c _ h1, run7_reset V c _ h0]
    unfold aux8
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords ⟨0, pos0⟩) _ _ _ _ _ _ _ _ _ _ _ _ _ _ _ _ _ _ ((hcondE _).mpr h0) ((hcondF _).mpr h1) (blkV V c 0 ⟨0, pos0⟩) (blkV V c 1 ⟨0, pos0⟩) (blkV V c 2 ⟨0, pos0⟩) (blkV V c 3 ⟨0, pos0⟩) (blkV V c 4 ⟨0, pos0⟩) (blkV V c 5 ⟨0, pos0⟩) (blkV V c 6 ⟨0, pos0⟩)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := fun h => h1 (by rw [h])
    simp only [before_8 V c t.val t.isLt hz]
    by_cases h0 : t.val % 8 = 0
    · rw [run7_reset V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_reset c (grid0.coords t) _ _ _ _ _ _ _ _ _ _ _ _ _ _ _ _ _ _ ((hcondE t).mpr h0) (fun h => h1 ((hcondF t).mp h)) (blkV V c 0 t) (blkV V c 1 t) (blkV V c 2 t) (blkV V c 3 t) (blkV V c 4 t) (blkV V c 5 t) (blkV V c 6 t) (aux8 V c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply (leaves_8' V c t h1)
      iexact H8
    · rw [run7_step V c t h0]
      simp only [before_7 V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_step c (grid0.coords t) _ _ _ _ _ _ _ _ _ _ _ _ _ _ _ _ _ _ (fun h => h0 ((hcondE t).mp h)) (fun h => h1 ((hcondF t).mp h)) (blkV V c 0 t) (blkV V c 1 t) (blkV V c 2 t) (blkV V c 3 t) (blkV V c 4 t) (blkV V c 5 t) (blkV V c 6 t) _ (aux8 V c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply (leaves_8' V c t h1)
      iexact H8

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.MoeIdeal.Val

end
-- ==== Proof.MoeVal.lean ====
/-
  The mixture-of-experts region's two result arrays, as sums over the extended reals.
-/
module

public import proofs.«01_k».proof.Proof.MoeRun
public import Idealize.ShloMosaic.Lib.Pointwise

@[expose] public section

set_option maxRecDepth 16384

noncomputable section

namespace Cert.MoeIdeal.Val

open Cert.MoeIdeal Cert.MoeIdeal.Gen
open Idealize.ShloMosaic Idealize.ShloMosaic.TcCoe Idealize.SL.Sem
open Idealize.ShloMosaic.Pipeline (Dat)

/-- The hidden activation of token `t` in expert `e`: the first product's entry times its logistic. -/
def hid (X : FVec Ideal S2048x1024 .bf16) (W : FVec Ideal S8x1024x1024 .bf16) (e : Fin 8) (t : Fin 2048) (f : Fin 1024) : EReal :=
  (∑ k : Fin 1024, X (ix2 t k) * W (ix3 e k f)) * Ideal.logistic (∑ k : Fin 1024, X (ix2 t k) * W (ix3 e k f))

/-- Expert `e`'s weighted output for token `t` at column `d`. -/
def part (X : FVec Ideal S2048x1024 .bf16) (W W' : FVec Ideal S8x1024x1024 .bf16) (G : FVec Ideal S8x2048x1 .f32)
    (e : Fin 8) (t : Fin 2048) (d : Fin 1024) : EReal :=
  (∑ f : Fin 1024, hid X W e t f * W' (ix3 e f d)) * G (ix3 e t 0)

/-- The layer's result: the residual plus all experts' weighted outputs. -/
def moeOut (X : FVec Ideal S2048x1024 .bf16) (H : FVec Ideal S2048x1024 .f32) (W W' : FVec Ideal S8x1024x1024 .bf16) (G : FVec Ideal S8x2048x1 .f32) :
    FVec Ideal S2048x1024 .f32 :=
  fun y => H y + ∑ e : Fin 8, part X W W' G e (y 0) (y 1)

/-- The auxiliary loss row. -/
def auxOut (f p : FVec Ideal S1x128 .f32) : FVec Ideal S1x128 .f32 :=
  fun _ => Ideal.div (Ideal.ofBits FTy.f32 1090519040#32 * ∑ l : Fin 128, f (ix2 0 l) * p (ix2 0 l)) (Ideal.ofBits FTy.f32 1249902592#32)

theorem pay2_eq (f p : FVec Ideal S1x128 .f32) : k0_pay2 (F := Ideal) f p = auxOut f p := by
  funext y
  pointwise [k0_pay2, auxOut]
  simp only [Finset.univ_unique, Finset.sum_singleton]

/-- What one point adds to its tile's running block, from the point's blocks. -/
def addP (e : Fin 8) (x0 : FVec Ideal S256x1024 .bf16) (x2 x3 : FVec Ideal S8x1024x1024 .bf16) (x4 : FVec Ideal S1x256x1 .f32) (y : S256x1024.Idx) : EReal :=
  (∑ f : Fin 1024, ((∑ k : Fin 1024, x0 (ix2 (y 0) k) * x2 (ix3 e k f)) * Ideal.logistic (∑ k : Fin 1024, x0 (ix2 (y 0) k) * x2 (ix3 e k f))) * x3 (ix3 e f (y 1))) * x4 (ix3 0 (y 0) 0)

theorem step_at (i : grid0.Coords) (e : Fin 8) (he : (i 1).val = e.val) (x0 : FVec Ideal S256x1024 .bf16) (x2 x3 : FVec Ideal S8x1024x1024 .bf16)
    (x4 : FVec Ideal S1x256x1 .f32) (acc : FVec Ideal S256x1024 .f32) (r : Fin 256) (d : Fin 1024) :
   step (F := Ideal) i x0 x2 x3 x4 acc (ix2 r d) = acc (ix2 r d) + addP e x0 x2 x3 x4 (ix2 r d) := by
  have hv : BitVec.toNat (Scalar.indexCast (BitVec.ofNat 32 (i 1).val)) = e.val := by
    rw [he]
    exact (by decide : ∀ e : Fin 8, BitVec.toNat (Scalar.indexCast (BitVec.ofNat 32 e.val)) = e.val) e
  pointwise [step, k0_pay1, k0_off1, addP]
  simp only [hv]

theorem idx : ∀ t : Fin cfg0.N, win0_0.index t = ![t.val / 8, 0] ∧ win0_1.index t = ![t.val / 8, 0] ∧ win0_2.index t = ![0, 0, 0] ∧ win0_3.index t = ![0, 0, 0]
    ∧ win0_4.index t = ![t.val % 8, t.val / 8, 0] ∧ win0_5.index t = ![0, 0] ∧ win0_6.index t = ![0, 0] ∧ win0_7.index t = ![t.val / 8, 0] ∧ win0_8.index t = ![0, 0]
    ∧ (grid0.coords t 1).val = t.val % 8 :=
  (by decide +kernel : ∀ t : Fin grid0.N, _)

variable (V : (c : Dev nD) → (b : Ref sig .tc) → Buf (Elt Ideal) ((c : Thread nD τ).loc b))

/-- What one point adds to its tile's running block. -/
def add7 (c : Dev nD) (t : Fin cfg0.N) (y : S256x1024.Idx) : EReal :=
  addP ⟨t.val % 8, Nat.mod_lt _ (by decide)⟩ (blkV V c 0 t) (blkV V c 2 t) (blkV V c 3 t) (blkV V c 4 t) y

theorem step_add (c : Dev nD) (t : Fin cfg0.N) (acc : FVec Ideal S256x1024 .f32) (y : S256x1024.Idx) :
    step (F := Ideal) (grid0.coords t) (blkV V c 0 t) (blkV V c 2 t) (blkV V c 3 t) (blkV V c 4 t) acc y = acc y + add7 V c t y := by
  obtain ⟨r, d, rfl⟩ : ∃ (r : Fin 256) (d : Fin 1024), y = ix2 r d := ⟨y 0, y 1, eq_ix2 y⟩
  exact step_at (grid0.coords t) ⟨t.val % 8, Nat.mod_lt _ (by decide)⟩ (idx t).2.2.2.2.2.2.2.2.2 _ _ _ _ _ _ _

/-- A point's whole contribution: a tile's first point also brings in the residual block. -/
def term7 (c : Dev nD) (t : Fin cfg0.N) (y : S256x1024.Idx) : EReal :=
  if t.val % 8 = 0 then (show EReal from blkV V c 1 t y) + add7 V c t y else add7 V c t y

theorem run7_sum (c : Dev nD) (t : Fin cfg0.N) (hf : t.val % 8 = 8 - 1) (y : S256x1024.Idx) :
    (run7 V c t.val t.isLt : FVec Ideal S256x1024 .f32) y
      = (0 : EReal) + ∑ s : Fin 8, term7 V c ⟨8 * (t.val / 8) + s.val, Pipeline.run_point_lt_of_flush t hf s⟩ y := by
  refine Pipeline.eq_sum_fin_of_reset_step_apply_of_flush (M := EReal) (fun n h => run7 V c n h) 8 (fun _ => 0) (term7 V c) (fun t h y => ?_) (fun t h y => ?_) t hf y
  · show (run7 V c t.val t.isLt : FVec Ideal S256x1024 .f32) y = _
    rw [run7_reset V c t h]
    unfold term7
    rw [if_pos h, zero_add]
    exact step_add V c t _ y
  · show (run7 V c t.val t.isLt : FVec Ideal S256x1024 .f32) y = _
    rw [run7_step V c t h]
    unfold term7
    rw [if_neg h]
    exact step_add V c t _ y

/-- The token a tile row is. -/
def tok (t : Fin cfg0.N) (r : Fin 256) : Fin 2048 :=
  ⟨256 * (t.val / 8) + r.val, by have := t.isLt; have h : cfg0.N = 64 := N_0; omega⟩

theorem add7_eq (c : Dev nD) (t : Fin cfg0.N) (r : Fin 256) (d : Fin 1024) : add7 V c t (ix2 r d)
    = part (V c main_arg0) (V c main_v3) (V c main_v4) (V c main_v2) ⟨t.val % 8, Nat.mod_lt _ (by decide)⟩ (tok t r) d := by
  simp only [add7, addP, part, hid, tok]
  blk_point [blkV, idx t]

theorem blk1_eq (c : Dev nD) (t : Fin cfg0.N) (r : Fin 256) (d : Fin 1024) :
    (blkV V c 1 t : FVec Ideal S256x1024 .f32) (ix2 r d) = (V c main_arg1 : FVec Ideal S2048x1024 .f32) (ix2 (tok t r) d) := by
  simp only [tok]
  blk_point [blkV, idx t]

theorem blk5_eq (c : Dev nD) (t : Fin cfg0.N) : blkV V c 5 t = V c main_arg5 := by
  blk_ext! [blkV, idx t]
theorem blk6_eq (c : Dev nD) (t : Fin cfg0.N) : blkV V c 6 t = V c main_arg6 := by
  blk_ext! [blkV, idx t]

theorem run7_eq (c : Dev nD) (t : Fin cfg0.N) (hf : t.val % 8 = 8 - 1) (r : Fin 256) (d : Fin 1024) :
    (run7 V c t.val t.isLt : FVec Ideal S256x1024 .f32) (ix2 r d)
      = moeOut (V c main_arg0) (V c main_arg1) (V c main_v3) (V c main_v4) (V c main_v2) (ix2 (tok t r) d) := by
  rw [run7_sum V c t hf (ix2 r d), zero_add, Fin.sum_univ_succ]
  show _ = (show EReal from (V c main_arg1 : FVec Ideal S2048x1024 .f32) (ix2 (tok t r) d)) + ∑ e : Fin 8, part (V c main_arg0) (V c main_v3) (V c main_v4) (V c main_v2) e (tok t r) d
  rw [Fin.sum_univ_succ (f := fun e : Fin 8 => part (V c main_arg0) (V c main_v3) (V c main_v4) (V c main_v2) e (tok t r) d), ← add_assoc]
  have ht : ∀ s : Fin 8, tok ⟨8 * (t.val / 8) + s.val, Pipeline.run_point_lt_of_flush t hf s⟩ r = tok t r := fun s =>
    Fin.ext (by simp only [tok]; have := s.isLt; omega)
  have he : ∀ s : Fin 8, (⟨(8 * (t.val / 8) + s.val) % 8, Nat.mod_lt _ (by decide)⟩ : Fin 8) = s := fun s =>
    Fin.ext (by have := s.isLt; dsimp only; omega)
  have hz : ∀ s : Fin 8, (8 * (t.val / 8) + s.val) % 8 = s.val := fun s => by have := s.isLt; omega
  refine congrArg₂ (fun a b : EReal => a + b) ?_ (Finset.sum_congr rfl fun s _ => ?_)
  · unfold term7
    rw [if_pos (show (8 * (t.val / 8) + (0 : Fin 8).val) % 8 = 0 from hz 0), add7_eq, blk1_eq]
    simp only [ht, he]
  · unfold term7
    rw [if_neg (by rw [hz]; exact Nat.succ_ne_zero _), add7_eq]
    simp only [ht, he]

/-- The array of the layer's result after the region. -/
theorem final7 (c : Dev nD) : (dat V c).arrAt 7 cfg0.N
    = moeOut (V c main_arg0) (V c main_arg1) (V c main_v3) (V c main_v4) (V c main_v2) := by
  refine (dat V c).arrAt_eq_of_covers 7 _ (by decide +kernel) fun t hf y => ?_
  blk_simp
  rw [after_7]
  have h7 := (flush0_7 t).mp hf
  obtain ⟨r, d, rfl⟩ : ∃ (r : Fin 256) (d : Fin 1024), y = ix2 r d := ⟨y 0, y 1, eq_ix2 y⟩
  refine (run7_eq V c t h7 r d).trans (congrArg (moeOut (V c main_arg0) (V c main_arg1) (V c main_v3) (V c main_v4) (V c main_v2)) ?_)
  unfold tok
  blk_ext [idx t]

theorem final8 (c : Dev nD) : (dat V c).arrAt 8 cfg0.N = auxOut (V c main_arg5) (V c main_arg6) := by
  refine (dat V c).arrAt_eq_of_covers 8 _ (by decide +kernel) fun t hf y => ?_
  blk_simp
  rw [after_8]
  unfold aux8
  rw [pay2_eq, blk5_eq, blk6_eq]
  rfl

end Cert.MoeIdeal.Val
-- ==== Proof.MoeLaunch.lean ====
/-
  The mixture-of-experts program run from launch: its result arrays at the region's final contents, its arguments
  unchanged, its counters at zero.
-/
module

public import proofs.«01_k».proof.Proof.MoeVal

@[expose] public section

set_option maxRecDepth 16384

noncomputable section

namespace Cert.MoeIdeal.Val

open Cert.MoeIdeal Cert.MoeIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- The one pipeline's proof data over the launch memory. -/
abbrev dats (_ : Fin 1) (c : Dev nD) : Dat τ (Elt F) Unit ℕ (UR sig nD τ) ℕ cfg0 c := dat (V m) c

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation (V m) c).loose) (hshare := fun c => (dats m 0 c).share_full fun _ => rfl)
    (howed := fun _ _ => rfl) (V := V m) (hmain := hmain m Variants.none) (hA := A_eq (V m)) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq (V m)) (run_main m ρ)) ((θ_run defs _ _).mono (fun _ h => h.2) (run_main_quiescent m ρ))

end Cert.MoeIdeal.Val

end
-- ==== Proof.MoeClaim.lean ====
/-
  The mixture-of-experts layer against the layer's plain formula.
-/
module

public import proofs.«01_k».proof.Defs
public import proofs.«01_k».proof.Proof.Gen.MoeRefIdeal.Run
public import proofs.«01_k».proof.Proof.MoeLaunch
public import Idealize.ShloMosaic.Lib.Claim
public import Idealize.ShloMosaic.Lib.Pointwise

@[expose] public section

set_option maxRecDepth 16384

noncomputable section

namespace Cert.MoeIdeal.Val

open Cert.MoeIdeal Cert.MoeIdeal.Gen
open Idealize.ShloMosaic Idealize.ShloMosaic.TcCoe

/-- The layer's plain formula at a token and a column, from the arguments as passed. -/
def moeRef (X : FVec Ideal S2048x1024 .bf16) (H : FVec Ideal S2048x1024 .f32) (W W' : FVec Ideal S8x1024x1024 .f32) (C : FVec Ideal S2048x128 .f32)
    (t : Fin 2048) (d : Fin 1024) : EReal :=
  H (ix2 t d) + ∑ e : Fin 8, (∑ f : Fin 1024, hid X (fun i => W i) e t f * W' (ix3 e f d)) * C (ix2 t ⟨e.val, by omega⟩)

theorem hid_congr (X : FVec Ideal S2048x1024 .bf16) (W W' : FVec Ideal S8x1024x1024 .bf16) (e : Fin 8) (t : Fin 2048) (f : Fin 1024)
    (h : ∀ k : Fin 1024, W (ix3 e k f) = W' (ix3 e k f)) : hid X W e t f = hid X W' e t f := by
  simp only [hid, h]

section
variable (m : (ℓ : Loc nD τ sig) → Buf (Elt Ideal) ℓ)

theorem V_v3 (c : Dev nD) (i : S8x1024x1024.Idx) : (V m c main_v3 : FVec Ideal S8x1024x1024 .bf16) i = (m ((c : Thread nD τ).loc main_arg2) : FVec Ideal S8x1024x1024 .f32) i := by
  entry_read
  rfl

theorem V_v4 (c : Dev nD) (i : S8x1024x1024.Idx) : (V m c main_v4 : FVec Ideal S8x1024x1024 .bf16) i = (m ((c : Thread nD τ).loc main_arg3) : FVec Ideal S8x1024x1024 .f32) i := by
  entry_read
  rfl

theorem V_v2 (c : Dev nD) (e : Fin 8) (t : Fin 2048) : (V m c main_v2 : FVec Ideal S8x2048x1 .f32) (ix3 e t 0)
    = (m ((c : Thread nD τ).loc main_arg4) : FVec Ideal S2048x128 .f32) (ix2 t ⟨e.val, by omega⟩) := by
  entry_read
  pointwise

theorem moeOut_entry (c : Dev nD) (t : Fin 2048) (d : Fin 1024) :
    moeOut (V m c main_arg0) (V m c main_arg1) (V m c main_v3) (V m c main_v4) (V m c main_v2) (ix2 t d)
      = moeRef (m ((c : Thread nD τ).loc main_arg0)) (m ((c : Thread nD τ).loc main_arg1)) (m ((c : Thread nD τ).loc main_arg2)) (m ((c : Thread nD τ).loc main_arg3))
          (m ((c : Thread nD τ).loc main_arg4)) t d := by
  rw [V_main_arg0, V_main_arg1]
  refine Ideal.add_congr rfl (Finset.sum_congr rfl fun e _ => ?_)
  refine Ideal.mul_congr (Finset.sum_congr rfl fun f _ => Ideal.mul_congr ?_ (V_v4 m c _)) (V_v2 m c e t)
  exact hid_congr _ _ _ e t f fun k => V_v3 m c _
end

theorem ofBits_eight : Ideal.ofBits .f32 1090519040#32 = ((8 : ℝ) : EReal) := by
  simp [Ideal.ofBits, Ideal.ieee, -EReal.coe_mul]; norm_num
theorem ofBits_tokens : Ideal.ofBits .f32 1157627904#32 = ((2048 : ℝ) : EReal) := by
  simp [Ideal.ofBits, Ideal.ieee, -EReal.coe_mul]; norm_num
theorem ofBits_tokens_sq : Ideal.ofBits .f32 1249902592#32 = ((4194304 : ℝ) : EReal) := by
  simp [Ideal.ofBits, Ideal.ieee, -EReal.coe_mul]; norm_num

/-- A real factor enters a finite sum when the factor is not negative. -/
theorem coe_mul_sum {ι : Type} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih => rw [Finset.sum_insert ha, Finset.sum_insert ha, EReal.left_distrib_of_nonneg_of_ne_top (by exact_mod_cast hr) (EReal.coe_ne_top r), ih]

/-- The mean shares' product is the product of the sums over the squared token count. -/
theorem aux_eq (f p : FVec Ideal S1x128 .f32) (y : S1x128.Idx) : ((8 : ℝ) : EReal) * ∑ l : Fin 128, Ideal.div (f (ix2 0 l)) ((2048 : ℝ) : EReal) * Ideal.div (p (ix2 0 l)) ((2048 : ℝ) : EReal) = auxOut f p y := by
  unfold auxOut
  rw [ofBits_eight, ofBits_tokens_sq, Ideal.div_coe (by norm_num), mul_assoc]
  refine congrArg _ ?_
  rw [mul_comm _ ((1 / 4194304 : ℝ) : EReal)]
  refine Eq.trans ?_ (coe_mul_sum Finset.univ (1 / 4194304) (by norm_num) (fun l : Fin 128 => f (ix2 0 l) * p (ix2 0 l))).symm
  refine Finset.sum_congr rfl fun l _ => ?_
  rw [Ideal.div_coe (by norm_num), Ideal.div_coe (by norm_num),
    show ((1 / 4194304 : ℝ) : EReal) = ((1 / 2048 : ℝ) : EReal) * ((1 / 2048 : ℝ) : EReal) by rw [← EReal.coe_mul]; norm_num]
  ac_rfl

end Cert.MoeIdeal.Val

namespace Cert.Proof

open Idealize.ShloMosaic Idealize.SL.Sem

set_option maxHeartbeats 1600000 in
theorem quiescent_ref : Cert.quiescent_MoeRefIdeal := by
  intro m g _
  exact (θ_run Cert.MoeRefIdeal.defs _ _).mono (fun r h => ⟨fun c => (h c).2.2, Idealize.ShloMosaic.sem_eq_zero_of_no_sems (by decide) r.2⟩)
    (Cert.MoeRefIdeal.Value.run m g)

set_option maxHeartbeats 1600000 in
theorem algebraic_moe : Cert.algebraic_MoeIdeal_MoeRefIdeal := by
  pair_intro
  · run_from Cert.MoeIdeal.Val.run_main m g
  · run_from Cert.MoeRefIdeal.Value.run m' g'
    · rw [Cert.MoeIdeal.Val.final7]
      funext y
      idx_vars y
      refine Eq.trans ?_ (Cert.MoeIdeal.Val.moeOut_entry _ c y0 y1).symm
      pointwise [Cert.MoeIdeal.Val.hid, Cert.MoeIdeal.Val.moeRef]
      rw [add_comm]
      refine Ideal.add_congr rfl (Finset.sum_congr rfl fun e _ => Ideal.mul_congr (Finset.sum_congr rfl fun f _ => ?_) rfl)
      exact mul_comm _ _
    · rw [Cert.MoeIdeal.Val.final8, Cert.MoeIdeal.Gen.V_main_arg5, Cert.MoeIdeal.Gen.V_main_arg6]
      funext y
      pointwise
      rw [Cert.MoeIdeal.Val.ofBits_eight, Cert.MoeIdeal.Val.ofBits_tokens]
      simp only [Finset.univ_unique, Finset.sum_singleton]
      exact Cert.MoeIdeal.Val.aux_eq _ _ _

end Cert.Proof

end
-- ==== Proof.lean ====
/-
  The certificate's claim assembled.
-/
module

public import proofs.«01_k».proof.Defs
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvRefIdeal
public import proofs.«01_k».proof.Proof.Gen.QkvRefIdeal.Run
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterRefIdeal
public import proofs.«01_k».proof.Proof.Gen.RouterRefIdeal.Run
public import proofs.«01_k».proof.Proof.Gen.RouterRefIdeal.Read
public import proofs.«01_k».proof.Proof.Gen.Pre_untied
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Kernel.Regions
public import proofs.«01_k».proof.Proof.Gen.KernelIdeal.Regions
public import proofs.«01_k».proof.Proof.Gen.Pre_untied_block
public import proofs.«01_k».proof.Proof.Gen.RefIdeal.Run
public import proofs.«01_k».proof.Proof.Gen.RefIdeal.Read
public import proofs.«01_k».proof.Proof.RouterClaim
public import proofs.«01_k».proof.Proof.QkvClaim
public import proofs.«01_k».proof.Proof.KClaim
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.MoeRefIdeal.Run
public import proofs.«01_k».proof.Proof.MoeClaim
public import proofs.«01_k».proof.Proof.MoePLaunch
public import Idealize.ShloMosaic.Adequacy
public import Idealize.ShloMosaic.Init
public import Idealize.ShloMosaic.Lib.Claim
public import Idealize.ShloMosaic.Lib.Pointwise

@[expose] public section

set_option maxRecDepth 16384

noncomputable section

namespace Cert.Proof

open Idealize.ShloMosaic Idealize.SL.Sem

theorem claim : Cert.Claim := ⟨Cert.Kernel.Gen.facts, Cert.KernelIdeal.Gen.facts, Cert.RefIdeal.Gen.facts,
  Cert.Qkv.Gen.facts, Cert.QkvIdeal.Gen.facts, Cert.QkvRefIdeal.Gen.facts,
  Cert.Router.Gen.facts, Cert.RouterIdeal.Gen.facts, Cert.RouterRefIdeal.Gen.facts,
  Cert.Moe.Gen.facts, Cert.MoeIdeal.Gen.facts, Cert.MoeRefIdeal.Gen.facts, Cert.Pre_untied_block.Gen.facts, Cert.Pre_untied.Gen.facts,
  quiescent_whole_rounded, quiescent_whole, quiescent_whole_pre, quiescent_whole_ref, quiescent_whole_ref_pre,
  fun m ρ _ => Cert.Qkv.Gen.frame m ρ, fun m ρ _ => Cert.QkvIdeal.Gen.frame m ρ, quiescent_qkv_ref,
  fun m ρ _ => Cert.Router.Gen.frame m ρ, fun m ρ _ => Cert.RouterIdeal.Gen.frame m ρ, fun m ρ _ => Cert.RouterIdeal.Gen.frame m ρ,
  quiescent_router_ref, quiescent_router_ref_pre,
  fun m ρ _ => Cert.Moe.Val.frame m ρ, fun m ρ _ => Cert.MoeIdeal.Val.frame m ρ, quiescent_ref,
  preserves_whole, algebraic_whole, preserves_qkv, algebraic_qkv, preserves_router, algebraic_router, trivial, algebraic_moe⟩

end Cert.Proof

end
